-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v52_0)) (v1 : (c : Dev Cert.Kernel5Ideal.nD) → Buf (Elt Ideal) ((c.tc : Thread Cert.Kernel5Ideal.nD Cert.Kernel5Ideal.τ).loc Cert.Kernel5Ideal.main_v52_1)) (v2 : (c : Dev Cert.Kernel5Ideal.nD) → Buf (Elt Ideal) ((c.tc : Thread Cert.Kernel5Ideal.nD Cert.Kernel5Ideal.τ).loc Cert.Kernel5Ideal.main_v52_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v52_0) = v0 c
          ∧ r.2.mem ((c.tc : Thread Cert.Kernel5Ideal.nD Cert.Kernel5Ideal.τ).loc Cert.Kernel5Ideal.main_v52_1) = v1 c
          ∧ r.2.mem ((c.tc : Thread Cert.Kernel5Ideal.nD Cert.Kernel5Ideal.τ).loc Cert.Kernel5Ideal.main_v52_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v92) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v97) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qk.lean ====
abbrev S32x2048x8x96 : Shape := ⟨4, ![32, 2048, 8, 96]⟩
abbrev S32x2048x8x64 : Shape := ⟨4, ![32, 2048, 8, 64]⟩
abbrev S_ : Shape := ⟨0, ![]⟩

class Facts : Prop where
  bcast_S_S32x2048x8x96 : S_.BroadcastsInDim S32x2048x8x96 (![] : Fin 0 → Fin S32x2048x8x96.rank)

variable [Facts]

def fn {F : FTy → Type} [FloatOps F] (main_arg0 : FVec F S32x2048x8x96 .f32) (main_arg1 : FVec F S32x2048x8x96 .f32) (main_arg2 : FVec F S32x2048x8x64 .f32) : IVec S32x2048x8x96 1 :=
  let main_v0 : FVec F S32x2048x8x96 .f32 := Host.absf main_arg0
  let main_cst : FVec F S_ .f32 := constant S_ .f32 0x7F800000#32
  let main_v1 : FVec F S32x2048x8x96 .f32 := broadcastInDim S32x2048x8x96 ![] bcast_S_S32x2048x8x96 main_cst
  let main_v2 : IVec S32x2048x8x96 1 := cmpf .olt main_v0 main_v1
  let main_v3 : FVec F S32x2048x8x96 .f32 := Host.absf main_arg1
  let main_cst_0 : FVec F S_ .f32 := constant S_ .f32 0x7F800000#32
  let main_v4 : FVec F S32x2048x8x96 .f32 := broadcastInDim S32x2048x8x96 ![] bcast_S_S32x2048x8x96 main_cst_0
  let main_v5 : IVec S32x2048x8x96 1 := cmpf .olt main_v3 main_v4
  let main_v6 : IVec S32x2048x8x96 1 := andi main_v2 main_v5
  main_v6
-- ==== Kernel.lean ====
abbrev S32x2048x8x96 : Shape := ⟨4, ![32, 2048, 8, 96]⟩
abbrev S32x2048x8x64 : Shape := ⟨4, ![32, 2048, 8, 64]⟩
abbrev S_ : Shape := ⟨0, ![]⟩
abbrev S32x8x96x2048 : Shape := ⟨4, ![32, 8, 96, 2048]⟩
abbrev S32x8x128x2048 : Shape := ⟨4, ![32, 8, 128, 2048]⟩
abbrev S32x1024x2048 : Shape := ⟨3, ![32, 1024, 2048]⟩
abbrev S32x2048x8x128 : Shape := ⟨4, ![32, 2048, 8, 128]⟩
abbrev S65536x1024 : Shape := ⟨2, ![65536, 1024]⟩
abbrev S32x2048x8x1 : Shape := ⟨4, ![32, 2048, 8, 1]⟩
abbrev S32x2048x8x65 : Shape := ⟨4, ![32, 2048, 8, 65]⟩
abbrev S32x2048x8x80 : Shape := ⟨4, ![32, 2048, 8, 80]⟩
abbrev S32x4x512x640 : Shape := ⟨4, ![32, 4, 512, 640]⟩
abbrev S32x4x640x512 : Shape := ⟨4, ![32, 4, 640, 512]⟩
abbrev S65536x512 : Shape := ⟨2, ![65536, 512]⟩
abbrev S1x1024x512 : Shape := ⟨3, ![1, 1024, 512]⟩
abbrev S2048x1024 : Shape := ⟨2, ![2048, 1024]⟩
abbrev S1x4x640x512 : Shape := ⟨4, ![1, 4, 640, 512]⟩
abbrev S512x512 : Shape := ⟨2, ![512, 512]⟩
abbrev S2x8x512x512 : Shape := ⟨4, ![2, 8, 512, 512]⟩
abbrev S1x128x512 : Shape := ⟨3, ![1, 128, 512]⟩
abbrev S128x512 : Shape := ⟨2, ![128, 512]⟩
abbrev S512x128 : Shape := ⟨2, ![512, 128]⟩
abbrev S1x1x512x512 : Shape := ⟨4, ![1, 1, 512, 512]⟩
abbrev S80x512 : Shape := ⟨2, ![80, 512]⟩
abbrev S1x512 : Shape := ⟨2, ![1, 512]⟩
abbrev S512 : Shape := ⟨1, ![512]⟩
abbrev S1x1x80x512 : Shape := ⟨4, ![1, 1, 80, 512]⟩
abbrev S80x256 : Shape := ⟨2, ![80, 256]⟩
abbrev S256x512 : Shape := ⟨2, ![256, 512]⟩
abbrev S64x512 : Shape := ⟨2, ![64, 512]⟩

abbrev nBuf : Space → Nat
  | .hbm => 33
  | .vmem => 10
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32x2048x8x96, .f32⟩
  | .hbm, ⟨11, _⟩ => ⟨S32x2048x8x96, .f32⟩
  | .hbm, ⟨12, _⟩ => ⟨S32x8x96x2048, .f32⟩
  | .hbm, ⟨13, _⟩ => ⟨S_, .i32⟩
  | .hbm, ⟨14, _⟩ => ⟨S_, .f32⟩
  | .hbm, ⟨15, _⟩ => ⟨S32x8x128x2048, .f32⟩
  | .hbm, ⟨16, _⟩ => ⟨S32x1024x2048, .f32⟩
  | .hbm, ⟨17, _⟩ => ⟨S32x1024x2048, .bf16⟩
  | .hbm, ⟨18, _⟩ => ⟨S_, .i32⟩
  | .hbm, ⟨19, _⟩ => ⟨S_, .f32⟩
  | .hbm, ⟨20, _⟩ => ⟨S32x2048x8x128, .f32⟩
  | .hbm, ⟨21, _⟩ => ⟨S65536x1024, .f32⟩
  | .hbm, ⟨22, _⟩ => ⟨S65536x1024, .bf16⟩
  | .hbm, ⟨23, _⟩ => ⟨S_, .f32⟩
  | .hbm, ⟨24, _⟩ => ⟨S32x2048x8x1, .f32⟩
  | .hbm, ⟨25, _⟩ => ⟨S32x2048x8x65, .f32⟩
  | .hbm, ⟨26, _⟩ => ⟨S_, .i32⟩
  | .hbm, ⟨27, _⟩ => ⟨S_, .f32⟩
  | .hbm, ⟨28, _⟩ => ⟨S32x2048x8x80, .f32⟩
  | .hbm, ⟨29, _⟩ => ⟨S32x4x512x640, .f32⟩
  | .hbm, ⟨30, _⟩ => ⟨S32x4x640x512, .f32⟩
  | .hbm, ⟨31, _⟩ => ⟨S32x4x640x512, .bf16⟩
  | .hbm, ⟨32, _⟩ => ⟨S65536x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x4x640x512, .bf16⟩
  | .local _ .vmem, ⟨5, _⟩ => ⟨S1x4x640x512, .bf16⟩
  | .local _ .vmem, ⟨6, _⟩ => ⟨S512x512, .bf16⟩
  | .local _ .vmem, ⟨7, _⟩ => ⟨S512x512, .bf16⟩
  | .local _ .vmem, ⟨8, _⟩ => ⟨S2x8x512x512, .f32⟩
  | .local _ .vmem, ⟨9, _⟩ => ⟨S2x8x512x512, .bf16⟩
  | _, _ => ⟨S32x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_call2_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 4], ![false, false, false]⟩

def k0_mult1 (i : grid0.Coords) : BitVec 32 :=
  let arg2 : BitVec 32 := BitVec.ofNat 32 (i 2).val
  let c512_i32 : BitVec 32 := 512#32
  let v19 : BitVec 32 := Scalar.muli arg2 c512_i32
  v19
def k0_off1 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v21 : Index := Scalar.indexCast v20
  let c0_16 : Index := 0#32
  ![v21.toNat, 0]
def k0_off2 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v28 : Index := Scalar.indexCast v20
  let c128_20 : Index := 128#32
  ![v28.toNat, 128]
def k0_off3 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v35 : Index := Scalar.indexCast v20
  let c256_26 : Index := 256#32
  ![v35.toNat, 256]
def k0_off4 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v42 : Index := Scalar.indexCast v20
  let c384_31 : Index := 384#32
  ![v42.toNat, 384]
def k0_off5 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v49 : Index := Scalar.indexCast v20
  let c512_36 : Index := 512#32
  ![v49.toNat, 512]
def k0_off6 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v56 : Index := Scalar.indexCast v20
  let c640_41 : Index := 640#32
  ![v56.toNat, 640]
def k0_off7 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v63 : Index := Scalar.indexCast v20
  let c768_46 : Index := 768#32
  ![v63.toNat, 768]
def k0_off8 (i : grid0.Coords) : Fin 2 → Nat :=
  let arg2 : BitVec 32 := BitVec.ofNat 32 (i 2).val
  let c512_i32 : BitVec 32 := 512#32
  let v19 : BitVec 32 := Scalar.muli arg2 c512_i32
  let v20 : BitVec 32 := v19
  let v70 : Index := Scalar.indexCast v20
  let c896_51 : Index := 896#32
  ![v70.toNat, 896]
def k0_mult2 : BitVec 32 :=
  let c0_i32 : BitVec 32 := 0#32
  c0_i32
@[reducible] def k0_t1_loop (i : grid0.Coords) : Scf.Loop 32 :=
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_200 : BitVec 32 := 1#32
  ⟨c0_i32_198, v316, c1_i32_200⟩
def k0_mult3 (i : grid0.Coords) (k0_t1 : Fin (k0_t1_loop i).trips) : BitVec 32 :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let c1_i32_229 : BitVec 32 := 1#32
  let v367 : BitVec 32 := Scalar.addi v366 c1_i32_229
  let c512_i32_230 : BitVec 32 := 512#32
  let v368 : BitVec 32 := Scalar.muli v367 c512_i32_230
  v368
def k0_off9 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v370 : Index := Scalar.indexCast v369
  let c0_231 : Index := 0#32
  ![v370.toNat, 0]
def k0_off10 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v377 : Index := Scalar.indexCast v369
  let c128_237 : Index := 128#32
  ![v377.toNat, 128]
def k0_off11 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v384 : Index := Scalar.indexCast v369
  let c256_243 : Index := 256#32
  ![v384.toNat, 256]
def k0_off12 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v391 : Index := Scalar.indexCast v369
  let c384_249 : Index := 384#32
  ![v391.toNat, 384]
def k0_off13 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v398 : Index := Scalar.indexCast v369
  let c512_255 : Index := 512#32
  ![v398.toNat, 512]
def k0_off14 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v405 : Index := Scalar.indexCast v369
  let c640_261 : Index := 640#32
  ![v405.toNat, 640]
def k0_off15 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v412 : Index := Scalar.indexCast v369
  let c768_267 : Index := 768#32
  ![v412.toNat, 768]
def k0_off16 (i : grid0.Coords) (k0_t1 : Fin (k0_t1_loop i).trips) (c1_i32_229 : BitVec 32) : Fin 2 → Nat :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v419 : Index := Scalar.indexCast v369
  let c896_273 : Index := 896#32
  ![v419.toNat, 896]
def k0_off17 (i : grid0.Coords) (k0_t1 : Fin (k0_t1_loop i).trips) : Fin 4 → Nat :=
  let c0_313 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v445 : Index := Scalar.indexCast v428
  let c0_314 : Index := 0#32
  let c0_315 : Index := 0#32
  ![0, v445.toNat, 0, 0]
def k0_off18 (i : grid0.Coords) (k0_t1 : Fin (k0_t1_loop i).trips) : Fin 4 → Nat :=
  let c0_319 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v457 : Index := Scalar.indexCast v428
  let c80 : Index := 80#32
  let c0_320 : Index := 0#32
  ![0, v457.toNat, 80, 0]
def k0_off19 (i : grid0.Coords) (k0_t1 : Fin (k0_t1_loop i).trips) : Fin 4 → Nat :=
  let c0_324 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v469 : Index := Scalar.indexCast v428
  let c160 : Index := 160#32
  let c0_325 : Index := 0#32
  ![0, v469.toNat, 160, 0]
def k0_off20 (i : grid0.Coords) (k0_t1 : Fin (k0_t1_loop i).trips) : Fin 4 → Nat :=
  let c0_329 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v481 : Index := Scalar.indexCast v428
  let c240 : Index := 240#32
  let c0_330 : Index := 0#32
  ![0, v481.toNat, 240, 0]
def k0_off21 (i : grid0.Coords) (k0_t1 : Fin (k0_t1_loop i).trips) : Fin 4 → Nat :=
  let c0_334 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v493 : Index := Scalar.indexCast v428
  let c320 : Index := 320#32
  let c0_335 : Index := 0#32
  ![0, v493.toNat, 320, 0]
def k0_off22 (i : grid0.Coords) (k0_t1 : Fin (k0_t1_loop i).trips) : Fin 4 → Nat :=
  let c0_339 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v505 : Index := Scalar.indexCast v428
  let c400 : Index := 400#32
  let c0_340 : Index := 0#32
  ![0, v505.toNat, 400, 0]
def k0_off23 (i : grid0.Coords) (k0_t1 : Fin (k0_t1_loop i).trips) : Fin 4 → Nat :=
  let c0_344 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v517 : Index := Scalar.indexCast v428
  let c480 : Index := 480#32
  let c0_345 : Index := 0#32
  ![0, v517.toNat, 480, 0]
def k0_off24 (i : grid0.Coords) (k0_t1 : Fin (k0_t1_loop i).trips) : Fin 4 → Nat :=
  let c0_349 : Index := 0#32
  let c0_i32_198 : BitVec 32 := 0#32
  let c1_i32_200 : BitVec 32 := 1#32
  let arg9 : BitVec 32 := Scf.iv c0_i32_198 c1_i32_200 k0_t1
  let c0_i32_279 : BitVec 32 := 0#32
  let v426 : BitVec 1 := Scalar.cmpi .eq arg9 c0_i32_279
  let arg2 : BitVec 32 := BitVec.ofNat 32 (i 2).val
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v529 : Index := Scalar.indexCast v428
  let c560 : Index := 560#32
  let c0_350 : Index := 0#32
  ![0, v529.toNat, 560, 0]
def k0_mult4 (i : grid0.Coords) (k0_t1 : Fin (k0_t1_loop i).trips) : BitVec 32 :=
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let c2_i32_426 : BitVec 32 := 2#32
  let v677 : BitVec 32 := Scalar.addi v366 c2_i32_426
  let c512_i32_427 : BitVec 32 := 512#32
  let v678 : BitVec 32 := Scalar.muli v677 c512_i32_427
  v678
def k0_off25 (i : grid0.Coords) (k0_t1 : Fin (k0_t1_loop i).trips) : Fin 4 → Nat :=
  let c0_508 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v752 : Index := Scalar.indexCast v366
  let c0_509 : Index := 0#32
  let c0_510 : Index := 0#32
  ![0, v752.toNat, 0, 0]
def k0_off26 (i : grid0.Coords) (k0_t1 : Fin (k0_t1_loop i).trips) : Fin 4 → Nat :=
  let c0_514 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v764 : Index := Scalar.indexCast v366
  let c80_515 : Index := 80#32
  let c0_516 : Index := 0#32
  ![0, v764.toNat, 80, 0]
def k0_off27 (i : grid0.Coords) (k0_t1 : Fin (k0_t1_loop i).trips) : Fin 4 → Nat :=
  let c0_520 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v776 : Index := Scalar.indexCast v366
  let c160_521 : Index := 160#32
  let c0_522 : Index := 0#32
  ![0, v776.toNat, 160, 0]
def k0_off28 (i : grid0.Coords) (k0_t1 : Fin (k0_t1_loop i).trips) : Fin 4 → Nat :=
  let c0_526 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v788 : Index := Scalar.indexCast v366
  let c240_527 : Index := 240#32
  let c0_528 : Index := 0#32
  ![0, v788.toNat, 240, 0]
def k0_off29 (i : grid0.Coords) (k0_t1 : Fin (k0_t1_loop i).trips) : Fin 4 → Nat :=
  let c0_532 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v800 : Index := Scalar.indexCast v366
  let c320_533 : Index := 320#32
  let c0_534 : Index := 0#32
  ![0, v800.toNat, 320, 0]
def k0_off30 (i : grid0.Coords) (k0_t1 : Fin (k0_t1_loop i).trips) : Fin 4 → Nat :=
  let c0_538 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v812 : Index := Scalar.indexCast v366
  let c400_539 : Index := 400#32
  let c0_540 : Index := 0#32
  ![0, v812.toNat, 400, 0]
def k0_off31 (i : grid0.Coords) (k0_t1 : Fin (k0_t1_loop i).trips) : Fin 4 → Nat :=
  let c0_544 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v824 : Index := Scalar.indexCast v366
  let c480_545 : Index := 480#32
  let c0_546 : Index := 0#32
  ![0, v824.toNat, 480, 0]
def k0_off32 (i : grid0.Coords) (k0_t1 : Fin (k0_t1_loop i).trips) : Fin 4 → Nat :=
  let c0_550 : Index := 0#32
  let c2_i32_228 : BitVec 32 := 2#32
  let c0_i32_198 : BitVec 32 := 0#32
  let c1_i32_200 : BitVec 32 := 1#32
  let arg9 : BitVec 32 := Scf.iv c0_i32_198 c1_i32_200 k0_t1
  let v366 : BitVec 32 := Scalar.muli c2_i32_228 arg9
  let v836 : Index := Scalar.indexCast v366
  let c560_551 : Index := 560#32
  let c0_552 : Index := 0#32
  ![0, v836.toNat, 560, 0]
@[reducible] def k0_t2_loop (i : grid0.Coords) : Scf.Loop 32 :=
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let v313 : BitVec 32 := Scalar.addi c0_i32_198 v312
  let c1_i32_201 : BitVec 32 := 1#32
  ⟨v316, v313, c1_i32_201⟩
def k0_mult5 (i : grid0.Coords) (k0_t2 : Fin (k0_t2_loop i).trips) : BitVec 32 :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let c1_i32_229 : BitVec 32 := 1#32
  let v367 : BitVec 32 := Scalar.addi v366 c1_i32_229
  let c512_i32_230 : BitVec 32 := 512#32
  let v368 : BitVec 32 := Scalar.muli v367 c512_i32_230
  v368
def k0_off33 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v370 : Index := Scalar.indexCast v369
  let c0_231 : Index := 0#32
  ![v370.toNat, 0]
def k0_off34 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v377 : Index := Scalar.indexCast v369
  let c128_237 : Index := 128#32
  ![v377.toNat, 128]
def k0_off35 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v384 : Index := Scalar.indexCast v369
  let c256_243 : Index := 256#32
  ![v384.toNat, 256]
def k0_off36 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v391 : Index := Scalar.indexCast v369
  let c384_249 : Index := 384#32
  ![v391.toNat, 384]
def k0_off37 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v398 : Index := Scalar.indexCast v369
  let c512_255 : Index := 512#32
  ![v398.toNat, 512]
def k0_off38 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v405 : Index := Scalar.indexCast v369
  let c640_261 : Index := 640#32
  ![v405.toNat, 640]
def k0_off39 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v412 : Index := Scalar.indexCast v369
  let c768_267 : Index := 768#32
  ![v412.toNat, 768]
def k0_off40 (i : grid0.Coords) (k0_t2 : Fin (k0_t2_loop i).trips) (c1_i32_229 : BitVec 32) : Fin 2 → Nat :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v367 : BitVec 32 := Scalar.addi v366 c1_i32_229
  let c512_i32_230 : BitVec 32 := 512#32
  let v368 : BitVec 32 := Scalar.muli v367 c512_i32_230
  let v369 : BitVec 32 := v368
  let v419 : Index := Scalar.indexCast v369
  let c896_273 : Index := 896#32
  ![v419.toNat, 896]
def k0_off41 (i : grid0.Coords) (k0_t2 : Fin (k0_t2_loop i).trips) : Fin 4 → Nat :=
  let c0_313 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v445 : Index := Scalar.indexCast v428
  let c0_314 : Index := 0#32
  let c0_315 : Index := 0#32
  ![0, v445.toNat, 0, 0]
def k0_off42 (i : grid0.Coords) (k0_t2 : Fin (k0_t2_loop i).trips) : Fin 4 → Nat :=
  let c0_319 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v457 : Index := Scalar.indexCast v428
  let c80 : Index := 80#32
  let c0_320 : Index := 0#32
  ![0, v457.toNat, 80, 0]
def k0_off43 (i : grid0.Coords) (k0_t2 : Fin (k0_t2_loop i).trips) : Fin 4 → Nat :=
  let c0_324 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v469 : Index := Scalar.indexCast v428
  let c160 : Index := 160#32
  let c0_325 : Index := 0#32
  ![0, v469.toNat, 160, 0]
def k0_off44 (i : grid0.Coords) (k0_t2 : Fin (k0_t2_loop i).trips) : Fin 4 → Nat :=
  let c0_329 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v481 : Index := Scalar.indexCast v428
  let c240 : Index := 240#32
  let c0_330 : Index := 0#32
  ![0, v481.toNat, 240, 0]
def k0_off45 (i : grid0.Coords) (k0_t2 : Fin (k0_t2_loop i).trips) : Fin 4 → Nat :=
  let c0_334 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v493 : Index := Scalar.indexCast v428
  let c320 : Index := 320#32
  let c0_335 : Index := 0#32
  ![0, v493.toNat, 320, 0]
def k0_off46 (i : grid0.Coords) (k0_t2 : Fin (k0_t2_loop i).trips) : Fin 4 → Nat :=
  let c0_339 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v505 : Index := Scalar.indexCast v428
  let c400 : Index := 400#32
  let c0_340 : Index := 0#32
  ![0, v505.toNat, 400, 0]
def k0_off47 (i : grid0.Coords) (k0_t2 : Fin (k0_t2_loop i).trips) : Fin 4 → Nat :=
  let c0_344 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v517 : Index := Scalar.indexCast v428
  let c480 : Index := 480#32
  let c0_345 : Index := 0#32
  ![0, v517.toNat, 480, 0]
def k0_off48 (i : grid0.Coords) (k0_t2 : Fin (k0_t2_loop i).trips) : Fin 4 → Nat :=
  let c0_349 : Index := 0#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let c0_i32_279 : BitVec 32 := 0#32
  let v426 : BitVec 1 := Scalar.cmpi .eq arg9 c0_i32_279
  let c2_i32_228 : BitVec 32 := 2#32
  let v366 : BitVec 32 := Scalar.muli c2_i32_228 arg9
  let c1_i32_280 : BitVec 32 := 1#32
  let v427 : BitVec 32 := Scalar.subi v366 c1_i32_280
  let v428 : BitVec 32 := Scalar.select v426 arg2 v427
  let v529 : Index := Scalar.indexCast v428
  let c560 : Index := 560#32
  let c0_350 : Index := 0#32
  ![0, v529.toNat, 560, 0]
def k0_mult6 (i : grid0.Coords) (k0_t2 : Fin (k0_t2_loop i).trips) : BitVec 32 :=
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let c2_i32_426 : BitVec 32 := 2#32
  let v677 : BitVec 32 := Scalar.addi v366 c2_i32_426
  let c512_i32_427 : BitVec 32 := 512#32
  let v678 : BitVec 32 := Scalar.muli v677 c512_i32_427
  v678
def k0_off49 (i : grid0.Coords) (k0_t2 : Fin (k0_t2_loop i).trips) : Fin 4 → Nat :=
  let c0_508 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v752 : Index := Scalar.indexCast v366
  let c0_509 : Index := 0#32
  let c0_510 : Index := 0#32
  ![0, v752.toNat, 0, 0]
def k0_off50 (i : grid0.Coords) (k0_t2 : Fin (k0_t2_loop i).trips) : Fin 4 → Nat :=
  let c0_514 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v764 : Index := Scalar.indexCast v366
  let c80_515 : Index := 80#32
  let c0_516 : Index := 0#32
  ![0, v764.toNat, 80, 0]
def k0_off51 (i : grid0.Coords) (k0_t2 : Fin (k0_t2_loop i).trips) : Fin 4 → Nat :=
  let c0_520 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v776 : Index := Scalar.indexCast v366
  let c160_521 : Index := 160#32
  let c0_522 : Index := 0#32
  ![0, v776.toNat, 160, 0]
def k0_off52 (i : grid0.Coords) (k0_t2 : Fin (k0_t2_loop i).trips) : Fin 4 → Nat :=
  let c0_526 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v788 : Index := Scalar.indexCast v366
  let c240_527 : Index := 240#32
  let c0_528 : Index := 0#32
  ![0, v788.toNat, 240, 0]
def k0_off53 (i : grid0.Coords) (k0_t2 : Fin (k0_t2_loop i).trips) : Fin 4 → Nat :=
  let c0_532 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v800 : Index := Scalar.indexCast v366
  let c320_533 : Index := 320#32
  let c0_534 : Index := 0#32
  ![0, v800.toNat, 320, 0]
def k0_off54 (i : grid0.Coords) (k0_t2 : Fin (k0_t2_loop i).trips) : Fin 4 → Nat :=
  let c0_538 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v812 : Index := Scalar.indexCast v366
  let c400_539 : Index := 400#32
  let c0_540 : Index := 0#32
  ![0, v812.toNat, 400, 0]
def k0_off55 (i : grid0.Coords) (k0_t2 : Fin (k0_t2_loop i).trips) : Fin 4 → Nat :=
  let c0_544 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v824 : Index := Scalar.indexCast v366
  let c480_545 : Index := 480#32
  let c0_546 : Index := 0#32
  ![0, v824.toNat, 480, 0]
def k0_off56 (i : grid0.Coords) (k0_t2 : Fin (k0_t2_loop i).trips) : Fin 4 → Nat :=
  let c0_550 : Index := 0#32
  let c2_i32_228 : BitVec 32 := 2#32
  let c0_i32_198 : BitVec 32 := 0#32
  let arg2 : BitVec 32 := BitVec.ofNat 32 (i 2).val
  let c0_i32_193 : BitVec 32 := 0#32
  let v296 : BitVec 1 := Scalar.cmpi .sgt arg2 c0_i32_193
  let v297 : BitVec 32 := Scalar.extui v296
  let c0_i32_194 : BitVec 32 := 0#32
  let v298 : BitVec 1 := Scalar.cmpi .slt arg2 c0_i32_194
  let v299 : BitVec 32 := Scalar.extui v298
  let v300 : BitVec 32 := Scalar.subi v297 v299
  let c2_i32 : BitVec 32 := 2#32
  let c0_i32_195 : BitVec 32 := 0#32
  let v301 : BitVec 1 := Scalar.cmpi .sgt c2_i32 c0_i32_195
  let v302 : BitVec 32 := Scalar.extui v301
  let c0_i32_196 : BitVec 32 := 0#32
  let v303 : BitVec 1 := Scalar.cmpi .slt c2_i32 c0_i32_196
  let v304 : BitVec 32 := Scalar.extui v303
  let v305 : BitVec 32 := Scalar.subi v302 v304
  let v306 : BitVec 1 := Scalar.cmpi .ne v300 v305
  let v307 : BitVec 32 := Scalar.remsi arg2 c2_i32
  let c0_i32_197 : BitVec 32 := 0#32
  let v308 : BitVec 1 := Scalar.cmpi .ne v307 c0_i32_197
  let v309 : BitVec 1 := Scalar.andi v306 v308
  let v295 : BitVec 32 := Scalar.divsi arg2 c2_i32
  let c1_i32 : BitVec 32 := 1#32
  let v310 : BitVec 32 := Scalar.subi v295 c1_i32
  let v311 : BitVec 32 := Scalar.select v309 v310 v295
  let v312 : BitVec 32 := Scalar.subi v311 c0_i32_198
  let c1_i32_199 : BitVec 32 := 1#32
  let v314 : BitVec 32 := Scalar.divsi v312 c1_i32_199
  let v315 : BitVec 32 := Scalar.muli v314 c1_i32_199
  let v316 : BitVec 32 := Scalar.addi c0_i32_198 v315
  let c1_i32_201 : BitVec 32 := 1#32
  let arg9 : BitVec 32 := Scf.iv v316 c1_i32_201 k0_t2
  let v366 : BitVec 32 := Scalar.muli c2_i32_228 arg9
  let v836 : Index := Scalar.indexCast v366
  let c560_551 : Index := 560#32
  let c0_552 : Index := 0#32
  ![0, v836.toNat, 560, 0]
def k0_cond1 (i : grid0.Coords) : BitVec 1 :=
  let arg2 : BitVec 32 := BitVec.ofNat 32 (i 2).val
  let c2_i32_212 : BitVec 32 := 2#32
  let c0_i32_213 : BitVec 32 := 0#32
  let v340 : BitVec 1 := Scalar.cmpi .eq c2_i32_212 c0_i32_213
  let c1_i32_214 : BitVec 32 := 1#32
  let v341 : BitVec 32 := Scalar.select v340 c1_i32_214 c2_i32_212
  let v342 : BitVec 32 := Scalar.remsi arg2 v341
  let c0_i32_216 : BitVec 32 := 0#32
  let v344 : BitVec 1 := Scalar.cmpi .slt v342 c0_i32_216
  let c0_i32_217 : BitVec 32 := 0#32
  let v345 : BitVec 1 := Scalar.cmpi .slt v341 c0_i32_217
  let v346 : BitVec 1 := Scalar.xori v344 v345
  let c0_i32_215 : BitVec 32 := 0#32
  let v343 : BitVec 1 := Scalar.cmpi .ne v342 c0_i32_215
  let v347 : BitVec 1 := Scalar.andi v346 v343
  let v348 : BitVec 32 := Scalar.addi v342 v341
  let v349 : BitVec 32 := Scalar.select v347 v348 v342
  let c0_i32_218 : BitVec 32 := 0#32
  let v350 : BitVec 1 := Scalar.cmpi .eq v349 c0_i32_218
  let v351 : BitVec 32 := Scalar.extui v350
  let c0_i32_219 : BitVec 32 := 0#32
  let v352 : BitVec 1 := Scalar.cmpi .ne v351 c0_i32_219
  v352

def k0_off57 (i : grid0.Coords) : Fin 4 → Nat :=
  let c0_260 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v382 : Index := Scalar.indexCast v339
  let c0_261 : Index := 0#32
  let c0_262 : Index := 0#32
  ![0, v382.toNat, 0, 0]
def k0_off58 (i : grid0.Coords) : Fin 4 → Nat :=
  let c0_266 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v394 : Index := Scalar.indexCast v339
  let c80 : Index := 80#32
  let c0_267 : Index := 0#32
  ![0, v394.toNat, 80, 0]
def k0_off59 (i : grid0.Coords) : Fin 4 → Nat :=
  let c0_271 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v406 : Index := Scalar.indexCast v339
  let c160 : Index := 160#32
  let c0_272 : Index := 0#32
  ![0, v406.toNat, 160, 0]
def k0_off60 (i : grid0.Coords) : Fin 4 → Nat :=
  let c0_276 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v418 : Index := Scalar.indexCast v339
  let c240 : Index := 240#32
  let c0_277 : Index := 0#32
  ![0, v418.toNat, 240, 0]
def k0_off61 (i : grid0.Coords) : Fin 4 → Nat :=
  let c0_281 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v430 : Index := Scalar.indexCast v339
  let c320 : Index := 320#32
  let c0_282 : Index := 0#32
  ![0, v430.toNat, 320, 0]
def k0_off62 (i : grid0.Coords) : Fin 4 → Nat :=
  let c0_286 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v442 : Index := Scalar.indexCast v339
  let c400 : Index := 400#32
  let c0_287 : Index := 0#32
  ![0, v442.toNat, 400, 0]
def k0_off63 (i : grid0.Coords) : Fin 4 → Nat :=
  let c0_291 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v454 : Index := Scalar.indexCast v339
  let c480 : Index := 480#32
  let c0_292 : Index := 0#32
  ![0, v454.toNat, 480, 0]
def k0_off64 (i : grid0.Coords) : Fin 4 → Nat :=
  let c0_296 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v466 : Index := Scalar.indexCast v339
  let c560 : Index := 560#32
  let c0_297 : Index := 0#32
  ![0, v466.toNat, 560, 0]
def k0_cond2 (i : grid0.Coords) : BitVec 1 :=
  let arg2 : BitVec 32 := BitVec.ofNat 32 (i 2).val
  let c2_i32_220 : BitVec 32 := 2#32
  let c0_i32_221 : BitVec 32 := 0#32
  let v353 : BitVec 1 := Scalar.cmpi .eq c2_i32_220 c0_i32_221
  let c1_i32_222 : BitVec 32 := 1#32
  let v354 : BitVec 32 := Scalar.select v353 c1_i32_222 c2_i32_220
  let v355 : BitVec 32 := Scalar.remsi arg2 v354
  let c0_i32_224 : BitVec 32 := 0#32
  let v357 : BitVec 1 := Scalar.cmpi .slt v355 c0_i32_224
  let c0_i32_225 : BitVec 32 := 0#32
  let v358 : BitVec 1 := Scalar.cmpi .slt v354 c0_i32_225
  let v359 : BitVec 1 := Scalar.xori v357 v358
  let c0_i32_223 : BitVec 32 := 0#32
  let v356 : BitVec 1 := Scalar.cmpi .ne v355 c0_i32_223
  let v360 : BitVec 1 := Scalar.andi v359 v356
  let v361 : BitVec 32 := Scalar.addi v355 v354
  let v362 : BitVec 32 := Scalar.select v360 v361 v355
  let c1_i32_226 : BitVec 32 := 1#32
  let v363 : BitVec 1 := Scalar.cmpi .eq v362 c1_i32_226
  let v364 : BitVec 32 := Scalar.extui v363
  let c0_i32_227 : BitVec 32 := 0#32
  let v365 : BitVec 1 := Scalar.cmpi .ne v364 c0_i32_227
  v365

def k0_off65 (i : grid0.Coords) : Fin 4 → Nat :=
  let c0_260 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v382 : Index := Scalar.indexCast v339
  let c0_261 : Index := 0#32
  let c0_262 : Index := 0#32
  ![0, v382.toNat, 0, 0]
def k0_off66 (i : grid0.Coords) : Fin 4 → Nat :=
  let c0_266 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v394 : Index := Scalar.indexCast v339
  let c80 : Index := 80#32
  let c0_267 : Index := 0#32
  ![0, v394.toNat, 80, 0]
def k0_off67 (i : grid0.Coords) : Fin 4 → Nat :=
  let c0_271 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v406 : Index := Scalar.indexCast v339
  let c160 : Index := 160#32
  let c0_272 : Index := 0#32
  ![0, v406.toNat, 160, 0]
def k0_off68 (i : grid0.Coords) : Fin 4 → Nat :=
  let c0_276 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v418 : Index := Scalar.indexCast v339
  let c240 : Index := 240#32
  let c0_277 : Index := 0#32
  ![0, v418.toNat, 240, 0]
def k0_off69 (i : grid0.Coords) : Fin 4 → Nat :=
  let c0_281 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v430 : Index := Scalar.indexCast v339
  let c320 : Index := 320#32
  let c0_282 : Index := 0#32
  ![0, v430.toNat, 320, 0]
def k0_off70 (i : grid0.Coords) : Fin 4 → Nat :=
  let c0_286 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v442 : Index := Scalar.indexCast v339
  let c400 : Index := 400#32
  let c0_287 : Index := 0#32
  ![0, v442.toNat, 400, 0]
def k0_off71 (i : grid0.Coords) : Fin 4 → Nat :=
  let c0_291 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v454 : Index := Scalar.indexCast v339
  let c480 : Index := 480#32
  let c0_292 : Index := 0#32
  ![0, v454.toNat, 480, 0]
def k0_off72 (i : grid0.Coords) : Fin 4 → Nat :=
  let c0_296 : Index := 0#32
  let c2_i32_209 : BitVec 32 := 2#32
  let arg2 : BitVec 32 := BitVec.ofNat 32 (i 2).val
  let c0_i32_203 : BitVec 32 := 0#32
  let v320 : BitVec 1 := Scalar.cmpi .sgt arg2 c0_i32_203
  let v321 : BitVec 32 := Scalar.extui v320
  let c0_i32_204 : BitVec 32 := 0#32
  let v322 : BitVec 1 := Scalar.cmpi .slt arg2 c0_i32_204
  let v323 : BitVec 32 := Scalar.extui v322
  let v324 : BitVec 32 := Scalar.subi v321 v323
  let c2_i32_202 : BitVec 32 := 2#32
  let c0_i32_205 : BitVec 32 := 0#32
  let v325 : BitVec 1 := Scalar.cmpi .sgt c2_i32_202 c0_i32_205
  let v326 : BitVec 32 := Scalar.extui v325
  let c0_i32_206 : BitVec 32 := 0#32
  let v327 : BitVec 1 := Scalar.cmpi .slt c2_i32_202 c0_i32_206
  let v328 : BitVec 32 := Scalar.extui v327
  let v329 : BitVec 32 := Scalar.subi v326 v328
  let v330 : BitVec 1 := Scalar.cmpi .ne v324 v329
  let v331 : BitVec 32 := Scalar.remsi arg2 c2_i32_202
  let c0_i32_207 : BitVec 32 := 0#32
  let v332 : BitVec 1 := Scalar.cmpi .ne v331 c0_i32_207
  let v333 : BitVec 1 := Scalar.andi v330 v332
  let v319 : BitVec 32 := Scalar.divsi arg2 c2_i32_202
  let c1_i32_208 : BitVec 32 := 1#32
  let v334 : BitVec 32 := Scalar.subi v319 c1_i32_208
  let v335 : BitVec 32 := Scalar.select v333 v334 v319
  let v336 : BitVec 32 := Scalar.muli c2_i32_209 v335
  let c0_i32_210 : BitVec 32 := 0#32
  let v337 : BitVec 1 := Scalar.cmpi .eq v336 c0_i32_210
  let c1_i32_211 : BitVec 32 := 1#32
  let v338 : BitVec 32 := Scalar.subi v336 c1_i32_211
  let v339 : BitVec 32 := Scalar.select v337 arg2 v338
  let v466 : Index := Scalar.indexCast v339
  let c560 : Index := 560#32
  let c0_297 : Index := 0#32
  ![0, v466.toNat, 560, 0]
def k0_off73 (i : grid0.Coords) : Fin 4 → Nat :=
  let c0_342 : Index := 0#32
  let arg2 : BitVec 32 := BitVec.ofNat 32 (i 2).val
  let c1_i32_341 : BitVec 32 := 1#32
  let v590 : BitVec 32 := Scalar.subi arg2 c1_i32_341
  let v591 : Index := Scalar.indexCast v590
  let c0_343 : Index := 0#32
  let c0_344 : Index := 0#32
  ![0, v591.toNat, 0, 0]
def k0_off74 (i : grid0.Coords) : Fin 4 → Nat :=
  let c0_348 : Index := 0#32
  let arg2 : BitVec 32 := BitVec.ofNat 32 (i 2).val
  let c1_i32_341 : BitVec 32 := 1#32
  let v590 : BitVec 32 := Scalar.subi arg2 c1_i32_341
  let v603 : Index := Scalar.indexCast v590
  let c80_349 : Index := 80#32
  let c0_350 : Index := 0#32
  ![0, v603.toNat, 80, 0]
def k0_off75 (i : grid0.Coords) : Fin 4 → Nat :=
  let c0_354 : Index := 0#32
  let arg2 : BitVec 32 := BitVec.ofNat 32 (i 2).val
  let c1_i32_341 : BitVec 32 := 1#32
  let v590 : BitVec 32 := Scalar.subi arg2 c1_i32_341
  let v615 : Index := Scalar.indexCast v590
  let c160_355 : Index := 160#32
  let c0_356 : Index := 0#32
  ![0, v615.toNat, 160, 0]
def k0_off76 (i : grid0.Coords) : Fin 4 → Nat :=
  let c0_360 : Index := 0#32
  let arg2 : BitVec 32 := BitVec.ofNat 32 (i 2).val
  let c1_i32_341 : BitVec 32 := 1#32
  let v590 : BitVec 32 := Scalar.subi arg2 c1_i32_341
  let v627 : Index := Scalar.indexCast v590
  let c240_361 : Index := 240#32
  let c0_362 : Index := 0#32
  ![0, v627.toNat, 240, 0]
def k0_off77 (i : grid0.Coords) : Fin 4 → Nat :=
  let c0_366 : Index := 0#32
  let arg2 : BitVec 32 := BitVec.ofNat 32 (i 2).val
  let c1_i32_341 : BitVec 32 := 1#32
  let v590 : BitVec 32 := Scalar.subi arg2 c1_i32_341
  let v639 : Index := Scalar.indexCast v590
  let c320_367 : Index := 320#32
  let c0_368 : Index := 0#32
  ![0, v639.toNat, 320, 0]
def k0_off78 (i : grid0.Coords) : Fin 4 → Nat :=
  let c0_372 : Index := 0#32
  let arg2 : BitVec 32 := BitVec.ofNat 32 (i 2).val
  let c1_i32_341 : BitVec 32 := 1#32
  let v590 : BitVec 32 := Scalar.subi arg2 c1_i32_341
  let v651 : Index := Scalar.indexCast v590
  let c400_373 : Index := 400#32
  let c0_374 : Index := 0#32
  ![0, v651.toNat, 400, 0]
def k0_off79 (i : grid0.Coords) : Fin 4 → Nat :=
  let c0_378 : Index := 0#32
  let arg2 : BitVec 32 := BitVec.ofNat 32 (i 2).val
  let c1_i32_341 : BitVec 32 := 1#32
  let v590 : BitVec 32 := Scalar.subi arg2 c1_i32_341
  let v663 : Index := Scalar.indexCast v590
  let c480_379 : Index := 480#32
  let c0_380 : Index := 0#32
  ![0, v663.toNat, 480, 0]
def k0_off80 (i : grid0.Coords) : Fin 4 → Nat :=
  let c0_384 : Index := 0#32
  let arg2 : BitVec 32 := BitVec.ofNat 32 (i 2).val
  let c1_i32_341 : BitVec 32 := 1#32
  let v590 : BitVec 32 := Scalar.subi arg2 c1_i32_341
  let v675 : Index := Scalar.indexCast v590
  let c560_385 : Index := 560#32
  let c0_386 : Index := 0#32
  ![0, v675.toNat, 560, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32x2048x8x96 : Shape := ⟨4, ![32, 2048, 8, 96]⟩
abbrev S32x2048x8x64 : Shape := ⟨4, ![32, 2048, 8, 64]⟩
abbrev S32x8x2048x2048 : Shape := ⟨4, ![32, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x2048x64 : Shape := ⟨4, ![32, 8, 2048, 64]⟩
abbrev S65536x512 : Shape := ⟨2, ![65536, 512]⟩

abbrev nBuf : Space → Nat
  | .hbm => 37
  | .vmem => 0
  | .smem => 0
  | _ => 0

abbrev bufTy : (tb : Table) → Fin (tcTables nBuf tb) → BufTy
  | .hbm, ⟨0, _⟩ => ⟨S32x2048x8x96, .f32⟩
  | .hbm, ⟨1, _⟩ => ⟨S32x2048x8x96, .f32⟩
  | .hbm, ⟨2, _⟩ => ⟨S32x2048x8x64, .f32⟩
  | .hbm, ⟨3, _⟩ => ⟨S32x8x2048x2048, .f32⟩
  | .hbm, ⟨4, _⟩ => ⟨S_, .f32⟩
  | .hbm, ⟨5, _⟩ => ⟨S_, .f32⟩
  | .hbm, ⟨6, _⟩ => ⟨S32x8x2048x2048, .f32⟩
  | .hbm, ⟨7, _⟩ => ⟨S32x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S32x8x2048x2048, .i1⟩
  | .hbm, ⟨17, _⟩ => ⟨S32x8x2048x2048, .f32⟩
  | .hbm, ⟨18, _⟩ => ⟨S32x8x2048x2048, .f32⟩
  | .hbm, ⟨19, _⟩ => ⟨S_, .f32⟩
  | .hbm, ⟨20, _⟩ => ⟨S32x8x2048, .f32⟩
  | .hbm, ⟨21, _⟩ => ⟨S_, .f32⟩
  | .hbm, ⟨22, _⟩ => ⟨S32x8x2048, .f32⟩
  | .hbm, ⟨23, _⟩ => ⟨S32x8x2048, .f32⟩
  | .hbm, ⟨24, _⟩ => ⟨S32x8x2048x1, .f32⟩
  | .hbm, ⟨25, _⟩ => ⟨S32x8x2048x2048, .f32⟩
  | .hbm, ⟨26, _⟩ => ⟨S32x8x2048x2048, .f32⟩
  | .hbm, ⟨27, _⟩ => ⟨S32x8x2048x2048, .f32⟩
  | .hbm, ⟨28, _⟩ => ⟨S_, .f32⟩
  | .hbm, ⟨29, _⟩ => ⟨S32x8x2048, .f32⟩
  | .hbm, ⟨30, _⟩ => ⟨S32x8x2048x1, .f32⟩
  | .hbm, ⟨31, _⟩ => ⟨S32x8x2048x2048, .f32⟩
  | .hbm, ⟨32, _⟩ => ⟨S32x8x2048x2048, .f32⟩
  | .hbm, ⟨33, _⟩ => ⟨S32x8x2048x64, .f32⟩
  | .hbm, ⟨34, _⟩ => ⟨S32x2048x8x64, .f32⟩
  | .hbm, ⟨35, _⟩ => ⟨S65536x512, .f32⟩
  | .hbm, ⟨36, _⟩ => ⟨S65536x512, .bf16⟩
  | _, _ => ⟨S32x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel2.lean ====
abbrev S32x2048x1024 : Shape := ⟨3, ![32, 2048, 1024]⟩
abbrev S65536x512 : Shape := ⟨2, ![65536, 512]⟩
abbrev S32x6144 : Shape := ⟨2, ![32, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S65536x1024 : Shape := ⟨2, ![65536, 1024]⟩
abbrev S32x6x1024 : Shape := ⟨3, ![32, 6, 1024]⟩
abbrev S512x1024 : Shape := ⟨2, ![512, 1024]⟩
abbrev S1x1024 : Shape := ⟨2, ![1, 1024]⟩
abbrev S1x6x1024 : Shape := ⟨3, ![1, 6, 1024]⟩
abbrev S512x512 : Shape := ⟨2, ![512, 512]⟩
abbrev S6x1024 : Shape := ⟨2, ![6, 1024]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x512, .bf16⟩
  | .hbm, ⟨3, _⟩ => ⟨S32x6144, .f32⟩
  | .hbm, ⟨4, _⟩ => ⟨S1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S65536x1024, .f32⟩
  | .hbm, ⟨12, _⟩ => ⟨S32x6x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S512x1024, .bf16⟩
  | .hbm, ⟨17, _⟩ => ⟨S512x1024, .bf16⟩
  | .hbm, ⟨18, _⟩ => ⟨S1x1024, .f32⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32x2048x1024 : Shape := ⟨3, ![32, 2048, 1024]⟩
abbrev S65536x512 : Shape := ⟨2, ![65536, 512]⟩
abbrev S32x6144 : Shape := ⟨2, ![32, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S32x1024 : Shape := ⟨2, ![32, 1024]⟩
abbrev S65536x1024 : Shape := ⟨2, ![65536, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 67
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x512, .bf16⟩
  | .hbm, ⟨3, _⟩ => ⟨S32x6144, .f32⟩
  | .hbm, ⟨4, _⟩ => ⟨S1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S65536x1024, .bf16⟩
  | .hbm, ⟨17, _⟩ => ⟨S65536x1024, .f32⟩
  | .hbm, ⟨18, _⟩ => ⟨S32x2048x1024, .f32⟩
  | .hbm, ⟨19, _⟩ => ⟨S32x2048x1024, .f32⟩
  | .hbm, ⟨20, _⟩ => ⟨S32x1x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S_, .f32⟩
  | .hbm, ⟨26, _⟩ => ⟨S32x2048, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x1, .f32⟩
  | .hbm, ⟨35, _⟩ => ⟨S32x2048x1024, .f32⟩
  | .hbm, ⟨36, _⟩ => ⟨S32x2048x1024, .f32⟩
  | .hbm, ⟨37, _⟩ => ⟨S1x1x1024, .f32⟩
  | .hbm, ⟨38, _⟩ => ⟨S32x2048x1024, .f32⟩
  | .hbm, ⟨39, _⟩ => ⟨S32x2048x1024, .f32⟩
  | .hbm, ⟨40, _⟩ => ⟨S32x1x1024, .f32⟩
  | .hbm, ⟨41, _⟩ => ⟨S_, .f32⟩
  | .hbm, ⟨42, _⟩ => ⟨S32x1x1024, .f32⟩
  | .hbm, ⟨43, _⟩ => ⟨S32x1x1024, .f32⟩
  | .hbm, ⟨44, _⟩ => ⟨S32x2048x1024, .f32⟩
  | .hbm, ⟨45, _⟩ => ⟨S32x2048x1024, .f32⟩
  | .hbm, ⟨46, _⟩ => ⟨S32x1x1024, .f32⟩
  | .hbm, ⟨47, _⟩ => ⟨S32x2048x1024, .f32⟩
  | .hbm, ⟨48, _⟩ => ⟨S32x2048x1024, .f32⟩
  | .hbm, ⟨49, _⟩ => ⟨S32x1x1024, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S_, .f32⟩
  | .hbm, ⟨54, _⟩ => ⟨S32x2048x2816, .f32⟩
  | .hbm, ⟨55, _⟩ => ⟨S32x2048x2816, .f32⟩
  | .hbm, ⟨56, _⟩ => ⟨S_, .f32⟩
  | .hbm, ⟨57, _⟩ => ⟨S32x2048x2816, .f32⟩
  | .hbm, ⟨58, _⟩ => ⟨S32x2048x2816, .f32⟩
  | .hbm, ⟨59, _⟩ => ⟨S32x2048x2816, .f32⟩
  | .hbm, ⟨60, _⟩ => ⟨S32x2048x2816, .f32⟩
  | .hbm, ⟨61, _⟩ => ⟨S32x2048x2816, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x6144 : Shape := ⟨2, ![32, 6144]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S32x6x1024 : Shape := ⟨3, ![32, 6, 1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S65536x1024, .f32⟩
  | .hbm, ⟨8, _⟩ => ⟨S32x6x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32x2048x1024 : Shape := ⟨3, ![32, 2048, 1024]⟩
abbrev S32x6144 : Shape := ⟨2, ![32, 6144]⟩
abbrev S1024 : Shape := ⟨1, ![1024]⟩
abbrev S1024x2816 : Shape := ⟨2, ![1024, 2816]⟩
abbrev S2816x1024 : Shape := ⟨2, ![2816, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x2816 : Shape := ⟨3, ![32, 2048, 2816]⟩
abbrev S65536x1024 : Shape := ⟨2, ![65536, 1024]⟩

abbrev nBuf : Space → Nat
  | .hbm => 72
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S32x1x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x2048x1024, .f32⟩
  | .hbm, ⟨34, _⟩ => ⟨S32x2048x1024, .f32⟩
  | .hbm, ⟨35, _⟩ => ⟨S32x1x1024, .f32⟩
  | .hbm, ⟨36, _⟩ => ⟨S32x2048x1024, .f32⟩
  | .hbm, ⟨37, _⟩ => ⟨S32x2048x1024, .f32⟩
  | .hbm, ⟨38, _⟩ => ⟨S32x1x1024, .f32⟩
  | .hbm, ⟨39, _⟩ => ⟨S32x2048x2816, .f32⟩
  | .hbm, ⟨40, _⟩ => ⟨S32x2048x2816, .f32⟩
  | .hbm, ⟨41, _⟩ => ⟨S32x2048x2816, .f32⟩
  | .hbm, ⟨42, _⟩ => ⟨S_, .f32⟩
  | .hbm, ⟨43, _⟩ => ⟨S32x2048x2816, .f32⟩
  | .hbm, ⟨44, _⟩ => ⟨S32x2048x2816, .f32⟩
  | .hbm, ⟨45, _⟩ => ⟨S_, .f32⟩
  | .hbm, ⟨46, _⟩ => ⟨S32x2048x2816, .f32⟩
  | .hbm, ⟨47, _⟩ => ⟨S32x2048x2816, .f32⟩
  | .hbm, ⟨48, _⟩ => ⟨S32x2048x2816, .f32⟩
  | .hbm, ⟨49, _⟩ => ⟨S32x2048x2816, .f32⟩
  | .hbm, ⟨50, _⟩ => ⟨S32x2048x2816, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S_, .f32⟩
  | .hbm, ⟨57, _⟩ => ⟨S32x2048, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S_, .f32⟩
  | .hbm, ⟨63, _⟩ => ⟨S32x2048x1, .f32⟩
  | .hbm, ⟨64, _⟩ => ⟨S32x2048x1, .f32⟩
  | .hbm, ⟨65, _⟩ => ⟨S32x2048x1, .f32⟩
  | .hbm, ⟨66, _⟩ => ⟨S32x2048x1024, .f32⟩
  | .hbm, ⟨67, _⟩ => ⟨S32x2048x1024, .f32⟩
  | .hbm, ⟨68, _⟩ => ⟨S1x1x1024, .f32⟩
  | .hbm, ⟨69, _⟩ => ⟨S32x2048x1024, .f32⟩
  | .hbm, ⟨70, _⟩ => ⟨S32x2048x1024, .f32⟩
  | .hbm, ⟨71, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x6144 : Shape := ⟨2, ![32, 6144]⟩
abbrev S1024 : Shape := ⟨1, ![1024]⟩
abbrev S1024x2464 : Shape := ⟨2, ![1024, 2464]⟩
abbrev S1024x672 : Shape := ⟨2, ![1024, 672]⟩
abbrev S_ : Shape := ⟨0, ![]⟩
abbrev S1024x768 : Shape := ⟨2, ![1024, 768]⟩
abbrev S1024x1792 : Shape := ⟨2, ![1024, 1792]⟩
abbrev S65536x1024 : Shape := ⟨2, ![65536, 1024]⟩
abbrev S32x6x1024 : Shape := ⟨3, ![32, 6, 1024]⟩
abbrev S1x1024 : Shape := ⟨2, ![1, 1024]⟩
abbrev S65536x768 : Shape := ⟨2, ![65536, 768]⟩
abbrev S65536x1792 : Shape := ⟨2, ![65536, 1792]⟩
abbrev S512x1024 : Shape := ⟨2, ![512, 1024]⟩
abbrev S1x6x1024 : Shape := ⟨3, ![1, 6, 1024]⟩
abbrev S512x768 : Shape := ⟨2, ![512, 768]⟩
abbrev S512x1792 : Shape := ⟨2, ![512, 1792]⟩
abbrev S6x1024 : Shape := ⟨2, ![6, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x2464, .f32⟩
  | .hbm, ⟨4, _⟩ => ⟨S1024x672, .f32⟩
  | .hbm, ⟨5, _⟩ => ⟨S_, .i32⟩
  | .hbm, ⟨6, _⟩ => ⟨S_, .f32⟩
  | .hbm, ⟨7, _⟩ => ⟨S1024x768, .f32⟩
  | .hbm, ⟨8, _⟩ => ⟨S1024x768, .bf16⟩
  | .hbm, ⟨9, _⟩ => ⟨S1024x1792, .f32⟩
  | .hbm, ⟨10, _⟩ => ⟨S1024x1792, .bf16⟩
  | .hbm, ⟨11, _⟩ => ⟨S65536x1024, .f32⟩
  | .hbm, ⟨12, _⟩ => ⟨S32x6x1024, .f32⟩
  | .hbm, ⟨13, _⟩ => ⟨S1x1024, .f32⟩
  | .hbm, ⟨14, _⟩ => ⟨S65536x768, .bf16⟩
  | .hbm, ⟨15, _⟩ => ⟨S65536x1792, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x768, .bf16⟩
  | .local _ .vmem, ⟨6, _⟩ => ⟨S1024x1792, .bf16⟩
  | .local _ .vmem, ⟨7, _⟩ => ⟨S512x768, .bf16⟩
  | .local _ .vmem, ⟨8, _⟩ => ⟨S512x768, .bf16⟩
  | .local _ .vmem, ⟨9, _⟩ => ⟨S512x1792, .bf16⟩
  | .local _ .vmem, ⟨10, _⟩ => ⟨S512x1792, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32x2048x1024 : Shape := ⟨3, ![32, 2048, 1024]⟩
abbrev S32x6144 : Shape := ⟨2, ![32, 6144]⟩
abbrev S1024 : Shape := ⟨1, ![1024]⟩
abbrev S1024x2464 : Shape := ⟨2, ![1024, 2464]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x2464 : Shape := ⟨3, ![32, 2048, 2464]⟩
abbrev S65536x2464 : Shape := ⟨2, ![65536, 2464]⟩
abbrev S65536x672 : Shape := ⟨2, ![65536, 672]⟩
abbrev S65536x768 : Shape := ⟨2, ![65536, 768]⟩
abbrev S65536x1792 : Shape := ⟨2, ![65536, 1792]⟩

abbrev nBuf : Space → Nat
  | .hbm => 43
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024x2464, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x2048x1024, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S32x2048x1, .f32⟩
  | .hbm, ⟨21, _⟩ => ⟨S32x2048x1024, .f32⟩
  | .hbm, ⟨22, _⟩ => ⟨S32x2048x1024, .f32⟩
  | .hbm, ⟨23, _⟩ => ⟨S1x1x1024, .f32⟩
  | .hbm, ⟨24, _⟩ => ⟨S32x2048x1024, .f32⟩
  | .hbm, ⟨25, _⟩ => ⟨S32x2048x1024, .f32⟩
  | .hbm, ⟨26, _⟩ => ⟨S32x1x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x2048x1024, .f32⟩
  | .hbm, ⟨31, _⟩ => ⟨S32x2048x1024, .f32⟩
  | .hbm, ⟨32, _⟩ => ⟨S32x1x1024, .f32⟩
  | .hbm, ⟨33, _⟩ => ⟨S32x2048x1024, .f32⟩
  | .hbm, ⟨34, _⟩ => ⟨S32x2048x1024, .f32⟩
  | .hbm, ⟨35, _⟩ => ⟨S32x2048x2464, .f32⟩
  | .hbm, ⟨36, _⟩ => ⟨S65536x2464, .f32⟩
  | .hbm, ⟨37, _⟩ => ⟨S65536x2464, .bf16⟩
  | .hbm, ⟨38, _⟩ => ⟨S65536x672, .bf16⟩
  | .hbm, ⟨39, _⟩ => ⟨S_, .i32⟩
  | .hbm, ⟨40, _⟩ => ⟨S_, .bf16⟩
  | .hbm, ⟨41, _⟩ => ⟨S65536x768, .bf16⟩
  | .hbm, ⟨42, _⟩ => ⟨S65536x1792, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel5.lean ====
abbrev S32x2048x672 : Shape := ⟨3, ![32, 2048, 672]⟩
abbrev S32x2048 : Shape := ⟨2, ![32, 2048]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S128x1024 : Shape := ⟨2, ![128, 1024]⟩
abbrev S256x8x80 : Shape := ⟨3, ![256, 8, 80]⟩
abbrev S256x640 : Shape := ⟨2, ![256, 640]⟩
abbrev S128x640 : Shape := ⟨2, ![128, 640]⟩
abbrev S384x640 : Shape := ⟨2, ![384, 640]⟩
abbrev S8x80x1 : Shape := ⟨3, ![8, 80, 1]⟩
abbrev S1024x384 : Shape := ⟨2, ![1024, 384]⟩
abbrev S640x384 : Shape := ⟨2, ![640, 384]⟩
abbrev S640x1 : Shape := ⟨2, ![640, 1]⟩
abbrev S65536x672 : Shape := ⟨2, ![65536, 672]⟩
abbrev S65536x768 : Shape := ⟨2, ![65536, 768]⟩
abbrev S16 : Shape := ⟨1, ![16]⟩
abbrev S16x1 : Shape := ⟨2, ![16, 1]⟩
abbrev S1x384 : Shape := ⟨2, ![1, 384]⟩
abbrev S1x256 : Shape := ⟨2, ![1, 256]⟩
abbrev S128x1x512 : Shape := ⟨3, ![128, 1, 512]⟩
abbrev S32x1024x2048 : Shape := ⟨3, ![32, 1024, 2048]⟩
abbrev S65536x1024 : Shape := ⟨2, ![65536, 1024]⟩
abbrev S32x4x640x512 : Shape := ⟨4, ![32, 4, 640, 512]⟩
abbrev S512x768 : Shape := ⟨2, ![512, 768]⟩
abbrev S1x1x512 : Shape := ⟨3, ![1, 1, 512]⟩
abbrev S1x1024x512 : Shape := ⟨3, ![1, 1024, 512]⟩
abbrev S512x1024 : Shape := ⟨2, ![512, 1024]⟩
abbrev S1x1x640x512 : Shape := ⟨4, ![1, 1, 640, 512]⟩
abbrev S1x512 : Shape := ⟨2, ![1, 512]⟩
abbrev S16x512 : Shape := ⟨2, ![16, 512]⟩
abbrev S512x384 : Shape := ⟨2, ![512, 384]⟩
abbrev S512 : Shape := ⟨1, ![512]⟩
abbrev S512x1 : Shape := ⟨2, ![512, 1]⟩
abbrev S1024x512 : Shape := ⟨2, ![1024, 512]⟩
abbrev S64x512 : Shape := ⟨2, ![64, 512]⟩
abbrev S32x512 : Shape := ⟨2, ![32, 512]⟩
abbrev S512x256 : Shape := ⟨2, ![512, 256]⟩
abbrev S512x128 : Shape := ⟨2, ![512, 128]⟩
abbrev S96x512 : Shape := ⟨2, ![96, 512]⟩
abbrev S128x512 : Shape := ⟨2, ![128, 512]⟩
abbrev S640x512 : Shape := ⟨2, ![640, 512]⟩

abbrev nBuf : Space → Nat
  | .hbm => 87
  | .vmem => 17
  | .smem => 0
  | _ => 0

abbrev bufTy : (tb : Table) → Fin (tcTables nBuf tb) → BufTy
  | .hbm, ⟨0, _⟩ => ⟨S32x2048x672, .f32⟩
  | .hbm, ⟨1, _⟩ => ⟨S32x2048, .i32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S256x1024, .f32⟩
  | .hbm, ⟨6, _⟩ => ⟨S384x8x96, .f32⟩
  | .hbm, ⟨7, _⟩ => ⟨S_, .i32⟩
  | .hbm, ⟨8, _⟩ => ⟨S_, .f32⟩
  | .hbm, ⟨9, _⟩ => ⟨S384x8x128, .f32⟩
  | .hbm, ⟨10, _⟩ => ⟨S384x1024, .f32⟩
  | .hbm, ⟨11, _⟩ => ⟨S256x8x128, .f32⟩
  | .hbm, ⟨12, _⟩ => ⟨S256x8x64, .f32⟩
  | .hbm, ⟨13, _⟩ => ⟨S_, .i32⟩
  | .hbm, ⟨14, _⟩ => ⟨S_, .f32⟩
  | .hbm, ⟨15, _⟩ => ⟨S256x8x128, .f32⟩
  | .hbm, ⟨16, _⟩ => ⟨S256x1024, .f32⟩
  | .hbm, ⟨17, _⟩ => ⟨S128x1024, .i32⟩
  | .hbm, ⟨18, _⟩ => ⟨S128x1024, .i32⟩
  | .hbm, ⟨19, _⟩ => ⟨S_, .i32⟩
  | .hbm, ⟨20, _⟩ => ⟨S128x1024, .i32⟩
  | .hbm, ⟨21, _⟩ => ⟨S128x1024, .i32⟩
  | .hbm, ⟨22, _⟩ => ⟨S_, .i32⟩
  | .hbm, ⟨23, _⟩ => ⟨S128x1024, .i32⟩
  | .hbm, ⟨24, _⟩ => ⟨S128x1024, .i1⟩
  | .hbm, ⟨25, _⟩ => ⟨S_, .i32⟩
  | .hbm, ⟨26, _⟩ => ⟨S128x1024, .i32⟩
  | .hbm, ⟨27, _⟩ => ⟨S128x1024, .i32⟩
  | .hbm, ⟨28, _⟩ => ⟨S128x1024, .i1⟩
  | .hbm, ⟨29, _⟩ => ⟨S128x1024, .i1⟩
  | .hbm, ⟨30, _⟩ => ⟨S_, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S384x1024, .f32⟩
  | .hbm, ⟨36, _⟩ => ⟨S256x8x64, .f32⟩
  | .hbm, ⟨37, _⟩ => ⟨S_, .i32⟩
  | .hbm, ⟨38, _⟩ => ⟨S_, .f32⟩
  | .hbm, ⟨39, _⟩ => ⟨S256x8x80, .f32⟩
  | .hbm, ⟨40, _⟩ => ⟨S256x640, .f32⟩
  | .hbm, ⟨41, _⟩ => ⟨S_, .f32⟩
  | .hbm, ⟨42, _⟩ => ⟨S128x640, .f32⟩
  | .hbm, ⟨43, _⟩ => ⟨S384x640, .f32⟩
  | .hbm, ⟨44, _⟩ => ⟨S8x80x1, .i32⟩
  | .hbm, ⟨45, _⟩ => ⟨S_, .i32⟩
  | .hbm, ⟨46, _⟩ => ⟨S8x80x1, .i32⟩
  | .hbm, ⟨47, _⟩ => ⟨S8x80x1, .i1⟩
  | .hbm, ⟨48, _⟩ => ⟨S_, .f32⟩
  | .hbm, ⟨49, _⟩ => ⟨S_, .f32⟩
  | .hbm, ⟨50, _⟩ => ⟨S8x80x1, .f32⟩
  | .hbm, ⟨51, _⟩ => ⟨S8x80x1, .f32⟩
  | .hbm, ⟨52, _⟩ => ⟨S8x80x1, .f32⟩
  | .hbm, ⟨53, _⟩ => ⟨S1024x384, .f32⟩
  | .hbm, ⟨54, _⟩ => ⟨S1024x384, .bf16⟩
  | .hbm, ⟨55, _⟩ => ⟨S384x1024, .bf16⟩
  | .hbm, ⟨56, _⟩ => ⟨S640x384, .f32⟩
  | .hbm, ⟨57, _⟩ => ⟨S640x384, .bf16⟩
  | .hbm, ⟨58, _⟩ => ⟨S640x1, .f32⟩
  | .hbm, ⟨59, _⟩ => ⟨S65536x672, .f32⟩
  | .hbm, ⟨60, _⟩ => ⟨S_, .i32⟩
  | .hbm, ⟨61, _⟩ => ⟨S_, .f32⟩
  | .hbm, ⟨62, _⟩ => ⟨S65536x768, .f32⟩
  | .hbm, ⟨63, _⟩ => ⟨S65536x768, .bf16⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S16x1, .f32⟩
  | .hbm, ⟨81, _⟩ => ⟨S1x384, .f32⟩
  | .hbm, ⟨82, _⟩ => ⟨S1x256, .f32⟩
  | .hbm, ⟨83, _⟩ => ⟨S128x1x512, .i32⟩
  | .hbm, ⟨84, _⟩ => ⟨S32x1024x2048, .bf16⟩
  | .hbm, ⟨85, _⟩ => ⟨S65536x1024, .bf16⟩
  | .hbm, ⟨86, _⟩ => ⟨S32x4x640x512, .bf16⟩
  | .local _ .vmem, ⟨0, _⟩ => ⟨S512x768, .bf16⟩
  | .local _ .vmem, ⟨1, _⟩ => ⟨S512x768, .bf16⟩
  | .local _ .vmem, ⟨2, _⟩ => ⟨S1x1x512, .i32⟩
  | .local _ .vmem, ⟨3, _⟩ => ⟨S1x1x512, .i32⟩
  | .local _ .vmem, ⟨4, _⟩ => ⟨S16x1, .f32⟩
  | .local _ .vmem, ⟨5, _⟩ => ⟨S1x384, .f32⟩
  | .local _ .vmem, ⟨6, _⟩ => ⟨S1x256, .f32⟩
  | .local _ .vmem, ⟨7, _⟩ => ⟨S1024x384, .bf16⟩
  | .local _ .vmem, ⟨8, _⟩ => ⟨S384x1024, .bf16⟩
  | .local _ .vmem, ⟨9, _⟩ => ⟨S640x384, .bf16⟩
  | .local _ .vmem, ⟨10, _⟩ => ⟨S640x1, .f32⟩
  | .local _ .vmem, ⟨11, _⟩ => ⟨S1x1024x512, .bf16⟩
  | .local _ .vmem, ⟨12, _⟩ => ⟨S1x1024x512, .bf16⟩
  | .local _ .vmem, ⟨13, _⟩ => ⟨S512x1024, .bf16⟩
  | .local _ .vmem, ⟨14, _⟩ => ⟨S512x1024, .bf16⟩
  | .local _ .vmem, ⟨15, _⟩ => ⟨S1x1x640x512, .bf16⟩
  | .local _ .vmem, ⟨16, _⟩ => ⟨S1x1x640x512, .bf16⟩
  | _, _ => ⟨S32x2048x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_call3_v0 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_cst_9 : Ref sig .tc := ⟨.hbm, 49, rfl⟩
abbrev main_call4_v0 : Ref sig .tc := ⟨.hbm, 50, rfl⟩
abbrev main_call4_v1 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_call5_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_v39 : Ref sig .tc := ⟨.hbm, 67, rfl⟩
abbrev main_cst_12 : Ref sig .tc := ⟨.hbm, 68, rfl⟩
abbrev main_v40 : Ref sig .tc := ⟨.hbm, 69, rfl⟩
abbrev main_v41 : Ref sig .tc := ⟨.hbm, 70, rfl⟩
abbrev main_cst_13 : Ref sig .tc := ⟨.hbm, 71, rfl⟩
abbrev main_v42 : Ref sig .tc := ⟨.hbm, 72, rfl⟩
abbrev main_v43 : Ref sig .tc := ⟨.hbm, 73, rfl⟩
abbrev main_cst_14 : Ref sig .tc := ⟨.hbm, 74, rfl⟩
abbrev main_v44 : Ref sig .tc := ⟨.hbm, 75, rfl⟩
abbrev main_v45 : Ref sig .tc := ⟨.hbm, 76, rfl⟩
abbrev main_cst_15 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52_0 : Ref sig .tc := ⟨.hbm, 84, rfl⟩
abbrev main_v52_1 : Ref sig .tc := ⟨.hbm, 85, rfl⟩
abbrev main_v52_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x640x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S32x2048x672 : Shape := ⟨3, ![32, 2048, 672]⟩
abbrev S32x2048 : Shape := ⟨2, ![32, 2048]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S32x2048x384 : Shape := ⟨3, ![32, 2048, 384]⟩
abbrev S32x2048x256 : Shape := ⟨3, ![32, 2048, 256]⟩
abbrev S32x2048x32 : Shape := ⟨3, ![32, 2048, 32]⟩
abbrev S_ : Shape := ⟨0, ![]⟩
abbrev S32x2048x1 : Shape := ⟨3, ![32, 2048, 1]⟩
abbrev S1x1x384 : Shape := ⟨3, ![1, 1, 384]⟩
abbrev S32x2048x768 : Shape := ⟨3, ![32, 2048, 768]⟩
abbrev S32x2048x8x96 : Shape := ⟨4, ![32, 2048, 8, 96]⟩
abbrev S1x1x256 : Shape := ⟨3, ![1, 1, 256]⟩
abbrev S32x2048x1024 : Shape := ⟨3, ![32, 2048, 1024]⟩
abbrev S32x2048x8x128 : Shape := ⟨4, ![32, 2048, 8, 128]⟩
abbrev S16 : Shape := ⟨1, ![16]⟩
abbrev S1x1x16 : Shape := ⟨3, ![1, 1, 16]⟩
abbrev S32x2048x16 : Shape := ⟨3, ![32, 2048, 16]⟩
abbrev S32x2048x8x32 : Shape := ⟨4, ![32, 2048, 8, 32]⟩
abbrev S32x2048x1x16 : Shape := ⟨4, ![32, 2048, 1, 16]⟩
abbrev S32x2048x8x16 : Shape := ⟨4, ![32, 2048, 8, 16]⟩
abbrev S32x2048x1x32 : Shape := ⟨4, ![32, 2048, 1, 32]⟩
abbrev S32x2048x8x64 : Shape := ⟨4, ![32, 2048, 8, 64]⟩
abbrev S32x2048x8x1 : Shape := ⟨4, ![32, 2048, 8, 1]⟩
abbrev S32x2048x8x15 : Shape := ⟨4, ![32, 2048, 8, 15]⟩
abbrev S32x2048x8x80 : Shape := ⟨4, ![32, 2048, 8, 80]⟩
abbrev S32x1024x2048 : Shape := ⟨3, ![32, 1024, 2048]⟩
abbrev S65536x1024 : Shape := ⟨2, ![65536, 1024]⟩
abbrev S32x4x512x640 : Shape := ⟨4, ![32, 4, 512, 640]⟩
abbrev S32x4x640x512 : Shape := ⟨4, ![32, 4, 640, 512]⟩

abbrev nBuf : Space → Nat
  | .hbm => 119
  | .vmem => 0
  | .smem => 0
  | _ => 0

abbrev bufTy : (tb : Table) → Fin (tcTables nBuf tb) → BufTy
  | .hbm, ⟨0, _⟩ => ⟨S32x2048x672, .f32⟩
  | .hbm, ⟨1, _⟩ => ⟨S32x2048, .i32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S256x1024, .f32⟩
  | .hbm, ⟨6, _⟩ => ⟨S32x2048x384, .f32⟩
  | .hbm, ⟨7, _⟩ => ⟨S32x2048x256, .f32⟩
  | .hbm, ⟨8, _⟩ => ⟨S32x2048x32, .f32⟩
  | .hbm, ⟨9, _⟩ => ⟨S32x2048x384, .f32⟩
  | .hbm, ⟨10, _⟩ => ⟨S_, .f32⟩
  | .hbm, ⟨11, _⟩ => ⟨S32x2048, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S32x2048x1, .f32⟩
  | .hbm, ⟨20, _⟩ => ⟨S32x2048x384, .f32⟩
  | .hbm, ⟨21, _⟩ => ⟨S32x2048x384, .f32⟩
  | .hbm, ⟨22, _⟩ => ⟨S1x1x384, .f32⟩
  | .hbm, ⟨23, _⟩ => ⟨S32x2048x384, .f32⟩
  | .hbm, ⟨24, _⟩ => ⟨S32x2048x384, .f32⟩
  | .hbm, ⟨25, _⟩ => ⟨S32x2048x768, .f32⟩
  | .hbm, ⟨26, _⟩ => ⟨S_, .f32⟩
  | .hbm, ⟨27, _⟩ => ⟨S32x2048x768, .f32⟩
  | .hbm, ⟨28, _⟩ => ⟨S32x2048x768, .f32⟩
  | .hbm, ⟨29, _⟩ => ⟨S32x2048x8x96, .f32⟩
  | .hbm, ⟨30, _⟩ => ⟨S32x2048x256, .f32⟩
  | .hbm, ⟨31, _⟩ => ⟨S_, .f32⟩
  | .hbm, ⟨32, _⟩ => ⟨S32x2048, .f32⟩
  | .hbm, ⟨33, _⟩ => ⟨S32x2048x1, .f32⟩
  | .hbm, ⟨34, _⟩ => ⟨S_, .f32⟩
  | .hbm, ⟨35, _⟩ => ⟨S32x2048x1, .f32⟩
  | .hbm, ⟨36, _⟩ => ⟨S32x2048x1, .f32⟩
  | .hbm, ⟨37, _⟩ => ⟨S_, .f32⟩
  | .hbm, ⟨38, _⟩ => ⟨S32x2048x1, .f32⟩
  | .hbm, ⟨39, _⟩ => ⟨S32x2048x1, .f32⟩
  | .hbm, ⟨40, _⟩ => ⟨S32x2048x1, .f32⟩
  | .hbm, ⟨41, _⟩ => ⟨S32x2048x256, .f32⟩
  | .hbm, ⟨42, _⟩ => ⟨S32x2048x256, .f32⟩
  | .hbm, ⟨43, _⟩ => ⟨S1x1x256, .f32⟩
  | .hbm, ⟨44, _⟩ => ⟨S32x2048x256, .f32⟩
  | .hbm, ⟨45, _⟩ => ⟨S32x2048x256, .f32⟩
  | .hbm, ⟨46, _⟩ => ⟨S32x2048x1024, .f32⟩
  | .hbm, ⟨47, _⟩ => ⟨S32x2048x8x128, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S32x2048, .f32⟩
  | .hbm, ⟨65, _⟩ => ⟨S32x2048x1, .f32⟩
  | .hbm, ⟨66, _⟩ => ⟨S1x1x16, .f32⟩
  | .hbm, ⟨67, _⟩ => ⟨S32x2048x16, .f32⟩
  | .hbm, ⟨68, _⟩ => ⟨S32x2048x16, .f32⟩
  | .hbm, ⟨69, _⟩ => ⟨S32x2048x16, .f32⟩
  | .hbm, ⟨70, _⟩ => ⟨S32x2048x16, .f32⟩
  | .hbm, ⟨71, _⟩ => ⟨S32x2048x16, .f32⟩
  | .hbm, ⟨72, _⟩ => ⟨S32x2048x8x32, .f32⟩
  | .hbm, ⟨73, _⟩ => ⟨S32x2048x1x16, .f32⟩
  | .hbm, ⟨74, _⟩ => ⟨S32x2048x1x16, .f32⟩
  | .hbm, ⟨75, _⟩ => ⟨S32x2048x8x16, .f32⟩
  | .hbm, ⟨76, _⟩ => ⟨S32x2048x8x16, .f32⟩
  | .hbm, ⟨77, _⟩ => ⟨S32x2048x8x16, .f32⟩
  | .hbm, ⟨78, _⟩ => ⟨S32x2048x8x16, .f32⟩
  | .hbm, ⟨79, _⟩ => ⟨S32x2048x8x16, .f32⟩
  | .hbm, ⟨80, _⟩ => ⟨S32x2048x8x16, .f32⟩
  | .hbm, ⟨81, _⟩ => ⟨S32x2048x8x16, .f32⟩
  | .hbm, ⟨82, _⟩ => ⟨S32x2048x8x16, .f32⟩
  | .hbm, ⟨83, _⟩ => ⟨S32x2048x8x16, .f32⟩
  | .hbm, ⟨84, _⟩ => ⟨S32x2048x8x16, .f32⟩
  | .hbm, ⟨85, _⟩ => ⟨S32x2048x8x16, .f32⟩
  | .hbm, ⟨86, _⟩ => ⟨S32x2048x8x16, .f32⟩
  | .hbm, ⟨87, _⟩ => ⟨S32x2048x8x32, .f32⟩
  | .hbm, ⟨88, _⟩ => ⟨S32x2048x16, .f32⟩
  | .hbm, ⟨89, _⟩ => ⟨S32x2048x16, .f32⟩
  | .hbm, ⟨90, _⟩ => ⟨S32x2048x16, .f32⟩
  | .hbm, ⟨91, _⟩ => ⟨S32x2048x16, .f32⟩
  | .hbm, ⟨92, _⟩ => ⟨S32x2048x16, .f32⟩
  | .hbm, ⟨93, _⟩ => ⟨S32x2048x16, .f32⟩
  | .hbm, ⟨94, _⟩ => ⟨S32x2048x16, .f32⟩
  | .hbm, ⟨95, _⟩ => ⟨S32x2048x16, .f32⟩
  | .hbm, ⟨96, _⟩ => ⟨S32x2048x32, .f32⟩
  | .hbm, ⟨97, _⟩ => ⟨S32x2048x1x32, .f32⟩
  | .hbm, ⟨98, _⟩ => ⟨S32x2048x8x32, .f32⟩
  | .hbm, ⟨99, _⟩ => ⟨S_, .f32⟩
  | .hbm, ⟨100, _⟩ => ⟨S32x2048x8x32, .f32⟩
  | .hbm, ⟨101, _⟩ => ⟨S32x2048x8x64, .f32⟩
  | .hbm, ⟨102, _⟩ => ⟨S32x2048x8x128, .f32⟩
  | .hbm, ⟨103, _⟩ => ⟨S32x2048x8x64, .f32⟩
  | .hbm, ⟨104, _⟩ => ⟨S32x2048x8x128, .f32⟩
  | .hbm, ⟨105, _⟩ => ⟨S32x2048x8x64, .f32⟩
  | .hbm, ⟨106, _⟩ => ⟨S_, .f32⟩
  | .hbm, ⟨107, _⟩ => ⟨S32x2048x8x1, .f32⟩
  | .hbm, ⟨108, _⟩ => ⟨S_, .f32⟩
  | .hbm, ⟨109, _⟩ => ⟨S32x2048x8x15, .f32⟩
  | .hbm, ⟨110, _⟩ => ⟨S32x2048x8x80, .f32⟩
  | .hbm, ⟨111, _⟩ => ⟨S32x2048x1024, .f32⟩
  | .hbm, ⟨112, _⟩ => ⟨S32x1024x2048, .f32⟩
  | .hbm, ⟨113, _⟩ => ⟨S32x1024x2048, .bf16⟩
  | .hbm, ⟨114, _⟩ => ⟨S65536x1024, .f32⟩
  | .hbm, ⟨115, _⟩ => ⟨S65536x1024, .bf16⟩
  | .hbm, ⟨116, _⟩ => ⟨S32x4x512x640, .f32⟩
  | .hbm, ⟨117, _⟩ => ⟨S32x4x640x512, .f32⟩
  | .hbm, ⟨118, _⟩ => ⟨S32x4x640x512, .bf16⟩
  | _, _ => ⟨S32x2048x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_11 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_cst_13 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== Kernel6.lean ====
abbrev S32x1024 : Shape := ⟨2, ![32, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x32x6144 : Shape := ⟨3, ![2, 32, 6144]⟩
abbrev S1x1024x1536 : Shape := ⟨3, ![1, 1024, 1536]⟩
abbrev S1x1x1536 : Shape := ⟨3, ![1, 1, 1536]⟩
abbrev S1x32x1536 : Shape := ⟨3, ![1, 32, 1536]⟩
abbrev S1024x1536 : Shape := ⟨2, ![1024, 1536]⟩
abbrev S32x1536 : Shape := ⟨2, ![32, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x32x6144, .f32⟩
  | .local _ .vmem, ⟨0, _⟩ => ⟨S32x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x32x1536, .f32⟩
  | .local _ .vmem, ⟨6, _⟩ => ⟨S1x32x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32x1024 : Shape := ⟨2, ![32, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S32x6144 : Shape := ⟨2, ![32, 6144]⟩
abbrev S1x6144 : Shape := ⟨2, ![1, 6144]⟩
abbrev S6144 : Shape := ⟨1, ![6144]⟩
abbrev S1x32x6144 : Shape := ⟨3, ![1, 32, 6144]⟩
abbrev S2x32x6144 : Shape := ⟨3, ![2, 32, 6144]⟩

abbrev nBuf : Space → Nat
  | .hbm => 31
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024x6144, .f32⟩
  | .hbm, ⟨2, _⟩ => ⟨S2x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1x1024x6144, .f32⟩
  | .hbm, ⟨13, _⟩ => ⟨S1024x6144, .f32⟩
  | .hbm, ⟨14, _⟩ => ⟨S32x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S32x6144, .f32⟩
  | .hbm, ⟨19, _⟩ => ⟨S32x6144, .f32⟩
  | .hbm, ⟨20, _⟩ => ⟨S1x1024x6144, .f32⟩
  | .hbm, ⟨21, _⟩ => ⟨S1024x6144, .f32⟩
  | .hbm, ⟨22, _⟩ => ⟨S32x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S32x6144, .f32⟩
  | .hbm, ⟨27, _⟩ => ⟨S32x6144, .f32⟩
  | .hbm, ⟨28, _⟩ => ⟨S1x32x6144, .f32⟩
  | .hbm, ⟨29, _⟩ => ⟨S1x32x6144, .f32⟩
  | .hbm, ⟨30, _⟩ => ⟨S2x32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Rows.lean ====
module

public import Idealize.ShloMosaic.Lib.Pointwise
public import Idealize.ShloMosaic.Lib.IdealHost

@[expose] public section

noncomputable section

/-! The layer's plain mathematics of one token, over the ideal floats: the normalized and modulated row, the gated
hidden row, and the row that comes out. -/

namespace Cert.Rows

open Idealize.ShloMosaic

/-- A row, normalized by the root of its mean square and scaled by the gain. -/
def norm (x g : Fin 1024 → EReal) (i : Fin 1024) : EReal :=
  x i * Ideal.rsqrt (Ideal.div (∑ k, x k * x k) (Ideal.ofBits .f32 0x44800000#32) + Ideal.ofBits .f32 0x358637BD#32) * g i

/-- A row, normalized, scaled and shifted. -/
def mod (x g sh sc : Fin 1024 → EReal) (i : Fin 1024) : EReal :=
  norm x g i * (1 + sc i) + sh i

/-- A row times a matrix. -/
def mul {a b : ℕ} (h : Fin a → EReal) (w : Fin a → Fin b → EReal) (j : Fin b) : EReal := ∑ k, h k * w k j

/-- The gated hidden row. -/
def gate {a b : ℕ} (h : Fin a → EReal) (wg wu : Fin a → Fin b → EReal) (j : Fin b) : EReal :=
  mul h wg j * Ideal.logistic (mul h wg j) * mul h wu j

/-- The row after the feed-forward part. -/
def ffn (x g sh sc gt : Fin 1024 → EReal) (wg wu : Fin 1024 → Fin 2816 → EReal) (wd : Fin 2816 → Fin 1024 → EReal) (i : Fin 1024) : EReal :=
  x i + gt i * mul (gate (mod x g sh sc) wg wu) wd i

/-- Two half rows as one. -/
def cat (a b : Fin 512 → EReal) (j : Fin 1024) : EReal := if h : j.val < 512 then a ⟨j.val, h⟩ else b ⟨j.val - 512, by omega⟩

/-- A joined row times a matrix is the halves times its halves. -/
theorem mul_cat {n : ℕ} (a b : Fin 512 → EReal) (w : Fin 1024 → Fin n → EReal) (i : Fin n) :
    mul (cat a b) w i = mul a (fun k => w ⟨k.val, by omega⟩) i + mul b (fun k => w ⟨512 + k.val, by omega⟩) i := by
  unfold mul
  refine (Fin.sum_univ_add (a := 512) (b := 512) _).trans ?_
  refine congrArg₂ (· + ·) rfl ?_
  refine Finset.sum_congr rfl fun k _ => ?_
  have h : ¬ (Fin.natAdd 512 k).val < 512 := by simp
  have e : (⟨(Fin.natAdd 512 k).val - 512, by omega⟩ : Fin 512) = k := Fin.ext (by simp)
  unfold cat
  simp only [h, ↓reduceDIte]
  rw [e]
  rfl

/-- A row with the mixing part added. -/
def mix (x gt y : Fin 1024 → EReal) (w : Fin 1024 → Fin 1024 → EReal) (i : Fin 1024) : EReal := x i + gt i * mul y w i

end Cert.Rows

end
-- ==== Proof.Ffn2.lean ====
module

public import proofs.«01_k».proof.Proof.Rows
public import proofs.«01_k».proof.Proof.Gen.Kernel2Ideal.Value
public import Idealize.ShloMosaic.Lib.StableHlo.ReadAt

@[expose] public section

set_option maxRecDepth 16384

noncomputable section

/-! The feed-forward call with the output projection: its result at an index, over the ideal floats. -/

namespace Cert.Kernel2Ideal.Hand

open Idealize.ShloMosaic Idealize.ShloMosaic.TcCoe Idealize.SL.Sem
open Cert.Kernel2Ideal.Gen

theorem pay3_at (x : FVec Ideal S512x1024 .f32) (md : FVec Ideal S1x6x1024 .f32) (a : FVec Ideal S512x512 .bf16) (wa : FVec Ideal S512x1024 .bf16)
    (b : FVec Ideal S512x512 .bf16) (wb : FVec Ideal S512x1024 .bf16) (r : Fin 512) (k : Fin 1024) :
    k0_pay3 (F := Ideal) x md a wa b wb (ix2 r k)
      = x (ix2 r k) + md (ix3 0 2 k) * (Rows.mul (fun j => a (ix2 r j)) (fun j k => wa (ix2 j k)) k + Rows.mul (fun j => b (ix2 r j)) (fun j k => wb (ix2 j k)) k) := by
  pointwise [k0_pay3, k0_pay2]
  rfl

theorem pay4_at (x : FVec Ideal S512x1024 .f32) (md : FVec Ideal S1x6x1024 .f32) (a : FVec Ideal S512x512 .bf16) (wa : FVec Ideal S512x1024 .bf16)
    (b : FVec Ideal S512x512 .bf16) (wb : FVec Ideal S512x1024 .bf16) (g : FVec Ideal S1x1024 .f32) (r : Fin 512) (k : Fin 1024) :
    k0_pay4 (F := Ideal) x md a wa b wb g (ix2 r k)
      = Rows.norm (fun k => k0_pay3 (F := Ideal) x md a wa b wb (ix2 r k)) (fun k => g (ix2 0 k)) k * (1 + md (ix3 0 4 k)) := by
  unfold k0_pay4
  generalize k0_pay3 (F := Ideal) x md a wa b wb = y
  pointwise [k0_pay2]
  rfl

theorem pay5_at (md : FVec Ideal S1x6x1024 .f32) (r : Fin 512) (k : Fin 1024) : k0_pay5 (F := Ideal) md (ix2 r k) = md (ix3 0 3 k) := by
  pointwise [k0_pay5, k0_pay2]

theorem pay1_at (md : FVec Ideal S1x6x1024 .f32) (x h sh : FVec Ideal S512x1024 .f32) (wg wu : FVec Ideal S1024x2816 .bf16)
    (wd : FVec Ideal S2816x1024 .bf16) (r : Fin 512) (i : Fin 1024) :
    k0_pay1 (F := Ideal) (k0_pay2 (F := Ideal) md) x h sh wg wu wd (ix2 r i)
      = x (ix2 r i) + md (ix3 0 5 i) * Rows.mul (Rows.gate (fun k => h (ix2 r k) + sh (ix2 r k)) (fun k j => wg (ix2 k j)) (fun k j => wu (ix2 k j))) (fun j k => wd (ix2 j k)) i := by
  pointwise [k0_pay1, k0_pay2]
  rfl

/-- What the body leaves in the output block, from its input blocks. -/
theorem out_at (x0 : FVec Ideal S512x1024 .f32) (x1 : FVec Ideal S1x6x1024 .f32) (x2 : FVec Ideal S1x1024 .f32)
    (x3 x4 : FVec Ideal S1024x2816 .bf16) (x5 : FVec Ideal S2816x1024 .bf16) (x6 : FVec Ideal S1x1024 .f32)
    (x7 x8 : FVec Ideal S512x512 .bf16) (x9 x10 : FVec Ideal S512x1024 .bf16) (r : Fin 512) (i : Fin 1024) :
    out0_11 (F := Ideal) x0 x1 x2 x3 x4 x5 x6 x7 x8 x9 x10 (ix2 r i)
      = Rows.ffn (fun k => x0 (ix2 r k) + x1 (ix3 0 2 k) * (Rows.mul (fun j => x7 (ix2 r j)) (fun j k => x9 (ix2 j k)) k + Rows.mul (fun j => x8 (ix2 r j)) (fun j k => x10 (ix2 j k)) k))
          (fun k => x2 (ix2 0 k)) (fun k => x1 (ix3 0 3 k)) (fun k => x1 (ix3 0 4 k)) (fun k => x1 (ix3 0 5 k))
          (fun k j => x3 (ix2 k j)) (fun k j => x4 (ix2 k j)) (fun j k => x5 (ix2 j k)) i := by
  have e : r0_0.emb (ix2 r i) = ix2 r i := by
    funext a
    match a with
    | ⟨0, _⟩ => exact Fin.ext (by show 0 + 1 * r.val = r.val; omega)
    | ⟨1, _⟩ => exact Fin.ext (by show 0 + 1 * i.val = i.val; omega)
  have l0 : View.ld (Val := Elt Ideal) (e' := .f32) x0 r0_0 = x0 := View.ld_unit_zero (by decide) _ _
  have l1 : View.ld (Val := Elt Ideal) (e' := .f32) x1 r0_1 = x1 := View.ld_unit_zero (by decide) _ _
  have l2 : View.ld (Val := Elt Ideal) (e' := .f32) x2 r0_3 = x2 := View.ld_unit_zero (by decide) _ _
  have l3 : View.ld (Val := Elt Ideal) (e' := .bf16) x3 r0_4 = x3 := View.ld_unit_zero (by decide) _ _
  have l4 : View.ld (Val := Elt Ideal) (e' := .bf16) x4 r0_4 = x4 := View.ld_unit_zero (by decide) _ _
  have l5 : View.ld (Val := Elt Ideal) (e' := .bf16) x5 r0_5 = x5 := View.ld_unit_zero (by decide) _ _
  have l7 : View.ld (Val := Elt Ideal) (e' := .bf16) x7 r0_2 = x7 := View.ld_unit_zero (by decide) _ _
  have l8 : View.ld (Val := Elt Ideal) (e' := .bf16) x8 r0_2 = x8 := View.ld_unit_zero (by decide) _ _
  have l9 : View.ld (Val := Elt Ideal) (e' := .bf16) x9 r0_0 = x9 := View.ld_unit_zero (by decide) _ _
  have l10 : View.ld (Val := Elt Ideal) (e' := .bf16) x10 r0_0 = x10 := View.ld_unit_zero (by decide) _ _
  unfold out0_11
  rw [l0, l1, l2, l3, l4, l5, l7, l8, l9, l10]
  refine (congrArg (View.canon _) e.symm).trans ((View.canon_cons_emb _ _ _ _).trans ((pay1_at _ _ _ _ _ _ _ r i).trans ?_))
  simp only [pay4_at, pay5_at, pay3_at]
  rfl

variable (m : (ℓ : Loc nD τ sig) → Buf (Elt Ideal) ℓ) (c : Dev nD)

abbrev argx : FVec Ideal S32x2048x1024 .f32 := m ((c.tc : Thread nD τ).loc main_arg0)
abbrev argya : FVec Ideal S65536x512 .bf16 := m ((c.tc : Thread nD τ).loc main_arg1)
abbrev argyb : FVec Ideal S65536x512 .bf16 := m ((c.tc : Thread nD τ).loc main_arg2)
abbrev argmod : FVec Ideal S32x6144 .f32 := m ((c.tc : Thread nD τ).loc main_arg3)
abbrev argn : FVec Ideal S1024 .f32 := m ((c.tc : Thread nD τ).loc main_arg4)
abbrev argwo : FVec Ideal S1024x1024 .f32 := m ((c.tc : Thread nD τ).loc main_arg5)
abbrev argwg : FVec Ideal S1024x2816 .f32 := m ((c.tc : Thread nD τ).loc main_arg6)
abbrev argwu : FVec Ideal S1024x2816 .f32 := m ((c.tc : Thread nD τ).loc main_arg7)
abbrev argwd : FVec Ideal S2816x1024 .f32 := m ((c.tc : Thread nD τ).loc main_arg8)

/-- The token of a row, its batch element and place. -/
abbrev bat (n : Fin 65536) : Fin 32 := ⟨n.val / 2048, by omega⟩
abbrev pos (n : Fin 65536) : Fin 2048 := ⟨n.val % 2048, by omega⟩

/-! ### What the host hands the launch -/

theorem Vx_at (n : Fin 65536) (k : Fin 1024) : (V m c main_v1 : FVec Ideal S65536x1024 .f32) (ix2 n k) = argx m c (ix3 (bat n) (pos n) k) := by
  have e : V m c main_v1 = shapeCast S65536x1024 (argx m c) shapeCasts_S32x2048x1024_S65536x1024 := by
    unfold V
    after_reads_simp
    rfl
  rw [e]
  pointwise []

theorem Vmod_at (b : Fin 32) (j : Fin 6) (k : Fin 1024) : (V m c main_v2 : FVec Ideal S32x6x1024 .f32) (ix3 b j k) = argmod m c (ix2 b ⟨j.val * 1024 + k.val, by omega⟩) := by
  have e : V m c main_v2 = shapeCast S32x6x1024 (argmod m c) shapeCasts_S32x6144_S32x6x1024 := by
    unfold V
    after_reads_simp
    rfl
  rw [e]
  pointwise []

theorem Vn_at (k : Fin 1024) : (V m c main_v8 : FVec Ideal S1x1024 .f32) (ix2 0 k) = argn m c (ix1 k) := by
  have e : V m c main_v8 = shapeCast S1x1024 (argn m c) shapeCasts_S1024_S1x1024 := by
    unfold V
    after_reads_simp
    rfl
  rw [e]
  pointwise []

theorem V3_eq : (V m c main_v3 : FVec Ideal S1024x2816 .bf16) = (argwg m c : S1024x2816.Idx → EReal) := by
  unfold V
  after_reads_simp
  rfl

theorem V4_eq : (V m c main_v4 : FVec Ideal S1024x2816 .bf16) = (argwu m c : S1024x2816.Idx → EReal) := by
  unfold V
  after_reads_simp
  rfl

theorem V5_eq : (V m c main_v5 : FVec Ideal S2816x1024 .bf16) = (argwd m c : S2816x1024.Idx → EReal) := by
  unfold V
  after_reads_simp
  rfl

theorem V6_at (j : Fin 512) (k : Fin 1024) : (V m c main_v6 : FVec Ideal S512x1024 .bf16) (ix2 j k) = argwo m c (ix2 ⟨j.val, by omega⟩ k) := by
  have e : V m c main_v6 = extractStridedSlice S512x1024 ![0, 0] (truncf .bf16 (argwo m c) bitsLt_bf16_f32 : FVec Ideal S1024x1024 .bf16) slices_S1024x1024_S512x1024_0_0 := by
    unfold V
    after_reads_simp
  rw [e]
  pointwise []

theorem V7_at (j : Fin 512) (k : Fin 1024) : (V m c main_v7 : FVec Ideal S512x1024 .bf16) (ix2 j k) = argwo m c (ix2 ⟨512 + j.val, by omega⟩ k) := by
  have e : V m c main_v7 = extractStridedSlice S512x1024 ![512, 0] (truncf .bf16 (argwo m c) bitsLt_bf16_f32 : FVec Ideal S1024x1024 .bf16) slices_S1024x1024_S512x1024_512_0 := by
    unfold V
    after_reads_simp
  rw [e]
  pointwise []

/-! ### The blocks of a point -/

theorem tlt (t : Fin cfg0.N) : t.val < 128 := N_0 ▸ t.isLt

theorem read0_at (A : FVec Ideal S65536x1024 .f32) (t : Fin cfg0.N) (r : Fin 512) (k : Fin 1024) :
    ((cfg0.win 0).blk t).view.read (Elt Ideal) A (ix2 r k) = A (ix2 ⟨512 * t.val + r.val, by have := tlt t; omega⟩ k) := by
  have h0 : win0_0.index t 0 = t.val := by revert t; decide +kernel
  have h1 : win0_0.index t 1 = 0 := by revert t; decide +kernel
  rw [View.read_apply]
  show A _ = A _
  refine congrArg A (funext fun a => Fin.ext ?_)
  match a with
  | ⟨0, _⟩ => show win0_0.index t 0 * 512 + 1 * r.val = 512 * t.val + r.val; rw [h0]; omega
  | ⟨1, _⟩ => show win0_0.index t 1 * 1024 + 1 * k.val = k.val; rw [h1]; omega

theorem read1_at (A : FVec Ideal S32x6x1024 .f32) (t : Fin cfg0.N) (j : Fin 6) (k : Fin 1024) :
    ((cfg0.win 1).blk t).view.read (Elt Ideal) A (ix3 0 j k) = A (ix3 ⟨t.val / 4, by have := tlt t; omega⟩ j k) := by
  have h0 : win0_1.index t 0 = t.val / 4 := by revert t; decide +kernel
  have h1 : win0_1.index t 1 = 0 := by revert t; decide +kernel
  have h2 : win0_1.index t 2 = 0 := by revert t; decide +kernel
  rw [View.read_apply]
  show A _ = A _
  refine congrArg A (funext fun a => Fin.ext ?_)
  match a with
  | ⟨0, _⟩ => show win0_1.index t 0 * 1 + 1 * 0 = t.val / 4; rw [h0]; omega
  | ⟨1, _⟩ => show win0_1.index t 1 * 6 + 1 * j.val = j.val; rw [h1]; omega
  | ⟨2, _⟩ => show win0_1.index t 2 * 1024 + 1 * k.val = k.val; rw [h2]; omega

theorem read2_at (A : FVec Ideal S1x1024 .f32) (t : Fin cfg0.N) (j : Fin 1) (k : Fin 1024) :
    ((cfg0.win 2).blk t).view.read (Elt Ideal) A (ix2 j k) = A (ix2 j k) := by
  have h0 : win0_2.index t 0 = 0 := by revert t; decide +kernel
  have h1 : win0_2.index t 1 = 0 := by revert t; decide +kernel
  rw [View.read_apply]
  show A _ = A _
  refine congrArg A (funext fun a => Fin.ext ?_)
  match a with
  | ⟨0, _⟩ => show win0_2.index t 0 * 1 + 1 * j.val = j.val; rw [h0]; omega
  | ⟨1, _⟩ => show win0_2.index t 1 * 1024 + 1 * k.val = k.val; rw [h1]; omega

theorem read3_at (A : FVec Ideal S1024x2816 .bf16) (t : Fin cfg0.N) (j : Fin 1024) (k : Fin 2816) :
    ((cfg0.win 3).blk t).view.read (Elt Ideal) A (ix2 j k) = A (ix2 j k) := by
  have h0 : win0_3.index t 0 = 0 := by revert t; decide +kernel
  have h1 : win0_3.index t 1 = 0 := by revert t; decide +kernel
  rw [View.read_apply]
  show A _ = A _
  refine congrArg A (funext fun a => Fin.ext ?_)
  match a with
  | ⟨0, _⟩ => show win0_3.index t 0 * 1024 + 1 * j.val = j.val; rw [h0]; omega
  | ⟨1, _⟩ => show win0_3.index t 1 * 2816 + 1 * k.val = k.val; rw [h1]; omega

theorem read4_at (A : FVec Ideal S1024x2816 .bf16) (t : Fin cfg0.N) (j : Fin 1024) (k : Fin 2816) :
    ((cfg0.win 4).blk t).view.read (Elt Ideal) A (ix2 j k) = A (ix2 j k) := by
  have h0 : win0_4.index t 0 = 0 := by revert t; decide +kernel
  have h1 : win0_4.index t 1 = 0 := by revert t; decide +kernel
  rw [View.read_apply]
  show A _ = A _
  refine congrArg A (funext fun a => Fin.ext ?_)
  match a with
  | ⟨0, _⟩ => show win0_4.index t 0 * 1024 + 1 * j.val = j.val; rw [h0]; omega
  | ⟨1, _⟩ => show win0_4.index t 1 * 2816 + 1 * k.val = k.val; rw [h1]; omega

theorem read5_at (A : FVec Ideal S2816x1024 .bf16) (t : Fin cfg0.N) (j : Fin 2816) (k : Fin 1024) :
    ((cfg0.win 5).blk t).view.read (Elt Ideal) A (ix2 j k) = A (ix2 j k) := by
  have h0 : win0_5.index t 0 = 0 := by revert t; decide +kernel
  have h1 : win0_5.index t 1 = 0 := by revert t; decide +kernel
  rw [View.read_apply]
  show A _ = A _
  refine congrArg A (funext fun a => Fin.ext ?_)
  match a with
  | ⟨0, _⟩ => show win0_5.index t 0 * 2816 + 1 * j.val = j.val; rw [h0]; omega
  | ⟨1, _⟩ => show win0_5.index t 1 * 1024 + 1 * k.val = k.val; rw [h1]; omega

theorem read7_at (A : FVec Ideal S65536x512 .bf16) (t : Fin cfg0.N) (r : Fin 512) (k : Fin 512) :
    ((cfg0.win 7).blk t).view.read (Elt Ideal) A (ix2 r k) = A (ix2 ⟨512 * t.val + r.val, by have := tlt t; omega⟩ k) := by
  have h0 : win0_7.index t 0 = t.val := by revert t; decide +kernel
  have h1 : win0_7.index t 1 = 0 := by revert t; decide +kernel
  rw [View.read_apply]
  show A _ = A _
  refine congrArg A (funext fun a => Fin.ext ?_)
  match a with
  | ⟨0, _⟩ => show win0_7.index t 0 * 512 + 1 * r.val = 512 * t.val + r.val; rw [h0]; omega
  | ⟨1, _⟩ => show win0_7.index t 1 * 512 + 1 * k.val = k.val; rw [h1]; omega

theorem read8_at (A : FVec Ideal S65536x512 .bf16) (t : Fin cfg0.N) (r : Fin 512) (k : Fin 512) :
    ((cfg0.win 8).blk t).view.read (Elt Ideal) A (ix2 r k) = A (ix2 ⟨512 * t.val + r.val, by have := tlt t; omega⟩ k) := by
  have h0 : win0_8.index t 0 = t.val := by revert t; decide +kernel
  have h1 : win0_8.index t 1 = 0 := by revert t; decide +kernel
  rw [View.read_apply]
  show A _ = A _
  refine congrArg A (funext fun a => Fin.ext ?_)
  match a with
  | ⟨0, _⟩ => show win0_8.index t 0 * 512 + 1 * r.val = 512 * t.val + r.val; rw [h0]; omega
  | ⟨1, _⟩ => show win0_8.index t 1 * 512 + 1 * k.val = k.val; rw [h1]; omega

theorem read9_at (A : FVec Ideal S512x1024 .bf16) (t : Fin cfg0.N) (j : Fin 512) (k : Fin 1024) :
    ((cfg0.win 9).blk t).view.read (Elt Ideal) A (ix2 j k) = A (ix2 j k) := by
  have h0 : win0_9.index t 0 = 0 := by revert t; decide +kernel
  have h1 : win0_9.index t 1 = 0 := by revert t; decide +kernel
  rw [View.read_apply]
  show A _ = A _
  refine congrArg A (funext fun a => Fin.ext ?_)
  match a with
  | ⟨0, _⟩ => show win0_9.index t 0 * 512 + 1 * j.val = j.val; rw [h0]; omega
  | ⟨1, _⟩ => show win0_9.index t 1 * 1024 + 1 * k.val = k.val; rw [h1]; omega

theorem read10_at (A : FVec Ideal S512x1024 .bf16) (t : Fin cfg0.N) (j : Fin 512) (k : Fin 1024) :
    ((cfg0.win 10).blk t).view.read (Elt Ideal) A (ix2 j k) = A (ix2 j k) := by
  have h0 : win0_10.index t 0 = 0 := by revert t; decide +kernel
  have h1 : win0_10.index t 1 = 0 := by revert t; decide +kernel
  rw [View.read_apply]
  show A _ = A _
  refine congrArg A (funext fun a => Fin.ext ?_)
  match a with
  | ⟨0, _⟩ => show win0_10.index t 0 * 512 + 1 * j.val = j.val; rw [h0]; omega
  | ⟨1, _⟩ => show win0_10.index t 1 * 1024 + 1 * k.val = k.val; rw [h1]; omega

theorem read11_at (A : FVec Ideal S65536x1024 .f32) (t : Fin cfg0.N) (r : Fin 512) (k : Fin 1024) :
    ((cfg0.win 11).blk t).view.read (Elt Ideal) A (ix2 r k) = A (ix2 ⟨512 * t.val + r.val, by have := tlt t; omega⟩ k) := by
  have h0 : win0_11.index t 0 = t.val := by revert t; decide +kernel
  have h1 : win0_11.index t 1 = 0 := by revert t; decide +kernel
  rw [View.read_apply]
  show A _ = A _
  refine congrArg A (funext fun a => Fin.ext ?_)
  match a with
  | ⟨0, _⟩ => show win0_11.index t 0 * 512 + 1 * r.val = 512 * t.val + r.val; rw [h0]; omega
  | ⟨1, _⟩ => show win0_11.index t 1 * 1024 + 1 * k.val = k.val; rw [h1]; omega

/-! ### The result array -/

/-- The result at a row and a column, of the argument arrays. -/
def outAt (x : FVec Ideal S32x2048x1024 .f32) (ya yb : FVec Ideal S65536x512 .bf16) (md : FVec Ideal S32x6144 .f32) (g : FVec Ideal S1024 .f32)
    (wo : FVec Ideal S1024x1024 .f32) (wg wu : FVec Ideal S1024x2816 .f32) (wd : FVec Ideal S2816x1024 .f32) (n : Fin 65536) (i : Fin 1024) : EReal :=
  Rows.ffn (Rows.mix (fun k => x (ix3 (bat n) (pos n) k)) (fun k => md (ix2 (bat n) ⟨2 * 1024 + k.val, by omega⟩))
      (Rows.cat (fun j => ya (ix2 n j)) (fun j => yb (ix2 n j))) (fun j k => wo (ix2 j k)))
    (fun k => g (ix1 k)) (fun k => md (ix2 (bat n) ⟨3 * 1024 + k.val, by omega⟩))
    (fun k => md (ix2 (bat n) ⟨4 * 1024 + k.val, by omega⟩)) (fun k => md (ix2 (bat n) ⟨5 * 1024 + k.val, by omega⟩))
    (fun k j => wg (ix2 k j)) (fun k j => wu (ix2 k j)) (fun j k => wd (ix2 j k)) i

/-- The result array. -/
def result : FVec Ideal S65536x1024 .f32 := fun i =>
  outAt (argx m c) (argya m c) (argyb m c) (argmod m c) (argn m c) (argwo m c) (argwg m c) (argwu m c) (argwd m c) (i 0) (i 1)

theorem outs_at (t : Fin cfg0.N) (r : Fin 512) (i : Fin 1024) :
    out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r i)
      = result m c (ix2 ⟨512 * t.val + r.val, by have := tlt t; omega⟩ i) := by
  have ht := tlt t
  have hb : (⟨t.val / 4, by omega⟩ : Fin 32) = bat ⟨512 * t.val + r.val, by omega⟩ := Fin.ext (by show t.val / 4 = (512 * t.val + r.val) / 2048; omega)
  have b0 : ∀ k, (iblk m c 0 t : FVec Ideal S512x1024 .f32) (ix2 r k) = argx m c (ix3 (bat ⟨512 * t.val + r.val, by omega⟩) (pos ⟨512 * t.val + r.val, by omega⟩) k) :=
    fun k => (read0_at _ t r k).trans (Vx_at m c _ k)
  have b1 : ∀ j k, (iblk m c 1 t : FVec Ideal S1x6x1024 .f32) (ix3 0 j k) = argmod m c (ix2 (bat ⟨512 * t.val + r.val, by omega⟩) ⟨j.val * 1024 + k.val, by omega⟩) :=
    fun j k => (read1_at _ t j k).trans ((Vmod_at m c _ j k).trans (by rw [hb]))
  have b2 : ∀ k, (iblk m c 2 t : FVec Ideal S1x1024 .f32) (ix2 0 k) = argn m c (ix1 k) := fun k => (read2_at _ t 0 k).trans (Vn_at m c k)
  have b3 : ∀ k j, (iblk m c 3 t : FVec Ideal S1024x2816 .bf16) (ix2 k j) = argwg m c (ix2 k j) := fun k j => (read3_at _ t k j).trans (congrFun (V3_eq m c) _)
  have b4 : ∀ k j, (iblk m c 4 t : FVec Ideal S1024x2816 .bf16) (ix2 k j) = argwu m c (ix2 k j) := fun k j => (read4_at _ t k j).trans (congrFun (V4_eq m c) _)
  have b5 : ∀ k j, (iblk m c 5 t : FVec Ideal S2816x1024 .bf16) (ix2 k j) = argwd m c (ix2 k j) := fun k j => (read5_at _ t k j).trans (congrFun (V5_eq m c) _)
  have b7 : ∀ k, (iblk m c 7 t : FVec Ideal S512x512 .bf16) (ix2 r k) = argya m c (ix2 ⟨512 * t.val + r.val, by omega⟩ k) :=
    fun k => (read7_at _ t r k).trans (congrFun (V_main_arg1 m c) _)
  have b8 : ∀ k, (iblk m c 8 t : FVec Ideal S512x512 .bf16) (ix2 r k) = argyb m c (ix2 ⟨512 * t.val + r.val, by omega⟩ k) :=
    fun k => (read8_at _ t r k).trans (congrFun (V_main_arg2 m c) _)
  have b9 : ∀ k j, (iblk m c 9 t : FVec Ideal S512x1024 .bf16) (ix2 k j) = argwo m c (ix2 ⟨k.val, by omega⟩ j) := fun k j => (read9_at _ t k j).trans (V6_at m c k j)
  have b10 : ∀ k j, (iblk m c 10 t : FVec Ideal S512x1024 .bf16) (ix2 k j) = argwo m c (ix2 ⟨512 + k.val, by omega⟩ j) := fun k j => (read10_at _ t k j).trans (V7_at m c k j)
  refine (out_at _ _ _ _ _ _ _ _ _ _ _ r i).trans ?_
  simp only [b0, b1, b2, b3, b4, b5, b7, b8, b9, b10]
  show _ = outAt _ _ _ _ _ _ _ _ _ ⟨512 * t.val + r.val, _⟩ i
  unfold outAt Rows.mix
  simp only [Rows.mul_cat]
  rfl

theorem flushed_eq (t : Fin cfg0.N) (hf : (cfg0.win 11).flush t = true) :
    (dats m 0 c).flushed 11 t = ((cfg0.win 11).blk t).view.read (Elt Ideal) (result m c) := by
  show (cfg0.win 11).cut (grid0.coords t) ((dats m 0 c).after 11 t) = _
  rw [after0_11]
  funext i
  obtain ⟨r, e, rfl⟩ : ∃ (r : Fin 512) (e : Fin 1024), i = ix2 r e := ⟨i 0, i 1, by
    funext a
    match a with
    | ⟨0, _⟩ => rfl
    | ⟨1, _⟩ => rfl⟩
  refine Eq.trans ?_ ((outs_at m c t r e).trans (read11_at (result m c) t r e).symm)
  rfl

theorem final_o : (dats m 0 c).arrAt 11 cfg0.N = result m c :=
  (dats m 0 c).arrAt_eq_of_cover 11 (result m c) (flushed_eq m c) fun i => by
    have h0 : (i 0 : Nat) < 65536 := (i 0).isLt
    have h1 : (i 1 : Nat) < 1024 := (i 1).isLt
    have hN : cfg0.N = 128 := N_0
    obtain ⟨t, ht⟩ : ∃ t : Fin cfg0.N, t.val = (i 0 : Nat) / 512 := ⟨⟨(i 0 : Nat) / 512, by omega⟩, rfl⟩
    refine ⟨t, flush0_11 t, ?_⟩
    show i ∈ ((View.whole main_v10).slice (win0_11.rect t)).set
    rw [View.set_slice_whole, Rect.mem_set_unit]
    have i0 : win0_11.index t 0 = t.val := by clear ht; revert t; decide +kernel
    have i1 : win0_11.index t 1 = 0 := by clear ht; revert t; decide +kernel
    have s0 : win0_11.xsize (grid0.coords t) 0 = 512 := by clear ht i0 i1; revert t; decide +kernel
    have s1 : win0_11.xsize (grid0.coords t) 1 = 1024 := by clear ht i0 i1 s0; revert t; decide +kernel
    intro a
    match a with
    | ⟨0, _⟩ => show win0_11.index t 0 * 512 ≤ (i 0 : Nat) ∧ (i 0 : Nat) < win0_11.index t 0 * 512 + win0_11.xsize (grid0.coords t) 0
                rw [i0, s0]; omega
    | ⟨1, _⟩ => show win0_11.index t 1 * 1024 ≤ (i 1 : Nat) ∧ (i 1 : Nat) < win0_11.index t 1 * 1024 + win0_11.xsize (grid0.coords t) 1
                rw [i1, s1]; omega

end Cert.Kernel2Ideal.Hand

end
-- ==== Proof.Ffn2Ref.lean ====
module

public import proofs.«01_k».proof.Proof.Rows
public import proofs.«01_k».proof.Proof.Gen.Reference2Ideal.Run

@[expose] public section

set_option maxRecDepth 16384

noncomputable section

/-! The reference of the first feed-forward call, at an index, over the ideal floats. -/

namespace Cert.Reference2Ideal.Hand

open Cert.Reference2Ideal Cert.Reference2Ideal.Gen
open Idealize.ShloMosaic Idealize.ShloMosaic.TcCoe Idealize.SL.Sem

/-- The normalized array. -/
def norm (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

/-- The scaled and shifted array. -/
def modulate (h : FVec Ideal S32x2048x1024 .f32) (md : FVec Ideal S32x6144 .f32) : FVec Ideal S32x2048x1024 .f32 :=
  addf (mulf h (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![0, 4096] md slices_S32x6144_S32x1024_0_4096)))))
    (broadcastInDim S32x2048x1024 ![0, 1, 2] bcast_S32x1x1024_S32x2048x1024_0_1_2 (broadcastInDim S32x1x1024 ![0, 2] bcast_S32x1024_S32x1x1024_0_2 (extractStridedSlice S32x1024 ![0, 3072] md slices_S32x6144_S32x1024_0_3072)))

/-- An array times a hidden weight. -/
def hid (h : FVec Ideal S32x2048x1024 .f32) (w : FVec Ideal S1024x2816 .f32) : FVec Ideal S32x2048x2816 .f32 :=
  Host.dotGeneral dot_S32x2048x1024_S1024x2816_S32x2048x2816_2_0_01_1_n_n none h w

/-- The gated hidden array. -/
def gate (u v : FVec Ideal S32x2048x2816 .f32) : FVec Ideal S32x2048x2816 .f32 :=
  mulf (mulf u (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf u))))) v

/-- The array with the feed-forward part added. -/
def down (x : FVec Ideal S32x2048x1024 .f32) (md : FVec Ideal S32x6144 .f32) (a : FVec Ideal S32x2048x2816 .f32) (wd : FVec Ideal S2816x1024 .f32) : FVec Ideal S32x2048x1024 .f32 :=
  addf x (mulf (broadcastInDim S32x2048x1024 ![0, 1, 2] bcast_S32x1x1024_S32x2048x1024_0_1_2 (broadcastInDim S32x1x1024 ![0, 2] bcast_S32x1024_S32x1x1024_0_2 (extractStridedSlice S32x1024 ![0, 5120] md slices_S32x6144_S32x1024_0_5120))) (Host.dotGeneral dot_S32x2048x2816_S2816x1024_S32x2048x1024_2_0_01_1_n_n none a wd))

/-- The array with the mixing part added. -/
def mixed (x : FVec Ideal S32x2048x1024 .f32) (ya yb : FVec Ideal S65536x512 .bf16) (md : FVec Ideal S32x6144 .f32) (wo : FVec Ideal S1024x1024 .f32) : FVec Ideal S32x2048x1024 .f32 :=
  addf x (mulf (broadcastInDim S32x2048x1024 ![0, 1, 2] bcast_S32x1x1024_S32x2048x1024_0_1_2 (broadcastInDim S32x1x1024 ![0, 2] bcast_S32x1024_S32x1x1024_0_2 (extractStridedSlice S32x1024 ![0, 2048] md slices_S32x6144_S32x1024_0_2048)))
    (Host.dotGeneral dot_S32x2048x1024_S1024x1024_S32x2048x1024_2_0_01_1_n_n none (shapeCast S32x2048x1024 (extf .f32 (concatenate S65536x1024 1 [⟨S65536x512, ya⟩, ⟨S65536x512, yb⟩] concatenates_S65536x512_S65536x512_S65536x1024_d1) bitsLt_bf16_f32) shapeCasts_S65536x1024_S32x2048x1024) wo))

/-- The array after the feed-forward part. -/
def ffn (x : FVec Ideal S32x2048x1024 .f32) (md : FVec Ideal S32x6144 .f32) (g : FVec Ideal S1024 .f32) (wg wu : FVec Ideal S1024x2816 .f32)
    (wd : FVec Ideal S2816x1024 .f32) : FVec Ideal S32x2048x1024 .f32 :=
  down x md (gate (hid (modulate (norm x g) md) wg) (hid (modulate (norm x g) md) wu)) wd

def refOut (x : FVec Ideal S32x2048x1024 .f32) (ya yb : FVec Ideal S65536x512 .bf16) (md : FVec Ideal S32x6144 .f32) (g : FVec Ideal S1024 .f32)
    (wo : FVec Ideal S1024x1024 .f32) (wg wu : FVec Ideal S1024x2816 .f32) (wd : FVec Ideal S2816x1024 .f32) : FVec Ideal S65536x1024 .f32 :=
  shapeCast S65536x1024 (ffn (mixed x ya yb md wo) md g wg wu wd) shapeCasts_S32x2048x1024_S65536x1024

theorem res_eq (m : (ℓ : Loc nD τ sig) → Buf (Elt Ideal) ℓ) (c : Dev nD) :
    Cert.Reference2Ideal.Value.res_main_v44 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) := by
  unfold Cert.Reference2Ideal.Value.res_main_v44 refOut ffn mixed down gate hid modulate norm
  rfl

theorem norm_at (x : FVec Ideal S32x2048x1024 .f32) (g : FVec Ideal S1024 .f32) (b : Fin 32) (s : Fin 2048) (i : Fin 1024) :
    norm x g (ix3 b s i) = Rows.norm (fun k => x (ix3 b s k)) (fun k => g (ix1 k)) i := by
  pointwise [norm]
  rfl

theorem modulate_at (h : FVec Ideal S32x2048x1024 .f32) (md : FVec Ideal S32x6144 .f32) (b : Fin 32) (s : Fin 2048) (i : Fin 1024) :
    modulate h md (ix3 b s i) = h (ix3 b s i) * (1 + md (ix2 b ⟨4 * 1024 + i.val, by omega⟩)) + md (ix2 b ⟨3 * 1024 + i.val, by omega⟩) := by
  pointwise [modulate]

theorem hid_at (h : FVec Ideal S32x2048x1024 .f32) (w : FVec Ideal S1024x2816 .f32) (b : Fin 32) (s : Fin 2048) (j : Fin 2816) :
    hid h w (ix3 b s j) = Rows.mul (fun k => h (ix3 b s k)) (fun k j => w (ix2 k j)) j := by
  pointwise [hid]
  rfl

theorem gate_at (u v : FVec Ideal S32x2048x2816 .f32) (b : Fin 32) (s : Fin 2048) (j : Fin 2816) :
    gate u v (ix3 b s j) = u (ix3 b s j) * Ideal.logistic (u (ix3 b s j)) * v (ix3 b s j) := by
  pointwise [gate]
  rfl

theorem down_at (x : FVec Ideal S32x2048x1024 .f32) (md : FVec Ideal S32x6144 .f32) (a : FVec Ideal S32x2048x2816 .f32) (wd : FVec Ideal S2816x1024 .f32)
    (b : Fin 32) (s : Fin 2048) (i : Fin 1024) :
    down x md a wd (ix3 b s i) = x (ix3 b s i) + md (ix2 b ⟨5 * 1024 + i.val, by omega⟩) * Rows.mul (fun k => a (ix3 b s k)) (fun k j => wd (ix2 k j)) i := by
  pointwise [down]
  rfl

theorem mixed_at (x : FVec Ideal S32x2048x1024 .f32) (ya yb : FVec Ideal S65536x512 .bf16) (md : FVec Ideal S32x6144 .f32) (wo : FVec Ideal S1024x1024 .f32)
    (n : Fin 65536) (i : Fin 1024) :
    mixed x ya yb md wo (ix3 ⟨n.val / 2048, by omega⟩ ⟨n.val % 2048, by omega⟩ i)
      = Rows.mix (fun k => x (ix3 ⟨n.val / 2048, by omega⟩ ⟨n.val % 2048, by omega⟩ k)) (fun k => md (ix2 ⟨n.val / 2048, by omega⟩ ⟨2 * 1024 + k.val, by omega⟩))
          (Rows.cat (fun j => ya (ix2 n j)) (fun j => yb (ix2 n j))) (fun j k => wo (ix2 j k)) i := by
  pointwise [mixed]
  unfold Rows.mix
  rw [Rows.mul_cat]
  rfl

theorem out_at (x : FVec Ideal S32x2048x1024 .f32) (ya yb : FVec Ideal S65536x512 .bf16) (md : FVec Ideal S32x6144 .f32) (g : FVec Ideal S1024 .f32)
    (wo : FVec Ideal S1024x1024 .f32) (wg wu : FVec Ideal S1024x2816 .f32) (wd : FVec Ideal S2816x1024 .f32) (n : Fin 65536) (i : Fin 1024) :
    refOut x ya yb md g wo wg wu wd (ix2 n i)
      = Rows.ffn (Rows.mix (fun k => x (ix3 ⟨n.val / 2048, by omega⟩ ⟨n.val % 2048, by omega⟩ k)) (fun k => md (ix2 ⟨n.val / 2048, by omega⟩ ⟨2 * 1024 + k.val, by omega⟩))
          (Rows.cat (fun j => ya (ix2 n j)) (fun j => yb (ix2 n j))) (fun j k => wo (ix2 j k)))
          (fun k => g (ix1 k)) (fun k => md (ix2 ⟨n.val / 2048, by omega⟩ ⟨3 * 1024 + k.val, by omega⟩))
          (fun k => md (ix2 ⟨n.val / 2048, by omega⟩ ⟨4 * 1024 + k.val, by omega⟩)) (fun k => md (ix2 ⟨n.val / 2048, by omega⟩ ⟨5 * 1024 + k.val, by omega⟩))
          (fun k j => wg (ix2 k j)) (fun k j => wu (ix2 k j)) (fun j k => wd (ix2 j k)) i := by
  unfold refOut
  generalize he : ffn (mixed x ya yb md wo) md g wg wu wd = y
  pointwise []
  rw [← he]
  unfold ffn
  simp only [norm_at, down_at, gate_at, hid_at, modulate_at, mixed_at]
  rfl

end Cert.Reference2Ideal.Hand

end
-- ==== Proof.Ffn3.lean ====
module

public import proofs.«01_k».proof.Proof.Rows
public import proofs.«01_k».proof.Proof.Gen.Kernel3Ideal.Value
public import Idealize.ShloMosaic.Lib.StableHlo.ReadAt

@[expose] public section

set_option maxRecDepth 16384

noncomputable section

/-! The feed-forward call: its result at an index, over the ideal floats. -/

namespace Cert.Kernel3Ideal.Hand

open Idealize.ShloMosaic Idealize.ShloMosaic.TcCoe Idealize.SL.Sem
open Cert.Kernel3Ideal.Gen

theorem pay4_at (x : FVec Ideal S512x1024 .f32) (md : FVec Ideal S1x6x1024 .f32) (g : FVec Ideal S1x1024 .f32)
    (wg wu : FVec Ideal S1024x2816 .bf16) (r : Fin 512) (j : Fin 2816) :
    k0_pay4 (F := Ideal) x md g wg wu (ix2 r j)
      = Rows.gate (Rows.mod (fun k => x (ix2 r k)) (fun k => g (ix2 0 k)) (fun k => md (ix3 0 3 k)) (fun k => md (ix3 0 4 k)))
          (fun k j => wg (ix2 k j)) (fun k j => wu (ix2 k j)) j := by
  pointwise [k0_pay4, k0_pay2, k0_pay3]
  rfl

theorem pay1_at (x : FVec Ideal S512x1024 .f32) (a : FVec Ideal S512x2816 .bf16) (gt : FVec Ideal S1x1024 .f32)
    (wd : FVec Ideal S2816x1024 .bf16) (fn : FVec Ideal S1x1024 .f32) (r : Fin 512) (i : Fin 1024) :
    k0_pay1 (F := Ideal) x a gt wd fn (ix2 r i)
      = Rows.norm (fun k => x (ix2 r k) + gt (ix2 0 k) * Rows.mul (fun j => a (ix2 r j)) (fun j k => wd (ix2 j k)) k) (fun k => fn (ix2 0 k)) i := by
  pointwise [k0_pay1]
  rfl

theorem pay5_at (md : FVec Ideal S1x6x1024 .f32) (k : Fin 1024) : k0_pay5 (F := Ideal) md (ix2 0 k) = md (ix3 0 5 k) := by
  pointwise [k0_pay5, k0_pay3]

theorem pay2_at (x : FVec Ideal S512x1024 .f32) (r : Fin 512) (k : Fin 1024) : k0_pay2 (F := Ideal) x (ix2 r k) = x (ix2 r k) := by
  pointwise [k0_pay2]

theorem pay6_at (x : FVec Ideal S2816x1024 .bf16) (j : Fin 2816) (k : Fin 1024) : k0_pay6 (F := Ideal) x (ix2 j k) = x (ix2 j k) := by
  pointwise [k0_pay6]

/-- What the body leaves in the output block, from its input blocks. -/
theorem out_at (x0 : FVec Ideal S512x1024 .f32) (x1 : FVec Ideal S1x6x1024 .f32) (x2 : FVec Ideal S1x1024 .f32)
    (x3 x4 : FVec Ideal S1024x2816 .bf16) (x5 : FVec Ideal S2816x1024 .bf16) (x6 : FVec Ideal S1x1024 .f32) (r : Fin 512) (i : Fin 1024) :
    out0_7 (F := Ideal) x0 x1 x2 x3 x4 x5 x6 (ix2 r i)
      = Rows.norm (Rows.ffn (fun k => x0 (ix2 r k)) (fun k => x2 (ix2 0 k)) (fun k => x1 (ix3 0 3 k)) (fun k => x1 (ix3 0 4 k)) (fun k => x1 (ix3 0 5 k))
          (fun k j => x3 (ix2 k j)) (fun k j => x4 (ix2 k j)) (fun j k => x5 (ix2 j k))) (fun k => x6 (ix2 0 k)) i := by
  have e : r0_0.emb (ix2 r i) = ix2 r i := by
    funext a
    match a with
    | ⟨0, _⟩ => exact Fin.ext (by show 0 + 1 * r.val = r.val; omega)
    | ⟨1, _⟩ => exact Fin.ext (by show 0 + 1 * i.val = i.val; omega)
  have l0 : View.ld (Val := Elt Ideal) (e' := .f32) x0 r0_0 = x0 := View.ld_unit_zero (by decide) _ _
  have l1 : View.ld (Val := Elt Ideal) (e' := .f32) x1 r0_1 = x1 := View.ld_unit_zero (by decide) _ _
  have l2 : View.ld (Val := Elt Ideal) (e' := .f32) x2 r0_2 = x2 := View.ld_unit_zero (by decide) _ _
  have l3 : View.ld (Val := Elt Ideal) (e' := .bf16) x3 r0_3 = x3 := View.ld_unit_zero (by decide) _ _
  have l4 : View.ld (Val := Elt Ideal) (e' := .bf16) x4 r0_3 = x4 := View.ld_unit_zero (by decide) _ _
  have l5 : View.ld (Val := Elt Ideal) (e' := .bf16) x5 r0_4 = x5 := View.ld_unit_zero (by decide) _ _
  have l6 : View.ld (Val := Elt Ideal) (e' := .f32) x6 r0_2 = x6 := View.ld_unit_zero (by decide) _ _
  unfold out0_7
  rw [l0, l1, l2, l3, l4, l5, l6]
  refine (congrArg (View.canon _) e.symm).trans ((View.canon_cons_emb _ _ _ _).trans ((pay1_at _ _ _ _ _ r i).trans ?_))
  simp only [pay4_at, pay5_at, pay2_at, pay6_at]
  rfl

variable (m : (ℓ : Loc nD τ sig) → Buf (Elt Ideal) ℓ) (c : Dev nD)

abbrev argx : FVec Ideal S32x2048x1024 .f32 := m ((c.tc : Thread nD τ).loc main_arg0)
abbrev argmod : FVec Ideal S32x6144 .f32 := m ((c.tc : Thread nD τ).loc main_arg1)
abbrev argn : FVec Ideal S1024 .f32 := m ((c.tc : Thread nD τ).loc main_arg2)
abbrev argwg : FVec Ideal S1024x2816 .f32 := m ((c.tc : Thread nD τ).loc main_arg3)
abbrev argwu : FVec Ideal S1024x2816 .f32 := m ((c.tc : Thread nD τ).loc main_arg4)
abbrev argwd : FVec Ideal S2816x1024 .f32 := m ((c.tc : Thread nD τ).loc main_arg5)
abbrev argfn : FVec Ideal S1024 .f32 := m ((c.tc : Thread nD τ).loc main_arg6)

/-- The token of a row, its batch element and place. -/
abbrev bat (n : Fin 65536) : Fin 32 := ⟨n.val / 2048, by omega⟩
abbrev pos (n : Fin 65536) : Fin 2048 := ⟨n.val % 2048, by omega⟩

/-! ### What the host hands the launch -/

theorem V0_at (n : Fin 65536) (k : Fin 1024) : (V m c main_v0 : FVec Ideal S65536x1024 .f32) (ix2 n k) = argx m c (ix3 (bat n) (pos n) k) := by
  have e : V m c main_v0 = shapeCast S65536x1024 (argx m c) shapeCasts_S32x2048x1024_S65536x1024 := by
    unfold V
    after_reads_simp
    rfl
  rw [e]
  pointwise []

theorem V1_at (b : Fin 32) (j : Fin 6) (k : Fin 1024) : (V m c main_v1 : FVec Ideal S32x6x1024 .f32) (ix3 b j k) = argmod m c (ix2 b ⟨j.val * 1024 + k.val, by omega⟩) := by
  have e : V m c main_v1 = shapeCast S32x6x1024 (argmod m c) shapeCasts_S32x6144_S32x6x1024 := by
    unfold V
    after_reads_simp
    rfl
  rw [e]
  pointwise []

theorem V2_eq : (V m c main_v2 : FVec Ideal S1024x2816 .bf16) = (argwg m c : S1024x2816.Idx → EReal) := by
  unfold V
  after_reads_simp
  rfl

theorem V3_eq : (V m c main_v3 : FVec Ideal S1024x2816 .bf16) = (argwu m c : S1024x2816.Idx → EReal) := by
  unfold V
  after_reads_simp
  rfl

theorem V4_eq : (V m c main_v4 : FVec Ideal S2816x1024 .bf16) = (argwd m c : S2816x1024.Idx → EReal) := by
  unfold V
  after_reads_simp
  rfl

theorem V5_at (k : Fin 1024) : (V m c main_v5 : FVec Ideal S1x1024 .f32) (ix2 0 k) = argn m c (ix1 k) := by
  have e : V m c main_v5 = shapeCast S1x1024 (argn m c) shapeCasts_S1024_S1x1024 := by
    unfold V
    after_reads_simp
    rfl
  rw [e]
  pointwise []

theorem V6_at (k : Fin 1024) : (V m c main_v6 : FVec Ideal S1x1024 .f32) (ix2 0 k) = argfn m c (ix1 k) := by
  have e : V m c main_v6 = shapeCast S1x1024 (argfn m c) shapeCasts_S1024_S1x1024 := by
    unfold V
    after_reads_simp
    rfl
  rw [e]
  pointwise []

/-! ### The blocks of a point -/

theorem tlt (t : Fin cfg0.N) : t.val < 128 := N_0 ▸ t.isLt

theorem read0_at (A : FVec Ideal S65536x1024 .f32) (t : Fin cfg0.N) (r : Fin 512) (k : Fin 1024) :
    ((cfg0.win 0).blk t).view.read (Elt Ideal) A (ix2 r k) = A (ix2 ⟨512 * t.val + r.val, by have := tlt t; omega⟩ k) := by
  have h0 : win0_0.index t 0 = t.val := by revert t; decide +kernel
  have h1 : win0_0.index t 1 = 0 := by revert t; decide +kernel
  rw [View.read_apply]
  show A _ = A _
  refine congrArg A (funext fun a => Fin.ext ?_)
  match a with
  | ⟨0, _⟩ => show win0_0.index t 0 * 512 + 1 * r.val = 512 * t.val + r.val; rw [h0]; omega
  | ⟨1, _⟩ => show win0_0.index t 1 * 1024 + 1 * k.val = k.val; rw [h1]; omega

theorem read1_at (A : FVec Ideal S32x6x1024 .f32) (t : Fin cfg0.N) (j : Fin 6) (k : Fin 1024) :
    ((cfg0.win 1).blk t).view.read (Elt Ideal) A (ix3 0 j k) = A (ix3 ⟨t.val / 4, by have := tlt t; omega⟩ j k) := by
  have h0 : win0_1.index t 0 = t.val / 4 := by revert t; decide +kernel
  have h1 : win0_1.index t 1 = 0 := by revert t; decide +kernel
  have h2 : win0_1.index t 2 = 0 := by revert t; decide +kernel
  rw [View.read_apply]
  show A _ = A _
  refine congrArg A (funext fun a => Fin.ext ?_)
  match a with
  | ⟨0, _⟩ => show win0_1.index t 0 * 1 + 1 * 0 = t.val / 4; rw [h0]; omega
  | ⟨1, _⟩ => show win0_1.index t 1 * 6 + 1 * j.val = j.val; rw [h1]; omega
  | ⟨2, _⟩ => show win0_1.index t 2 * 1024 + 1 * k.val = k.val; rw [h2]; omega

theorem read2_at (A : FVec Ideal S1x1024 .f32) (t : Fin cfg0.N) (j : Fin 1) (k : Fin 1024) :
    ((cfg0.win 2).blk t).view.read (Elt Ideal) A (ix2 j k) = A (ix2 j k) := by
  have h0 : win0_2.index t 0 = 0 := by revert t; decide +kernel
  have h1 : win0_2.index t 1 = 0 := by revert t; decide +kernel
  rw [View.read_apply]
  show A _ = A _
  refine congrArg A (funext fun a => Fin.ext ?_)
  match a with
  | ⟨0, _⟩ => show win0_2.index t 0 * 1 + 1 * j.val = j.val; rw [h0]; omega
  | ⟨1, _⟩ => show win0_2.index t 1 * 1024 + 1 * k.val = k.val; rw [h1]; omega

theorem read3_at (A : FVec Ideal S1024x2816 .bf16) (t : Fin cfg0.N) (j : Fin 1024) (k : Fin 2816) :
    ((cfg0.win 3).blk t).view.read (Elt Ideal) A (ix2 j k) = A (ix2 j k) := by
  have h0 : win0_3.index t 0 = 0 := by revert t; decide +kernel
  have h1 : win0_3.index t 1 = 0 := by revert t; decide +kernel
  rw [View.read_apply]
  show A _ = A _
  refine congrArg A (funext fun a => Fin.ext ?_)
  match a with
  | ⟨0, _⟩ => show win0_3.index t 0 * 1024 + 1 * j.val = j.val; rw [h0]; omega
  | ⟨1, _⟩ => show win0_3.index t 1 * 2816 + 1 * k.val = k.val; rw [h1]; omega

theorem read4_at (A : FVec Ideal S1024x2816 .bf16) (t : Fin cfg0.N) (j : Fin 1024) (k : Fin 2816) :
    ((cfg0.win 4).blk t).view.read (Elt Ideal) A (ix2 j k) = A (ix2 j k) := by
  have h0 : win0_4.index t 0 = 0 := by revert t; decide +kernel
  have h1 : win0_4.index t 1 = 0 := by revert t; decide +kernel
  rw [View.read_apply]
  show A _ = A _
  refine congrArg A (funext fun a => Fin.ext ?_)
  match a with
  | ⟨0, _⟩ => show win0_4.index t 0 * 1024 + 1 * j.val = j.val; rw [h0]; omega
  | ⟨1, _⟩ => show win0_4.index t 1 * 2816 + 1 * k.val = k.val; rw [h1]; omega

theorem read5_at (A : FVec Ideal S2816x1024 .bf16) (t : Fin cfg0.N) (j : Fin 2816) (k : Fin 1024) :
    ((cfg0.win 5).blk t).view.read (Elt Ideal) A (ix2 j k) = A (ix2 j k) := by
  have h0 : win0_5.index t 0 = 0 := by revert t; decide +kernel
  have h1 : win0_5.index t 1 = 0 := by revert t; decide +kernel
  rw [View.read_apply]
  show A _ = A _
  refine congrArg A (funext fun a => Fin.ext ?_)
  match a with
  | ⟨0, _⟩ => show win0_5.index t 0 * 2816 + 1 * j.val = j.val; rw [h0]; omega
  | ⟨1, _⟩ => show win0_5.index t 1 * 1024 + 1 * k.val = k.val; rw [h1]; omega

theorem read6_at (A : FVec Ideal S1x1024 .f32) (t : Fin cfg0.N) (j : Fin 1) (k : Fin 1024) :
    ((cfg0.win 6).blk t).view.read (Elt Ideal) A (ix2 j k) = A (ix2 j k) := by
  have h0 : win0_6.index t 0 = 0 := by revert t; decide +kernel
  have h1 : win0_6.index t 1 = 0 := by revert t; decide +kernel
  rw [View.read_apply]
  show A _ = A _
  refine congrArg A (funext fun a => Fin.ext ?_)
  match a with
  | ⟨0, _⟩ => show win0_6.index t 0 * 1 + 1 * j.val = j.val; rw [h0]; omega
  | ⟨1, _⟩ => show win0_6.index t 1 * 1024 + 1 * k.val = k.val; rw [h1]; omega

theorem read7_at (A : FVec Ideal S65536x1024 .f32) (t : Fin cfg0.N) (r : Fin 512) (k : Fin 1024) :
    ((cfg0.win 7).blk t).view.read (Elt Ideal) A (ix2 r k) = A (ix2 ⟨512 * t.val + r.val, by have := tlt t; omega⟩ k) := by
  have h0 : win0_7.index t 0 = t.val := by revert t; decide +kernel
  have h1 : win0_7.index t 1 = 0 := by revert t; decide +kernel
  rw [View.read_apply]
  show A _ = A _
  refine congrArg A (funext fun a => Fin.ext ?_)
  match a with
  | ⟨0, _⟩ => show win0_7.index t 0 * 512 + 1 * r.val = 512 * t.val + r.val; rw [h0]; omega
  | ⟨1, _⟩ => show win0_7.index t 1 * 1024 + 1 * k.val = k.val; rw [h1]; omega

/-! ### The result array -/

/-- The result at a row and a column, of the argument arrays. -/
def outAt (x : FVec Ideal S32x2048x1024 .f32) (md : FVec Ideal S32x6144 .f32) (g : FVec Ideal S1024 .f32) (wg wu : FVec Ideal S1024x2816 .f32)
    (wd : FVec Ideal S2816x1024 .f32) (fn : FVec Ideal S1024 .f32) (n : Fin 65536) (i : Fin 1024) : EReal :=
  Rows.norm (Rows.ffn (fun k => x (ix3 (bat n) (pos n) k)) (fun k => g (ix1 k)) (fun k => md (ix2 (bat n) ⟨3 * 1024 + k.val, by omega⟩))
    (fun k => md (ix2 (bat n) ⟨4 * 1024 + k.val, by omega⟩)) (fun k => md (ix2 (bat n) ⟨5 * 1024 + k.val, by omega⟩))
    (fun k j => wg (ix2 k j)) (fun k j => wu (ix2 k j)) (fun j k => wd (ix2 j k))) (fun k => fn (ix1 k)) i

/-- The result array. -/
def result : FVec Ideal S65536x1024 .f32 := fun i =>
  outAt (argx m c) (argmod m c) (argn m c) (argwg m c) (argwu m c) (argwd m c) (argfn m c) (i 0) (i 1)

theorem outs_at (t : Fin cfg0.N) (r : Fin 512) (i : Fin 1024) :
    out0_7 (F := Ideal) (iblk m c 0 t) (iblk m c 1 t) (iblk m c 2 t) (iblk m c 3 t) (iblk m c 4 t) (iblk m c 5 t) (iblk m c 6 t) (ix2 r i)
      = result m c (ix2 ⟨512 * t.val + r.val, by have := tlt t; omega⟩ i) := by
  have ht := tlt t
  have hb : (⟨t.val / 4, by omega⟩ : Fin 32) = bat ⟨512 * t.val + r.val, by omega⟩ := Fin.ext (by show t.val / 4 = (512 * t.val + r.val) / 2048; omega)
  have b0 : ∀ k, (iblk m c 0 t : FVec Ideal S512x1024 .f32) (ix2 r k) = argx m c (ix3 (bat ⟨512 * t.val + r.val, by omega⟩) (pos ⟨512 * t.val + r.val, by omega⟩) k) :=
    fun k => (read0_at _ t r k).trans (V0_at m c _ k)
  have b1 : ∀ j k, (iblk m c 1 t : FVec Ideal S1x6x1024 .f32) (ix3 0 j k) = argmod m c (ix2 (bat ⟨512 * t.val + r.val, by omega⟩) ⟨j.val * 1024 + k.val, by omega⟩) :=
    fun j k => (read1_at _ t j k).trans ((V1_at m c _ j k).trans (by rw [hb]))
  have b2 : ∀ k, (iblk m c 2 t : FVec Ideal S1x1024 .f32) (ix2 0 k) = argn m c (ix1 k) := fun k => (read2_at _ t 0 k).trans (V5_at m c k)
  have b3 : ∀ k j, (iblk m c 3 t : FVec Ideal S1024x2816 .bf16) (ix2 k j) = argwg m c (ix2 k j) := fun k j => (read3_at _ t k j).trans (congrFun (V2_eq m c) _)
  have b4 : ∀ k j, (iblk m c 4 t : FVec Ideal S1024x2816 .bf16) (ix2 k j) = argwu m c (ix2 k j) := fun k j => (read4_at _ t k j).trans (congrFun (V3_eq m c) _)
  have b5 : ∀ k j, (iblk m c 5 t : FVec Ideal S2816x1024 .bf16) (ix2 k j) = argwd m c (ix2 k j) := fun k j => (read5_at _ t k j).trans (congrFun (V4_eq m c) _)
  have b6 : ∀ k, (iblk m c 6 t : FVec Ideal S1x1024 .f32) (ix2 0 k) = argfn m c (ix1 k) := fun k => (read6_at _ t 0 k).trans (V6_at m c k)
  refine (out_at _ _ _ _ _ _ _ r i).trans ?_
  simp only [b0, b1, b2, b3, b4, b5, b6]
  rfl

theorem flushed_eq (t : Fin cfg0.N) (hf : (cfg0.win 7).flush t = true) :
    (dats m 0 c).flushed 7 t = ((cfg0.win 7).blk t).view.read (Elt Ideal) (result m c) := by
  show (cfg0.win 7).cut (grid0.coords t) ((dats m 0 c).after 7 t) = _
  rw [after0_7]
  funext i
  obtain ⟨r, e, rfl⟩ : ∃ (r : Fin 512) (e : Fin 1024), i = ix2 r e := ⟨i 0, i 1, by
    funext a
    match a with
    | ⟨0, _⟩ => rfl
    | ⟨1, _⟩ => rfl⟩
  refine Eq.trans ?_ ((outs_at m c t r e).trans (read7_at (result m c) t r e).symm)
  rfl

theorem final_o : (dats m 0 c).arrAt 7 cfg0.N = result m c :=
  (dats m 0 c).arrAt_eq_of_cover 7 (result m c) (flushed_eq m c) fun i => by
    have h0 : (i 0 : Nat) < 65536 := (i 0).isLt
    have h1 : (i 1 : Nat) < 1024 := (i 1).isLt
    have hN : cfg0.N = 128 := N_0
    obtain ⟨t, ht⟩ : ∃ t : Fin cfg0.N, t.val = (i 0 : Nat) / 512 := ⟨⟨(i 0 : Nat) / 512, by omega⟩, rfl⟩
    refine ⟨t, flush0_7 t, ?_⟩
    show i ∈ ((View.whole main_v7).slice (win0_7.rect t)).set
    rw [View.set_slice_whole, Rect.mem_set_unit]
    have i0 : win0_7.index t 0 = t.val := by clear ht; revert t; decide +kernel
    have i1 : win0_7.index t 1 = 0 := by clear ht; revert t; decide +kernel
    have s0 : win0_7.xsize (grid0.coords t) 0 = 512 := by clear ht i0 i1; revert t; decide +kernel
    have s1 : win0_7.xsize (grid0.coords t) 1 = 1024 := by clear ht i0 i1 s0; revert t; decide +kernel
    intro a
    match a with
    | ⟨0, _⟩ => show win0_7.index t 0 * 512 ≤ (i 0 : Nat) ∧ (i 0 : Nat) < win0_7.index t 0 * 512 + win0_7.xsize (grid0.coords t) 0
                rw [i0, s0]; omega
    | ⟨1, _⟩ => show win0_7.index t 1 * 1024 ≤ (i 1 : Nat) ∧ (i 1 : Nat) < win0_7.index t 1 * 1024 + win0_7.xsize (grid0.coords t) 1
                rw [i1, s1]; omega

end Cert.Kernel3Ideal.Hand

end
-- ==== Proof.Ffn3Ref.lean ====
module

public import proofs.«01_k».proof.Proof.Rows
public import proofs.«01_k».proof.Proof.Gen.Reference3Ideal.Run

@[expose] public section

set_option maxRecDepth 16384

noncomputable section

/-! The reference of the last feed-forward call, at an index, over the ideal floats. -/

namespace Cert.Reference3Ideal.Hand

open Cert.Reference3Ideal Cert.Reference3Ideal.Gen
open Idealize.ShloMosaic Idealize.ShloMosaic.TcCoe Idealize.SL.Sem

/-- The normalized array. -/
def norm (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

/-- The scaled and shifted array. -/
def modulate (h : FVec Ideal S32x2048x1024 .f32) (md : FVec Ideal S32x6144 .f32) : FVec Ideal S32x2048x1024 .f32 :=
  addf (mulf h (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![0, 4096] md slices_S32x6144_S32x1024_0_4096)))))
    (broadcastInDim S32x2048x1024 ![0, 1, 2] bcast_S32x1x1024_S32x2048x1024_0_1_2 (broadcastInDim S32x1x1024 ![0, 2] bcast_S32x1024_S32x1x1024_0_2 (extractStridedSlice S32x1024 ![0, 3072] md slices_S32x6144_S32x1024_0_3072)))

/-- An array times a hidden weight. -/
def hid (h : FVec Ideal S32x2048x1024 .f32) (w : FVec Ideal S1024x2816 .f32) : FVec Ideal S32x2048x2816 .f32 :=
  Host.dotGeneral dot_S32x2048x1024_S1024x2816_S32x2048x2816_2_0_01_1_n_n none h w

/-- The gated hidden array. -/
def gate (u v : FVec Ideal S32x2048x2816 .f32) : FVec Ideal S32x2048x2816 .f32 :=
  mulf (mulf u (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf u))))) v

/-- The array with the feed-forward part added. -/
def down (x : FVec Ideal S32x2048x1024 .f32) (md : FVec Ideal S32x6144 .f32) (a : FVec Ideal S32x2048x2816 .f32) (wd : FVec Ideal S2816x1024 .f32) : FVec Ideal S32x2048x1024 .f32 :=
  addf x (mulf (broadcastInDim S32x2048x1024 ![0, 1, 2] bcast_S32x1x1024_S32x2048x1024_0_1_2 (broadcastInDim S32x1x1024 ![0, 2] bcast_S32x1024_S32x1x1024_0_2 (extractStridedSlice S32x1024 ![0, 5120] md slices_S32x6144_S32x1024_0_5120))) (Host.dotGeneral dot_S32x2048x2816_S2816x1024_S32x2048x1024_2_0_01_1_n_n none a wd))

def refOut (x : FVec Ideal S32x2048x1024 .f32) (md : FVec Ideal S32x6144 .f32) (g : FVec Ideal S1024 .f32) (wg wu : FVec Ideal S1024x2816 .f32)
    (wd : FVec Ideal S2816x1024 .f32) (fn : FVec Ideal S1024 .f32) : FVec Ideal S65536x1024 .f32 :=
  shapeCast S65536x1024 (norm (down x md (gate (hid (modulate (norm x g) md) wg) (hid (modulate (norm x g) md) wu)) wd) fn) shapeCasts_S32x2048x1024_S65536x1024

theorem res_eq (m : (ℓ : Loc nD τ sig) → Buf (Elt Ideal) ℓ) (c : Dev nD) :
    Cert.Reference3Ideal.Value.res_main_v49 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Cert.Reference3Ideal.Value.res_main_v49 refOut norm down gate hid modulate
  rfl

theorem norm_at (x : FVec Ideal S32x2048x1024 .f32) (g : FVec Ideal S1024 .f32) (b : Fin 32) (s : Fin 2048) (i : Fin 1024) :
    norm x g (ix3 b s i) = Rows.norm (fun k => x (ix3 b s k)) (fun k => g (ix1 k)) i := by
  pointwise [norm]
  rfl

theorem modulate_at (h : FVec Ideal S32x2048x1024 .f32) (md : FVec Ideal S32x6144 .f32) (b : Fin 32) (s : Fin 2048) (i : Fin 1024) :
    modulate h md (ix3 b s i) = h (ix3 b s i) * (1 + md (ix2 b ⟨4 * 1024 + i.val, by omega⟩)) + md (ix2 b ⟨3 * 1024 + i.val, by omega⟩) := by
  pointwise [modulate]

theorem hid_at (h : FVec Ideal S32x2048x1024 .f32) (w : FVec Ideal S1024x2816 .f32) (b : Fin 32) (s : Fin 2048) (j : Fin 2816) :
    hid h w (ix3 b s j) = Rows.mul (fun k => h (ix3 b s k)) (fun k j => w (ix2 k j)) j := by
  pointwise [hid]
  rfl

theorem gate_at (u v : FVec Ideal S32x2048x2816 .f32) (b : Fin 32) (s : Fin 2048) (j : Fin 2816) :
    gate u v (ix3 b s j) = u (ix3 b s j) * Ideal.logistic (u (ix3 b s j)) * v (ix3 b s j) := by
  pointwise [gate]
  rfl

theorem down_at (x : FVec Ideal S32x2048x1024 .f32) (md : FVec Ideal S32x6144 .f32) (a : FVec Ideal S32x2048x2816 .f32) (wd : FVec Ideal S2816x1024 .f32)
    (b : Fin 32) (s : Fin 2048) (i : Fin 1024) :
    down x md a wd (ix3 b s i) = x (ix3 b s i) + md (ix2 b ⟨5 * 1024 + i.val, by omega⟩) * Rows.mul (fun k => a (ix3 b s k)) (fun k j => wd (ix2 k j)) i := by
  pointwise [down]
  rfl

theorem out_at (x : FVec Ideal S32x2048x1024 .f32) (md : FVec Ideal S32x6144 .f32) (g : FVec Ideal S1024 .f32) (wg wu : FVec Ideal S1024x2816 .f32)
    (wd : FVec Ideal S2816x1024 .f32) (fn : FVec Ideal S1024 .f32) (n : Fin 65536) (i : Fin 1024) :
    refOut x md g wg wu wd fn (ix2 n i)
      = Rows.norm (Rows.ffn (fun k => x (ix3 ⟨n.val / 2048, by omega⟩ ⟨n.val % 2048, by omega⟩ k)) (fun k => g (ix1 k)) (fun k => md (ix2 ⟨n.val / 2048, by omega⟩ ⟨3 * 1024 + k.val, by omega⟩))
          (fun k => md (ix2 ⟨n.val / 2048, by omega⟩ ⟨4 * 1024 + k.val, by omega⟩)) (fun k => md (ix2 ⟨n.val / 2048, by omega⟩ ⟨5 * 1024 + k.val, by omega⟩))
          (fun k j => wg (ix2 k j)) (fun k j => wu (ix2 k j)) (fun j k => wd (ix2 j k))) (fun k => fn (ix1 k)) i := by
  unfold refOut
  generalize he : norm (down x md (gate (hid (modulate (norm x g) md) wg) (hid (modulate (norm x g) md) wu)) wd) fn = y
  pointwise []
  rw [← he]
  simp only [norm_at, down_at, gate_at, hid_at, modulate_at]
  rfl

end Cert.Reference3Ideal.Hand

end
-- ==== Proof.InProj.lean ====
module

public import proofs.«01_k».proof.Proof.Rows
public import proofs.«01_k».proof.Proof.Gen.Kernel4Ideal.Value
public import Idealize.ShloMosaic.Lib.StableHlo.ReadAt

@[expose] public section

set_option maxRecDepth 16384

noncomputable section

/-! The input projection: its results at an index, over the ideal floats. -/

namespace Cert.Kernel4Ideal.Hand

open Idealize.ShloMosaic Idealize.ShloMosaic.TcCoe Idealize.SL.Sem
open Cert.Kernel4Ideal.Gen

theorem pay1_at (x : FVec Ideal S512x1024 .f32) (g : FVec Ideal S1x1024 .f32) (md : FVec Ideal S1x6x1024 .f32) (r : Fin 512) (k : Fin 1024) :
    k0_pay1 (F := Ideal) x g md (ix2 r k)
      = Rows.mod (fun k => x (ix2 r k)) (fun k => g (ix2 0 k)) (fun k => md (ix3 0 0 k)) (fun k => md (ix3 0 1 k)) k := by
  pointwise [k0_pay1]
  rfl

theorem pay2_at (x : FVec Ideal S512x1024 .f32) (g : FVec Ideal S1x1024 .f32) (md : FVec Ideal S1x6x1024 .f32) (w : FVec Ideal S1024x768 .bf16) (r : Fin 512) (j : Fin 768) :
    k0_pay2 (F := Ideal) x g md w (ix2 r j) = Rows.mul (fun k => k0_pay1 (F := Ideal) x g md (ix2 r k)) (fun k j => w (ix2 k j)) j := by
  unfold k0_pay2
  generalize k0_pay1 (F := Ideal) x g md = y
  pointwise []
  rfl

theorem pay3_at (x : FVec Ideal S512x1024 .f32) (g : FVec Ideal S1x1024 .f32) (md : FVec Ideal S1x6x1024 .f32) (w : FVec Ideal S1024x1792 .bf16) (r : Fin 512) (j : Fin 1792) :
    k0_pay3 (F := Ideal) x g md w (ix2 r j) = Rows.mul (fun k => k0_pay1 (F := Ideal) x g md (ix2 r k)) (fun k j => w (ix2 k j)) j := by
  unfold k0_pay3
  generalize k0_pay1 (F := Ideal) x g md = y
  pointwise []
  rfl

theorem out5_at (x0 : FVec Ideal S512x1024 .f32) (x1 : FVec Ideal S1x6x1024 .f32) (x2 : FVec Ideal S1x1024 .f32)
    (x3 : FVec Ideal S1024x768 .bf16) (x4 : FVec Ideal S1024x1792 .bf16) (r : Fin 512) (i : Fin 768) :
    out0_5 (F := Ideal) x0 x1 x2 x3 x4 (ix2 r i)
      = Rows.mul (Rows.mod (fun k => x0 (ix2 r k)) (fun k => x2 (ix2 0 k)) (fun k => x1 (ix3 0 0 k)) (fun k => x1 (ix3 0 1 k))) (fun k j => x3 (ix2 k j)) i := by
  have e : r0_4.emb (ix2 r i) = ix2 r i := by
    funext a
    match a with
    | ⟨0, _⟩ => exact Fin.ext (by show 0 + 1 * r.val = r.val; omega)
    | ⟨1, _⟩ => exact Fin.ext (by show 0 + 1 * i.val = i.val; omega)
  have l0 : View.ld (Val := Elt Ideal) (e' := .f32) x0 r0_0 = x0 := View.ld_unit_zero (by decide) _ _
  have l1 : View.ld (Val := Elt Ideal) (e' := .f32) x1 r0_2 = x1 := View.ld_unit_zero (by decide) _ _
  have l2 : View.ld (Val := Elt Ideal) (e' := .f32) x2 r0_1 = x2 := View.ld_unit_zero (by decide) _ _
  have l3 : View.ld (Val := Elt Ideal) (e' := .bf16) x3 r0_3 = x3 := View.ld_unit_zero (by decide) _ _
  unfold out0_5
  rw [l0, l1, l2, l3]
  refine (congrArg (View.canon _) e.symm).trans ((View.canon_cons_emb _ _ _ _).trans ((pay2_at _ _ _ _ r i).trans ?_))
  simp only [pay1_at]

theorem out6_at (x0 : FVec Ideal S512x1024 .f32) (x1 : FVec Ideal S1x6x1024 .f32) (x2 : FVec Ideal S1x1024 .f32)
    (x3 : FVec Ideal S1024x768 .bf16) (x4 : FVec Ideal S1024x1792 .bf16) (r : Fin 512) (i : Fin 1792) :
    out0_6 (F := Ideal) x0 x1 x2 x3 x4 (ix2 r i)
      = Rows.mul (Rows.mod (fun k => x0 (ix2 r k)) (fun k => x2 (ix2 0 k)) (fun k => x1 (ix3 0 0 k)) (fun k => x1 (ix3 0 1 k))) (fun k j => x4 (ix2 k j)) i := by
  have e : r0_6.emb (ix2 r i) = ix2 r i := by
    funext a
    match a with
    | ⟨0, _⟩ => exact Fin.ext (by show 0 + 1 * r.val = r.val; omega)
    | ⟨1, _⟩ => exact Fin.ext (by show 0 + 1 * i.val = i.val; omega)
  have l0 : View.ld (Val := Elt Ideal) (e' := .f32) x0 r0_0 = x0 := View.ld_unit_zero (by decide) _ _
  have l1 : View.ld (Val := Elt Ideal) (e' := .f32) x1 r0_2 = x1 := View.ld_unit_zero (by decide) _ _
  have l2 : View.ld (Val := Elt Ideal) (e' := .f32) x2 r0_1 = x2 := View.ld_unit_zero (by decide) _ _
  have l4 : View.ld (Val := Elt Ideal) (e' := .bf16) x4 r0_5 = x4 := View.ld_unit_zero (by decide) _ _
  unfold out0_6
  rw [l0, l1, l2, l4]
  refine (congrArg (View.canon _) e.symm).trans ((View.canon_cons_emb _ _ _ _).trans ((pay3_at _ _ _ _ r i).trans ?_))
  simp only [pay1_at]

variable (m : (ℓ : Loc nD τ sig) → Buf (Elt Ideal) ℓ) (c : Dev nD)

abbrev argx : FVec Ideal S32x2048x1024 .f32 := m ((c.tc : Thread nD τ).loc main_arg0)
abbrev argmod : FVec Ideal S32x6144 .f32 := m ((c.tc : Thread nD τ).loc main_arg1)
abbrev argn : FVec Ideal S1024 .f32 := m ((c.tc : Thread nD τ).loc main_arg2)
abbrev argw : FVec Ideal S1024x2464 .f32 := m ((c.tc : Thread nD τ).loc main_arg3)

/-- The token of a row, its batch element and place. -/
abbrev bat (n : Fin 65536) : Fin 32 := ⟨n.val / 2048, by omega⟩
abbrev pos (n : Fin 65536) : Fin 2048 := ⟨n.val % 2048, by omega⟩

/-! ### What the host hands the launch -/

theorem Vx_at (n : Fin 65536) (k : Fin 1024) : (V m c main_v5 : FVec Ideal S65536x1024 .f32) (ix2 n k) = argx m c (ix3 (bat n) (pos n) k) := by
  have e : V m c main_v5 = shapeCast S65536x1024 (argx m c) shapeCasts_S32x2048x1024_S65536x1024 := by
    unfold V
    after_reads_simp
    rfl
  rw [e]
  pointwise []

theorem Vmod_at (b : Fin 32) (j : Fin 6) (k : Fin 1024) : (V m c main_v6 : FVec Ideal S32x6x1024 .f32) (ix3 b j k) = argmod m c (ix2 b ⟨j.val * 1024 + k.val, by omega⟩) := by
  have e : V m c main_v6 = shapeCast S32x6x1024 (argmod m c) shapeCasts_S32x6144_S32x6x1024 := by
    unfold V
    after_reads_simp
    rfl
  rw [e]
  pointwise []

theorem Vn_at (k : Fin 1024) : (V m c main_v7 : FVec Ideal S1x1024 .f32) (ix2 0 k) = argn m c (ix1 k) := by
  have e : V m c main_v7 = shapeCast S1x1024 (argn m c) shapeCasts_S1024_S1x1024 := by
    unfold V
    after_reads_simp
    rfl
  rw [e]
  pointwise []

theorem sitofp_zero : (FloatOps.sitofp (F := Ideal) FTy.f32 0#32 : EReal) = 0 := by
  show (((0#32 : BitVec 32).toInt : ℝ) : EReal) = 0
  simp

/-- The first weight as the launch gets it: its columns, then columns of zeros. -/
def w0 (w : FVec Ideal S1024x2464 .f32) : FVec Ideal S1024x768 .bf16 :=
  truncf .bf16 (pad S1024x768 ![0, 0] ![0, 96] ![0, 0] (extractStridedSlice S1024x672 ![0, 0] w slices_S1024x2464_S1024x672_0_0)
    (sitofp .f32 (constantI S_ 32 0#32)) pads_S1024x672_S1024x768_000_0960 h_S_) bitsLt_bf16_f32

theorem V2_eq : V m c main_v2 = w0 (argw m c) := by
  unfold V
  after_reads_simp
  simp -implicitDefEqProofs only [StableHlo.TRef.toBuf, StableHlo.TRef.ofBuf, cast_cast, cast_eq]
  clean_types
  unfold w0
  rfl

theorem w0_at (w : FVec Ideal S1024x2464 .f32) (k : Fin 1024) (j : Fin 768) :
    w0 w (ix2 k j) = (if h : j.val < 672 then w (ix2 k ⟨j.val, by omega⟩) else (0 : EReal)) := by
  pointwise [w0]
  simp only [sitofp_zero]

theorem V4_at (k : Fin 1024) (j : Fin 1792) : (V m c main_v4 : FVec Ideal S1024x1792 .bf16) (ix2 k j) = argw m c (ix2 k ⟨672 + j.val, by omega⟩) := by
  have e : V m c main_v4 = truncf .bf16 (extractStridedSlice S1024x1792 ![0, 672] (argw m c) slices_S1024x2464_S1024x1792_0_672) bitsLt_bf16_f32 := by
    unfold V
    after_reads_simp
  rw [e]
  pointwise []

/-! ### The blocks of a point -/

theorem tlt (t : Fin cfg0.N) : t.val < 128 := N_0 ▸ t.isLt

theorem read0_at (A : FVec Ideal S65536x1024 .f32) (t : Fin cfg0.N) (r : Fin 512) (k : Fin 1024) :
    ((cfg0.win 0).blk t).view.read (Elt Ideal) A (ix2 r k) = A (ix2 ⟨512 * t.val + r.val, by have := tlt t; omega⟩ k) := by
  have h0 : win0_0.index t 0 = t.val := by revert t; decide +kernel
  have h1 : win0_0.index t 1 = 0 := by revert t; decide +kernel
  rw [View.read_apply]
  show A _ = A _
  refine congrArg A (funext fun a => Fin.ext ?_)
  match a with
  | ⟨0, _⟩ => show win0_0.index t 0 * 512 + 1 * r.val = 512 * t.val + r.val; rw [h0]; omega
  | ⟨1, _⟩ => show win0_0.index t 1 * 1024 + 1 * k.val = k.val; rw [h1]; omega

theorem read1_at (A : FVec Ideal S32x6x1024 .f32) (t : Fin cfg0.N) (j : Fin 6) (k : Fin 1024) :
    ((cfg0.win 1).blk t).view.read (Elt Ideal) A (ix3 0 j k) = A (ix3 ⟨t.val / 4, by have := tlt t; omega⟩ j k) := by
  have h0 : win0_1.index t 0 = t.val / 4 := by revert t; decide +kernel
  have h1 : win0_1.index t 1 = 0 := by revert t; decide +kernel
  have h2 : win0_1.index t 2 = 0 := by revert t; decide +kernel
  rw [View.read_apply]
  show A _ = A _
  refine congrArg A (funext fun a => Fin.ext ?_)
  match a with
  | ⟨0, _⟩ => show win0_1.index t 0 * 1 + 1 * 0 = t.val / 4; rw [h0]; omega
  | ⟨1, _⟩ => show win0_1.index t 1 * 6 + 1 * j.val = j.val; rw [h1]; omega
  | ⟨2, _⟩ => show win0_1.index t 2 * 1024 + 1 * k.val = k.val; rw [h2]; omega

theorem read2_at (A : FVec Ideal S1x1024 .f32) (t : Fin cfg0.N) (j : Fin 1) (k : Fin 1024) :
    ((cfg0.win 2).blk t).view.read (Elt Ideal) A (ix2 j k) = A (ix2 j k) := by
  have h0 : win0_2.index t 0 = 0 := by revert t; decide +kernel
  have h1 : win0_2.index t 1 = 0 := by revert t; decide +kernel
  rw [View.read_apply]
  show A _ = A _
  refine congrArg A (funext fun a => Fin.ext ?_)
  match a with
  | ⟨0, _⟩ => show win0_2.index t 0 * 1 + 1 * j.val = j.val; rw [h0]; omega
  | ⟨1, _⟩ => show win0_2.index t 1 * 1024 + 1 * k.val = k.val; rw [h1]; omega

theorem read3_at (A : FVec Ideal S1024x768 .bf16) (t : Fin cfg0.N) (j : Fin 1024) (k : Fin 768) :
    ((cfg0.win 3).blk t).view.read (Elt Ideal) A (ix2 j k) = A (ix2 j k) := by
  have h0 : win0_3.index t 0 = 0 := by revert t; decide +kernel
  have h1 : win0_3.index t 1 = 0 := by revert t; decide +kernel
  rw [View.read_apply]
  show A _ = A _
  refine congrArg A (funext fun a => Fin.ext ?_)
  match a with
  | ⟨0, _⟩ => show win0_3.index t 0 * 1024 + 1 * j.val = j.val; rw [h0]; omega
  | ⟨1, _⟩ => show win0_3.index t 1 * 768 + 1 * k.val = k.val; rw [h1]; omega

theorem read4_at (A : FVec Ideal S1024x1792 .bf16) (t : Fin cfg0.N) (j : Fin 1024) (k : Fin 1792) :
    ((cfg0.win 4).blk t).view.read (Elt Ideal) A (ix2 j k) = A (ix2 j k) := by
  have h0 : win0_4.index t 0 = 0 := by revert t; decide +kernel
  have h1 : win0_4.index t 1 = 0 := by revert t; decide +kernel
  rw [View.read_apply]
  show A _ = A _
  refine congrArg A (funext fun a => Fin.ext ?_)
  match a with
  | ⟨0, _⟩ => show win0_4.index t 0 * 1024 + 1 * j.val = j.val; rw [h0]; omega
  | ⟨1, _⟩ => show win0_4.index t 1 * 1792 + 1 * k.val = k.val; rw [h1]; omega

theorem read5_at (A : FVec Ideal S65536x768 .bf16) (t : Fin cfg0.N) (r : Fin 512) (k : Fin 768) :
    ((cfg0.win 5).blk t).view.read (Elt Ideal) A (ix2 r k) = A (ix2 ⟨512 * t.val + r.val, by have := tlt t; omega⟩ k) := by
  have h0 : win0_5.index t 0 = t.val := by revert t; decide +kernel
  have h1 : win0_5.index t 1 = 0 := by revert t; decide +kernel
  rw [View.read_apply]
  show A _ = A _
  refine congrArg A (funext fun a => Fin.ext ?_)
  match a with
  | ⟨0, _⟩ => show win0_5.index t 0 * 512 + 1 * r.val = 512 * t.val + r.val; rw [h0]; omega
  | ⟨1, _⟩ => show win0_5.index t 1 * 768 + 1 * k.val = k.val; rw [h1]; omega

theorem read6_at (A : FVec Ideal S65536x1792 .bf16) (t : Fin cfg0.N) (r : Fin 512) (k : Fin 1792) :
    ((cfg0.win 6).blk t).view.read (Elt Ideal) A (ix2 r k) = A (ix2 ⟨512 * t.val + r.val, by have := tlt t; omega⟩ k) := by
  have h0 : win0_6.index t 0 = t.val := by revert t; decide +kernel
  have h1 : win0_6.index t 1 = 0 := by revert t; decide +kernel
  rw [View.read_apply]
  show A _ = A _
  refine congrArg A (funext fun a => Fin.ext ?_)
  match a with
  | ⟨0, _⟩ => show win0_6.index t 0 * 512 + 1 * r.val = 512 * t.val + r.val; rw [h0]; omega
  | ⟨1, _⟩ => show win0_6.index t 1 * 1792 + 1 * k.val = k.val; rw [h1]; omega

/-! ### The result arrays -/

/-- The normalized and modulated row of a token. -/
def row (x : FVec Ideal S32x2048x1024 .f32) (md : FVec Ideal S32x6144 .f32) (g : FVec Ideal S1024 .f32) (n : Fin 65536) : Fin 1024 → EReal :=
  Rows.mod (fun k => x (ix3 (bat n) (pos n) k)) (fun k => g (ix1 k)) (fun k => md (ix2 (bat n) ⟨0 * 1024 + k.val, by omega⟩))
    (fun k => md (ix2 (bat n) ⟨1 * 1024 + k.val, by omega⟩))

/-- The first result at a row and a column, of the argument arrays. -/
def outAt0 (x : FVec Ideal S32x2048x1024 .f32) (md : FVec Ideal S32x6144 .f32) (g : FVec Ideal S1024 .f32) (w : FVec Ideal S1024x2464 .f32)
    (n : Fin 65536) (j : Fin 768) : EReal :=
  if h : j.val < 672 then Rows.mul (row x md g n) (fun k j => w (ix2 k j)) ⟨j.val, by omega⟩ else 0

/-- The second. -/
def outAt1 (x : FVec Ideal S32x2048x1024 .f32) (md : FVec Ideal S32x6144 .f32) (g : FVec Ideal S1024 .f32) (w : FVec Ideal S1024x2464 .f32)
    (n : Fin 65536) (j : Fin 1792) : EReal :=
  Rows.mul (row x md g n) (fun k j => w (ix2 k j)) ⟨672 + j.val, by omega⟩

/-- The result arrays. -/
def result0 : FVec Ideal S65536x768 .bf16 := fun i => outAt0 (argx m c) (argmod m c) (argn m c) (argw m c) (i 0) (i 1)
def result1 : FVec Ideal S65536x1792 .bf16 := fun i => outAt1 (argx m c) (argmod m c) (argn m c) (argw m c) (i 0) (i 1)

theorem row_at (t : Fin cfg0.N) (r : Fin 512) :
    Rows.mod (fun k => (iblk m c 0 t : FVec Ideal S512x1024 .f32) (ix2 r k)) (fun k => (iblk m c 2 t : FVec Ideal S1x1024 .f32) (ix2 0 k))
        (fun k => (iblk m c 1 t : FVec Ideal S1x6x1024 .f32) (ix3 0 0 k)) (fun k => (iblk m c 1 t : FVec Ideal S1x6x1024 .f32) (ix3 0 1 k))
      = row (argx m c) (argmod m c) (argn m c) ⟨512 * t.val + r.val, by have := tlt t; omega⟩ := by
  have ht := tlt t
  have hb : (⟨t.val / 4, by omega⟩ : Fin 32) = bat ⟨512 * t.val + r.val, by omega⟩ := Fin.ext (by show t.val / 4 = (512 * t.val + r.val) / 2048; omega)
  have b0 : ∀ k, (iblk m c 0 t : FVec Ideal S512x1024 .f32) (ix2 r k) = argx m c (ix3 (bat ⟨512 * t.val + r.val, by omega⟩) (pos ⟨512 * t.val + r.val, by omega⟩) k) :=
    fun k => (read0_at _ t r k).trans (Vx_at m c _ k)
  have b1 : ∀ j k, (iblk m c 1 t : FVec Ideal S1x6x1024 .f32) (ix3 0 j k) = argmod m c (ix2 (bat ⟨512 * t.val + r.val, by omega⟩) ⟨j.val * 1024 + k.val, by omega⟩) :=
    fun j k => (read1_at _ t j k).trans ((Vmod_at m c _ j k).trans (by rw [hb]))
  have b2 : ∀ k, (iblk m c 2 t : FVec Ideal S1x1024 .f32) (ix2 0 k) = argn m c (ix1 k) := fun k => (read2_at _ t 0 k).trans (Vn_at m c k)
  simp only [b0, b1, b2]
  rfl

theorem outs0_at (t : Fin cfg0.N) (r : Fin 512) (i : Fin 768) :
    out0_5 (F := Ideal) (iblk m c 0 t) (iblk m c 1 t) (iblk m c 2 t) (iblk m c 3 t) (iblk m c 4 t) (ix2 r i)
      = result0 m c (ix2 ⟨512 * t.val + r.val, by have := tlt t; omega⟩ i) := by
  have ht := tlt t
  have b3 : ∀ k j, (iblk m c 3 t : FVec Ideal S1024x768 .bf16) (ix2 k j) = w0 (argw m c) (ix2 k j) := fun k j => (read3_at _ t k j).trans (congrFun (V2_eq m c) _)
  refine (out5_at _ _ _ _ _ r i).trans ?_
  rw [row_at m c t r]
  simp only [b3, w0_at]
  show _ = outAt0 _ _ _ _ ⟨512 * t.val + r.val, _⟩ i
  unfold outAt0 Rows.mul
  by_cases h : i.val < 672
  · simp only [h, ↓reduceDIte]
  · simp only [h, ↓reduceDIte, mul_zero, Finset.sum_const_zero]

theorem outs1_at (t : Fin cfg0.N) (r : Fin 512) (i : Fin 1792) :
    out0_6 (F := Ideal) (iblk m c 0 t) (iblk m c 1 t) (iblk m c 2 t) (iblk m c 3 t) (iblk m c 4 t) (ix2 r i)
      = result1 m c (ix2 ⟨512 * t.val + r.val, by have := tlt t; omega⟩ i) := by
  have ht := tlt t
  have b4 : ∀ k j, (iblk m c 4 t : FVec Ideal S1024x1792 .bf16) (ix2 k j) = argw m c (ix2 k ⟨672 + j.val, by omega⟩) := fun k j => (read4_at _ t k j).trans (V4_at m c k j)
  refine (out6_at _ _ _ _ _ r i).trans ?_
  rw [row_at m c t r]
  simp only [b4]
  rfl

theorem flushed0_eq (t : Fin cfg0.N) (hf : (cfg0.win 5).flush t = true) :
    (dats m 0 c).flushed 5 t = ((cfg0.win 5).blk t).view.read (Elt Ideal) (result0 m c) := by
  show (cfg0.win 5).cut (grid0.coords t) ((dats m 0 c).after 5 t) = _
  rw [after0_5]
  funext i
  obtain ⟨r, e, rfl⟩ : ∃ (r : Fin 512) (e : Fin 768), i = ix2 r e := ⟨i 0, i 1, by
    funext a
    match a with
    | ⟨0, _⟩ => rfl
    | ⟨1, _⟩ => rfl⟩
  refine Eq.trans ?_ ((outs0_at m c t r e).trans (read5_at (result0 m c) t r e).symm)
  rfl

theorem final0_o : (dats m 0 c).arrAt 5 cfg0.N = result0 m c :=
  (dats m 0 c).arrAt_eq_of_cover 5 (result0 m c) (flushed0_eq m c) fun i => by
    have h0 : (i 0 : Nat) < 65536 := (i 0).isLt
    have h1 : (i 1 : Nat) < 768 := (i 1).isLt
    have hN : cfg0.N = 128 := N_0
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v8_0).slice (win0_5.rect t)).set
    rw [View.set_slice_whole, Rect.mem_set_unit]
    have i0 : win0_5.index t 0 = t.val := by clear ht; revert t; decide +kernel
    have i1 : win0_5.index t 1 = 0 := by clear ht; revert t; decide +kernel
    have s0 : win0_5.xsize (grid0.coords t) 0 = 512 := by clear ht i0 i1; revert t; decide +kernel
    have s1 : win0_5.xsize (grid0.coords t) 1 = 768 := by clear ht i0 i1 s0; revert t; decide +kernel
    intro a
    match a with
    | ⟨0, _⟩ => show win0_5.index t 0 * 512 ≤ (i 0 : Nat) ∧ (i 0 : Nat) < win0_5.index t 0 * 512 + win0_5.xsize (grid0.coords t) 0
                rw [i0, s0]; omega
    | ⟨1, _⟩ => show win0_5.index t 1 * 768 ≤ (i 1 : Nat) ∧ (i 1 : Nat) < win0_5.index t 1 * 768 + win0_5.xsize (grid0.coords t) 1
                rw [i1, s1]; omega

theorem flushed1_eq (t : Fin cfg0.N) (hf : (cfg0.win 6).flush t = true) :
    (dats m 0 c).flushed 6 t = ((cfg0.win 6).blk t).view.read (Elt Ideal) (result1 m c) := by
  show (cfg0.win 6).cut (grid0.coords t) ((dats m 0 c).after 6 t) = _
  rw [after0_6]
  funext i
  obtain ⟨r, e, rfl⟩ : ∃ (r : Fin 512) (e : Fin 1792), i = ix2 r e := ⟨i 0, i 1, by
    funext a
    match a with
    | ⟨0, _⟩ => rfl
    | ⟨1, _⟩ => rfl⟩
  refine Eq.trans ?_ ((outs1_at m c t r e).trans (read6_at (result1 m c) t r e).symm)
  rfl

theorem final1_o : (dats m 0 c).arrAt 6 cfg0.N = result1 m c :=
  (dats m 0 c).arrAt_eq_of_cover 6 (result1 m c) (flushed1_eq m c) fun i => by
    have h0 : (i 0 : Nat) < 65536 := (i 0).isLt
    have h1 : (i 1 : Nat) < 1792 := (i 1).isLt
    have hN : cfg0.N = 128 := N_0
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v8_1).slice (win0_6.rect t)).set
    rw [View.set_slice_whole, Rect.mem_set_unit]
    have i0 : win0_6.index t 0 = t.val := by clear ht; revert t; decide +kernel
    have i1 : win0_6.index t 1 = 0 := by clear ht; revert t; decide +kernel
    have s0 : win0_6.xsize (grid0.coords t) 0 = 512 := by clear ht i0 i1; revert t; decide +kernel
    have s1 : win0_6.xsize (grid0.coords t) 1 = 1792 := by clear ht i0 i1 s0; revert t; decide +kernel
    intro a
    match a with
    | ⟨0, _⟩ => show win0_6.index t 0 * 512 ≤ (i 0 : Nat) ∧ (i 0 : Nat) < win0_6.index t 0 * 512 + win0_6.xsize (grid0.coords t) 0
                rw [i0, s0]; omega
    | ⟨1, _⟩ => show win0_6.index t 1 * 1792 ≤ (i 1 : Nat) ∧ (i 1 : Nat) < win0_6.index t 1 * 1792 + win0_6.xsize (grid0.coords t) 1
                rw [i1, s1]; omega

end Cert.Kernel4Ideal.Hand

end
-- ==== Proof.InProjRef.lean ====
module

public import proofs.«01_k».proof.Proof.Rows
public import proofs.«01_k».proof.Proof.Gen.Reference4Ideal.Run

@[expose] public section

set_option maxRecDepth 16384

noncomputable section

/-! The reference of the input projection, at an index, over the ideal floats. -/

namespace Cert.Reference4Ideal.Hand

open Cert.Reference4Ideal Cert.Reference4Ideal.Gen
open Idealize.ShloMosaic Idealize.ShloMosaic.TcCoe Idealize.SL.Sem

/-- The normalized array. -/
def norm (x : FVec Ideal S32x2048x1024 .f32) (g : FVec Ideal S1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 g))

/-- The scaled and shifted array. -/
def modulate (h : FVec Ideal S32x2048x1024 .f32) (md : FVec Ideal S32x6144 .f32) : FVec Ideal S32x2048x1024 .f32 :=
  addf (mulf h (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![0, 1024] md slices_S32x6144_S32x1024_0_1024)))))
    (broadcastInDim S32x2048x1024 ![0, 1, 2] bcast_S32x1x1024_S32x2048x1024_0_1_2 (broadcastInDim S32x1x1024 ![0, 2] bcast_S32x1024_S32x1x1024_0_2 (extractStridedSlice S32x1024 ![0, 0] md slices_S32x6144_S32x1024_0_0)))

/-- The projection. -/
def proj (h : FVec Ideal S32x2048x1024 .f32) (w : FVec Ideal S1024x2464 .f32) : FVec Ideal S65536x2464 .bf16 :=
  truncf .bf16 (shapeCast S65536x2464 (Host.dotGeneral dot_S32x2048x1024_S1024x2464_S32x2048x2464_2_0_01_1_n_n none h w) shapeCasts_S32x2048x2464_S65536x2464) bitsLt_bf16_f32

def refOut0 (x : FVec Ideal S32x2048x1024 .f32) (md : FVec Ideal S32x6144 .f32) (g : FVec Ideal S1024 .f32) (w : FVec Ideal S1024x2464 .f32) : FVec Ideal S65536x768 .bf16 :=
  pad S65536x768 ![0, 0] ![0, 96] ![0, 0] (extractStridedSlice S65536x672 ![0, 0] (proj (modulate (norm x g) md) w) slices_S65536x2464_S65536x672_0_0)
    (sitofp .bf16 (constantI S_ 32 0#32)) pads_S65536x672_S65536x768_000_0960 h_S_

def refOut1 (x : FVec Ideal S32x2048x1024 .f32) (md : FVec Ideal S32x6144 .f32) (g : FVec Ideal S1024 .f32) (w : FVec Ideal S1024x2464 .f32) : FVec Ideal S65536x1792 .bf16 :=
  extractStridedSlice S65536x1792 ![0, 672] (proj (modulate (norm x g) md) w) slices_S65536x2464_S65536x1792_0_672

theorem norm_at (x : FVec Ideal S32x2048x1024 .f32) (g : FVec Ideal S1024 .f32) (b : Fin 32) (s : Fin 2048) (i : Fin 1024) :
    norm x g (ix3 b s i) = Rows.norm (fun k => x (ix3 b s k)) (fun k => g (ix1 k)) i := by
  pointwise [norm]
  rfl

theorem modulate_at (h : FVec Ideal S32x2048x1024 .f32) (md : FVec Ideal S32x6144 .f32) (b : Fin 32) (s : Fin 2048) (i : Fin 1024) :
    modulate h md (ix3 b s i) = h (ix3 b s i) * (1 + md (ix2 b ⟨1 * 1024 + i.val, by omega⟩)) + md (ix2 b ⟨0 * 1024 + i.val, by omega⟩) := by
  pointwise [modulate]

theorem proj_at (h : FVec Ideal S32x2048x1024 .f32) (w : FVec Ideal S1024x2464 .f32) (n : Fin 65536) (j : Fin 2464) :
    proj h w (ix2 n j) = Rows.mul (fun k => h (ix3 ⟨n.val / 2048, by omega⟩ ⟨n.val % 2048, by omega⟩ k)) (fun k j => w (ix2 k j)) j := by
  pointwise [proj]
  rfl

/-- The normalized and modulated row of a token. -/
def row (x : FVec Ideal S32x2048x1024 .f32) (md : FVec Ideal S32x6144 .f32) (g : FVec Ideal S1024 .f32) (n : Fin 65536) : Fin 1024 → EReal :=
  Rows.mod (fun k => x (ix3 ⟨n.val / 2048, by omega⟩ ⟨n.val % 2048, by omega⟩ k)) (fun k => g (ix1 k)) (fun k => md (ix2 ⟨n.val / 2048, by omega⟩ ⟨0 * 1024 + k.val, by omega⟩))
    (fun k => md (ix2 ⟨n.val / 2048, by omega⟩ ⟨1 * 1024 + k.val, by omega⟩))

theorem sitofp_zero : (FloatOps.sitofp (F := Ideal) FTy.bf16 0#32 : EReal) = 0 := by
  show (((0#32 : BitVec 32).toInt : ℝ) : EReal) = 0
  simp

theorem proj_row (x : FVec Ideal S32x2048x1024 .f32) (md : FVec Ideal S32x6144 .f32) (g : FVec Ideal S1024 .f32) (w : FVec Ideal S1024x2464 .f32)
    (n : Fin 65536) (j : Fin 2464) : proj (modulate (norm x g) md) w (ix2 n j) = Rows.mul (row x md g n) (fun k j => w (ix2 k j)) j := by
  rw [proj_at]
  simp only [norm_at, modulate_at]
  rfl

theorem out0_at (x : FVec Ideal S32x2048x1024 .f32) (md : FVec Ideal S32x6144 .f32) (g : FVec Ideal S1024 .f32) (w : FVec Ideal S1024x2464 .f32)
    (n : Fin 65536) (j : Fin 768) :
    refOut0 x md g w (ix2 n j) = if h : j.val < 672 then Rows.mul (row x md g n) (fun k j => w (ix2 k j)) ⟨j.val, by omega⟩ else 0 := by
  unfold refOut0
  have e := proj_row x md g w n
  generalize proj (modulate (norm x g) md) w = y at e
  pointwise []
  simp only [sitofp_zero, e]

theorem out1_at (x : FVec Ideal S32x2048x1024 .f32) (md : FVec Ideal S32x6144 .f32) (g : FVec Ideal S1024 .f32) (w : FVec Ideal S1024x2464 .f32)
    (n : Fin 65536) (j : Fin 1792) :
    refOut1 x md g w (ix2 n j) = Rows.mul (row x md g n) (fun k j => w (ix2 k j)) ⟨672 + j.val, by omega⟩ := by
  unfold refOut1
  have e := proj_row x md g w n
  generalize proj (modulate (norm x g) md) w = y at e
  pointwise []
  exact e _

/-- The run: the results of the arguments, which end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = refOut0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v32) = refOut1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2⟩ := h c
    refine ⟨h0.trans ?_, h1.trans ?_, h2⟩
    · unfold refOut0 proj modulate norm
      rfl
    · unfold refOut1 proj modulate norm
      rfl) (Cert.Reference4Ideal.Value.run (F := Ideal) m ρ)

end Cert.Reference4Ideal.Hand

end
-- ==== Proof.PrepRows.lean ====
module

public import Idealize.ShloMosaic.Lib.Pointwise
public import Idealize.ShloMosaic.Lib.IdealHost
public import proofs.«01_k».proof.Proof.Rows

@[expose] public section

noncomputable section

/-! The plain mathematics of one token of the attention's preparation, over the ideal floats: the latent rows normalized,
their products, and the rotated part. -/

namespace Cert.Prep

open Idealize.ShloMosaic

/-- A row, normalized by the root of its mean square (`n` its length) and scaled by the gain. -/
def norm {a : ℕ} (n : EReal) (x g : Fin a → EReal) (i : Fin a) : EReal :=
  x i * Ideal.rsqrt (Ideal.div (∑ k, x k * x k) n + Ideal.ofBits .f32 0x358637BD#32) * g i

/-- The frequency of a lane. -/
def freq (f : Fin 16) : EReal :=
  Ideal.div 1 (Ideal.pow (Ideal.ofBits .f32 0x461C4000#32)
    (Ideal.div (Ideal.ofBits .f32 0x40000000#32 * FloatOps.sitofp (F := Ideal) .f32 (BitVec.ofNat 32 f.val)) (Ideal.ofBits .f32 0x42000000#32)))

/-- The angle of a lane at a position, its cosine and its sine. -/
def ang (p : BitVec 32) (f : Fin 16) : EReal := freq f * FloatOps.sitofp (F := Ideal) .f32 p
def cs (p : BitVec 32) (f : Fin 16) : EReal := Ideal.cos (ang p f)
def sn (p : BitVec 32) (f : Fin 16) : EReal := Ideal.sin (ang p f)

/-- The rotated part: 32 lanes of `u`, the first half against the second. -/
def rot (p : BitVec 32) (u : Fin 32 → EReal) (l : Fin 32) : EReal :=
  if h : l.val < 16 then u ⟨l.val, by omega⟩ * cs p ⟨l.val, h⟩ - u ⟨l.val + 16, by omega⟩ * sn p ⟨l.val, h⟩
  else u ⟨l.val - 16, by omega⟩ * sn p ⟨l.val - 16, by omega⟩ + u ⟨l.val, by omega⟩ * cs p ⟨l.val - 16, by omega⟩

/-- The three parts of a token's projected row. -/
def cq (x : Fin 672 → EReal) (k : Fin 384) : EReal := x ⟨k.val, by omega⟩
def ckv (x : Fin 672 → EReal) (k : Fin 256) : EReal := x ⟨384 + k.val, by omega⟩
def kr (x : Fin 672 → EReal) (k : Fin 32) : EReal := x ⟨640 + k.val, by omega⟩

/-- The scaled queries of a token, the heads' 96 lanes in a row. -/
def qv (x : Fin 672 → EReal) (g : Fin 384 → EReal) (w : Fin 384 → Fin 768 → EReal) (j : Fin 768) : EReal :=
  Rows.mul (norm (Ideal.ofBits .f32 0x43C00000#32) (cq x) g) w j * Ideal.ofBits .f32 0x3E16C740#32

/-- The keys' and values' product of a token. -/
def kvv (x : Fin 672 → EReal) (g : Fin 256 → EReal) (w : Fin 256 → Fin 1024 → EReal) (j : Fin 1024) : EReal :=
  Rows.mul (norm (Ideal.ofBits .f32 0x43800000#32) (ckv x) g) w j

/-- A head's query: 64 plain lanes, 32 rotated, 32 zeros. -/
def qOut (x : Fin 672 → EReal) (p : BitVec 32) (g : Fin 384 → EReal) (w : Fin 384 → Fin 768 → EReal) (h : Fin 8) (l : Fin 128) : EReal :=
  if l.val < 64 then qv x g w ⟨(96 * h.val + l.val) % 768, by omega⟩
  else if l.val < 96 then rot p (fun d => qv x g w ⟨96 * h.val + 64 + d.val, by omega⟩) ⟨(l.val - 64) % 32, by omega⟩ else 0

/-- A head's key: 64 plain lanes, the 32 rotated lanes all heads share, 32 zeros. -/
def kOut (x : Fin 672 → EReal) (p : BitVec 32) (g : Fin 256 → EReal) (w : Fin 256 → Fin 1024 → EReal) (h : Fin 8) (l : Fin 128) : EReal :=
  if l.val < 64 then kvv x g w ⟨128 * h.val + l.val, by omega⟩
  else if l.val < 96 then rot p (kr x) ⟨(l.val - 64) % 32, by omega⟩ else 0

/-- A head's value: 64 lanes, a one, 15 zeros. -/
def vOut (x : Fin 672 → EReal) (g : Fin 256 → EReal) (w : Fin 256 → Fin 1024 → EReal) (h : Fin 8) (l : Fin 80) : EReal :=
  if l.val < 64 then kvv x g w ⟨(128 * h.val + 64 + l.val) % 1024, by omega⟩ else if l.val < 65 then 1 else 0

end Cert.Prep

end
-- ==== Proof.PrepBody.lean ====
module

public import proofs.«01_k».proof.Proof.PrepRows
public import proofs.«01_k».proof.Proof.Gen.Kernel5Ideal.Value
public import Idealize.ShloMosaic.Lib.StableHlo.ReadAt

@[expose] public section

set_option maxRecDepth 16384

noncomputable section

/-! The attention's preparation: what one block's body leaves, over the ideal floats. -/

namespace Cert.Kernel5Ideal.Hand

open Idealize.ShloMosaic Idealize.ShloMosaic.TcCoe Idealize.SL.Sem
open Cert.Kernel5Ideal.Gen

theorem pay8_at (x : FVec Ideal S512x768 .bf16) (g : FVec Ideal S1x384 .f32) (w : FVec Ideal S1024x384 .bf16) (j : Fin 1024) (r : Fin 512) :
    k0_pay8 (F := Ideal) x g w (ix2 j r)
      = Rows.mul (Prep.norm (Ideal.ofBits .f32 0x43C00000#32) (fun k : Fin 384 => x (ix2 r ⟨k.val, by omega⟩)) (fun k => g (ix2 0 k))) (fun k j => w (ix2 j k)) j
        * Ideal.ofBits .f32 0x3E16C740#32 := by
  pointwise [k0_pay8, k0_pay4]
  unfold Rows.mul Prep.norm
  refine congrArg (· * _) (Finset.sum_congr rfl fun k _ => ?_)
  exact mul_comm _ _

theorem pay6_at (f : FVec Ideal S16x1 .f32) (p : IVec S1x1x512 32) (l : Fin 16) (r : Fin 512) :
    k0_pay6 (F := Ideal) f p (ix2 l r) = Ideal.cos (f (ix2 l 0) * FloatOps.sitofp (F := Ideal) .f32 (p (ix3 0 0 r))) := by
  pointwise [k0_pay6, k0_pay5]

theorem pay7_at (f : FVec Ideal S16x1 .f32) (p : IVec S1x1x512 32) (l : Fin 16) (r : Fin 512) :
    k0_pay7 (F := Ideal) f p (ix2 l r) = Ideal.sin (f (ix2 l 0) * FloatOps.sitofp (F := Ideal) .f32 (p (ix3 0 0 r))) := by
  pointwise [k0_pay7, k0_pay5]

theorem pay51_at (x : FVec Ideal S512x768 .f32) (g : FVec Ideal S1x256 .f32) (r : Fin 512) (k : Fin 256) :
    k0_pay51 (F := Ideal) x g (ix2 r k)
      = Prep.norm (Ideal.ofBits .f32 0x43800000#32) (fun k : Fin 256 => x (ix2 r ⟨384 + k.val, by omega⟩)) (fun k => g (ix2 0 k)) k := by
  pointwise [k0_pay51]
  rfl

theorem slt_at : ∀ l : Fin 128, IntOp.cmpi .slt (BitVec.ofNat 32 l.val) 16#32 = if l.val < 16 then 1#1 else 0#1 := by decide

theorem sel1 (a b : EReal) : Scalar.select (1#1) a b = a := rfl
theorem sel0 (a b : EReal) : Scalar.select (0#1) a b = b := rfl

theorem pay1_low (a : FVec Ideal S512x256 .f32) (b c d : FVec Ideal S512x128 .f32) (e : IVec S512x128 1) (f g : FVec Ideal S512x128 .f32) (r : Fin 512) (k : Fin 256) :
    k0_pay1 (F := Ideal) a b c d e f g (ix2 r ⟨k.val, by omega⟩) = a (ix2 r k) := by
  have h : k.val < 256 := k.isLt
  pointwise [k0_pay1]

theorem pay1_high (a : FVec Ideal S512x256 .f32) (b c d : FVec Ideal S512x128 .f32) (e : IVec S512x128 1) (f g : FVec Ideal S512x128 .f32) (r : Fin 512) (l : Fin 128) :
    k0_pay1 (F := Ideal) a b c d e f g (ix2 r ⟨256 + l.val, by omega⟩)
      = b (ix2 r l) * c (ix2 r l) + Scalar.select (e (ix2 r l)) (f (ix2 r l)) (g (ix2 r l)) * d (ix2 r l) := by
  have h : ¬ 256 + l.val < 256 := by omega
  have e : (⟨256 + l.val - 256, by omega⟩ : Fin 128) = l := Fin.ext (by show 256 + l.val - 256 = l.val; omega)
  pointwise [k0_pay1]

/-- The rotated lanes of the keys, of the block. -/
theorem pay1_rot (a : FVec Ideal S512x256 .f32) (x : FVec Ideal S512x768 .f32) (v w : FVec Ideal S16x512 .f32) (p : BitVec 32) (r : Fin 512)
    (hv : ∀ f, v (ix2 f r) = Prep.cs p f) (hw : ∀ f, w (ix2 f r) = Prep.sn p f) (l : Fin 32) :
    k0_pay1 (F := Ideal) a (k0_pay52 x) (k0_pay53 v) (k0_pay54 w) k0_pay55 (k0_pay56 x) (k0_pay57 x) (ix2 r ⟨256 + l.val, by omega⟩)
      = Prep.rot p (fun d => x (ix2 r ⟨640 + d.val, by omega⟩)) l := by
  have hl : l.val < 32 := l.isLt
  refine (pay1_high a _ _ _ _ _ _ r ⟨l.val, by omega⟩).trans ?_
  pointwise [k0_pay52, k0_pay53, k0_pay54, k0_pay55, k0_pay56, k0_pay57]
  have e := slt_at ⟨l.val, by omega⟩
  have e' : IntOp.cmpi .slt (BitVec.ofNat 32 l.val) 16#32 = if l.val < 16 then 1#1 else 0#1 := e
  unfold Prep.rot
  rw [e']
  by_cases h : l.val < 16
  · have m : 640 + (l.val + 128 - 112) % 128 = 640 + (l.val + 16) := by omega
    simp only [h, ↓reduceDIte, ↓reduceIte, hv, hw, m, sel1, zero_sub, EReal.neg_mul, ← sub_eq_add_neg]
  · have m : 640 + (l.val + 128 - 16) % 128 = 640 + (l.val - 16) := by omega
    have h' : l.val - 16 < 16 := by omega
    simp only [h, h', ↓reduceDIte, ↓reduceIte, hv, hw, m, sel0]
    exact add_comm _ _

theorem pay2_at (a : FVec Ideal S512x256 .f32) (b c d : FVec Ideal S512x128 .f32) (e : IVec S512x128 1) (f g : FVec Ideal S512x128 .f32) (w : FVec Ideal S384x1024 .bf16) (r : Fin 512) (j : Fin 1024) :
    k0_pay2 (F := Ideal) a b c d e f g w (ix2 r j) = ∑ k, k0_pay1 (F := Ideal) a b c d e f g (ix2 r k) * w (ix2 k j) := by
  unfold k0_pay2
  generalize k0_pay1 (F := Ideal) a b c d e f g = y
  pointwise []

theorem pay3_at (a : FVec Ideal S512x256 .f32) (b c d : FVec Ideal S512x128 .f32) (e : IVec S512x128 1) (f g : FVec Ideal S512x128 .f32) (w : FVec Ideal S640x384 .bf16) (v : FVec Ideal S640x1 .f32) (r : Fin 512) (j : Fin 640) :
    k0_pay3 (F := Ideal) a b c d e f g w v (ix4 0 0 j r) = (∑ k, w (ix2 j k) * k0_pay1 (F := Ideal) a b c d e f g (ix2 r k)) + v (ix2 j 0) := by
  unfold k0_pay3
  generalize k0_pay1 (F := Ideal) a b c d e f g = y
  pointwise []

end Cert.Kernel5Ideal.Hand

end
-- ==== Proof.PrepQ1.lean ====
module

public import proofs.«01_k».proof.Proof.PrepRows
public import proofs.«01_k».proof.Proof.Gen.Kernel5Ideal.Value
public import Idealize.ShloMosaic.Lib.StableHlo.ReadAt

@[expose] public section

set_option maxRecDepth 16384

noncomputable section

/-! The attention's preparation: the queries' rows of one block, over the ideal floats. -/

namespace Cert.Kernel5Ideal.Hand

open Idealize.ShloMosaic Idealize.ShloMosaic.TcCoe Idealize.SL.Sem
open Cert.Kernel5Ideal.Gen

/-! ### The queries: the heads' pieces joined -/

/-- A head's lanes from the product: plain lanes, the rotated halves, the lanes after them. -/
def rotq (Q : FVec Ideal S1024x512 .f32) (c s : FVec Ideal S16x512 .f32) (h : Fin 8) (l : Fin 128) (r : Fin 512) : EReal :=
  if l.val < 64 then Q (ix2 ⟨128 * h.val + l.val, by omega⟩ r)
  else if k : l.val < 80 then Q (ix2 ⟨128 * h.val + l.val, by omega⟩ r) * c (ix2 ⟨l.val - 64, by omega⟩ r) - Q (ix2 ⟨(128 * h.val + l.val + 16) % 1024, by omega⟩ r) * s (ix2 ⟨l.val - 64, by omega⟩ r)
  else if k : l.val < 96 then Q (ix2 ⟨128 * h.val + l.val - 16, by omega⟩ r) * s (ix2 ⟨l.val - 80, by omega⟩ r) + Q (ix2 ⟨128 * h.val + l.val, by omega⟩ r) * c (ix2 ⟨l.val - 80, by omega⟩ r)
  else Q (ix2 ⟨128 * h.val + l.val, by omega⟩ r)

theorem rotq_a (Q : FVec Ideal S1024x512 .f32) (c s : FVec Ideal S16x512 .f32) (h : Fin 8) (l : Fin 64) (r : Fin 512) :
    rotq Q c s h ⟨0 + l.val, by omega⟩ r = Q (ix2 ⟨128 * h.val + 0 + l.val, by omega⟩ r) := by
  unfold rotq
  have k : 0 + l.val < 64 := by omega
  rw [if_pos k]
  exact congrArg (fun j => Q (ix2 j r)) (Fin.ext (by show 128 * h.val + (0 + l.val) = 128 * h.val + 0 + l.val; omega))

theorem rotq_b (Q : FVec Ideal S1024x512 .f32) (c s : FVec Ideal S16x512 .f32) (h : Fin 8) (l : Fin 16) (r : Fin 512) :
    rotq Q c s h ⟨64 + l.val, by omega⟩ r = Q (ix2 ⟨128 * h.val + 64 + l.val, by omega⟩ r) * c (ix2 l r) - Q (ix2 ⟨128 * h.val + 80 + l.val, by omega⟩ r) * s (ix2 l r) := by
  unfold rotq
  have k : ¬ 64 + l.val < 64 := by omega
  have k' : 64 + l.val < 80 := by omega
  rw [if_neg k, dif_pos k']
  have e : (⟨64 + l.val - 64, by omega⟩ : Fin 16) = l := Fin.ext (by show 64 + l.val - 64 = l.val; omega)
  have e1 : (⟨128 * h.val + (64 + l.val), by omega⟩ : Fin 1024) = ⟨128 * h.val + 64 + l.val, by omega⟩ := Fin.ext (by show 128 * h.val + (64 + l.val) = 128 * h.val + 64 + l.val; omega)
  have e2 : (⟨(128 * h.val + (64 + l.val) + 16) % 1024, by omega⟩ : Fin 1024) = ⟨128 * h.val + 80 + l.val, by omega⟩ := Fin.ext (by show (128 * h.val + (64 + l.val) + 16) % 1024 = 128 * h.val + 80 + l.val; omega)
  show Q (ix2 ⟨128 * h.val + (64 + l.val), _⟩ r) * c (ix2 ⟨64 + l.val - 64, _⟩ r) - Q (ix2 ⟨(128 * h.val + (64 + l.val) + 16) % 1024, _⟩ r) * s (ix2 ⟨64 + l.val - 64, _⟩ r) = _
  rw [e, e1, e2]

theorem rotq_c (Q : FVec Ideal S1024x512 .f32) (c s : FVec Ideal S16x512 .f32) (h : Fin 8) (l : Fin 16) (r : Fin 512) :
    rotq Q c s h ⟨80 + l.val, by omega⟩ r = Q (ix2 ⟨128 * h.val + 64 + l.val, by omega⟩ r) * s (ix2 l r) + Q (ix2 ⟨128 * h.val + 80 + l.val, by omega⟩ r) * c (ix2 l r) := by
  unfold rotq
  have k : ¬ 80 + l.val < 64 := by omega
  have k' : ¬ 80 + l.val < 80 := by omega
  have k'' : 80 + l.val < 96 := by omega
  rw [if_neg k, dif_neg k', dif_pos k'']
  have e : (⟨80 + l.val - 80, by omega⟩ : Fin 16) = l := Fin.ext (by show 80 + l.val - 80 = l.val; omega)
  have e1 : (⟨128 * h.val + (80 + l.val), by omega⟩ : Fin 1024) = ⟨128 * h.val + 80 + l.val, by omega⟩ := Fin.ext (by show 128 * h.val + (80 + l.val) = 128 * h.val + 80 + l.val; omega)
  have e2 : (⟨128 * h.val + (80 + l.val) - 16, by omega⟩ : Fin 1024) = ⟨128 * h.val + 64 + l.val, by omega⟩ := Fin.ext (by show 128 * h.val + (80 + l.val) - 16 = 128 * h.val + 64 + l.val; omega)
  show Q (ix2 ⟨128 * h.val + (80 + l.val) - 16, _⟩ r) * s (ix2 ⟨80 + l.val - 80, _⟩ r) + Q (ix2 ⟨128 * h.val + (80 + l.val), _⟩ r) * c (ix2 ⟨80 + l.val - 80, _⟩ r) = _
  rw [e, e1, e2]

theorem rotq_d (Q : FVec Ideal S1024x512 .f32) (c s : FVec Ideal S16x512 .f32) (h : Fin 8) (l : Fin 32) (r : Fin 512) :
    rotq Q c s h ⟨96 + l.val, by omega⟩ r = Q (ix2 ⟨128 * h.val + 96 + l.val, by omega⟩ r) := by
  unfold rotq
  have k : ¬ 96 + l.val < 64 := by omega
  have k' : ¬ 96 + l.val < 80 := by omega
  have k'' : ¬ 96 + l.val < 96 := by omega
  rw [if_neg k, dif_neg k', dif_neg k'']
  have e1 : (⟨128 * h.val + (96 + l.val), by omega⟩ : Fin 1024) = ⟨128 * h.val + 96 + l.val, by omega⟩ := Fin.ext (by show 128 * h.val + (96 + l.val) = 128 * h.val + 96 + l.val; omega)
  show Q (ix2 ⟨128 * h.val + (96 + l.val), _⟩ r) = _
  rw [e1]

theorem lanes (P : Fin 128 → Prop) (a : ∀ l : Fin 64, P ⟨0 + l.val, by omega⟩) (b : ∀ l : Fin 16, P ⟨64 + l.val, by omega⟩)
    (c : ∀ l : Fin 16, P ⟨80 + l.val, by omega⟩) (d : ∀ l : Fin 32, P ⟨96 + l.val, by omega⟩) (l : Fin 128) : P l := by
  have hl := l.isLt
  by_cases h : l.val < 64
  · have e : (⟨0 + (⟨l.val, h⟩ : Fin 64).val, by omega⟩ : Fin 128) = l := Fin.ext (by show 0 + l.val = l.val; omega)
    exact e ▸ a ⟨l.val, h⟩
  by_cases h' : l.val < 80
  · have e : (⟨64 + (⟨l.val - 64, by omega⟩ : Fin 16).val, by omega⟩ : Fin 128) = l := Fin.ext (by show 64 + (l.val - 64) = l.val; omega)
    exact e ▸ b ⟨l.val - 64, by omega⟩
  by_cases h'' : l.val < 96
  · have e : (⟨80 + (⟨l.val - 80, by omega⟩ : Fin 16).val, by omega⟩ : Fin 128) = l := Fin.ext (by show 80 + (l.val - 80) = l.val; omega)
    exact e ▸ c ⟨l.val - 80, by omega⟩
  · have e : (⟨96 + (⟨l.val - 96, by omega⟩ : Fin 32).val, by omega⟩ : Fin 128) = l := Fin.ext (by show 96 + (l.val - 96) = l.val; omega)
    exact e ▸ d ⟨l.val - 96, by omega⟩

end Cert.Kernel5Ideal.Hand

end
-- ==== Proof.PrepQ2.lean ====
module

public import proofs.«01_k».proof.Proof.PrepQ1
public import proofs.«01_k».proof.Proof.Gen.Kernel5Ideal.Value
public import Idealize.ShloMosaic.Lib.StableHlo.ReadAt

@[expose] public section

set_option maxRecDepth 16384

noncomputable section

/-! The attention's preparation: the queries' rows of one block, over the ideal floats. -/

namespace Cert.Kernel5Ideal.Hand

open Idealize.ShloMosaic Idealize.ShloMosaic.TcCoe Idealize.SL.Sem
open Cert.Kernel5Ideal.Gen
/-- The pieces joined. -/
def cat (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) : FVec Ideal S1024x512 .f32 :=
  concatenate S1024x512 0 [⟨S64x512, v0⟩, ⟨S16x512, v1⟩, ⟨S16x512, v2⟩, ⟨S32x512, v3⟩, ⟨S64x512, v4⟩, ⟨S16x512, v5⟩, ⟨S16x512, v6⟩, ⟨S32x512, v7⟩, ⟨S64x512, v8⟩, ⟨S16x512, v9⟩, ⟨S16x512, v10⟩, ⟨S32x512, v11⟩, ⟨S64x512, v12⟩, ⟨S16x512, v13⟩, ⟨S16x512, v14⟩, ⟨S32x512, v15⟩, ⟨S64x512, v16⟩, ⟨S16x512, v17⟩, ⟨S16x512, v18⟩, ⟨S32x512, v19⟩, ⟨S64x512, v20⟩, ⟨S16x512, v21⟩, ⟨S16x512, v22⟩, ⟨S32x512, v23⟩, ⟨S64x512, v24⟩, ⟨S16x512, v25⟩, ⟨S16x512, v26⟩, ⟨S32x512, v27⟩, ⟨S64x512, v28⟩, ⟨S16x512, v29⟩, ⟨S16x512, v30⟩, ⟨S32x512, v31⟩] concatenates_S64x512_S16x512_S16x512_S32x512_S64x512_S16x512_S16x512_S32x512_S64x512_S16x512_S16x512_S32x512_S64x512_S16x512_S16x512_S32x512_S64x512_S16x512_S16x512_S32x512_S64x512_S16x512_S16x512_S32x512_S64x512_S16x512_S16x512_S32x512_S64x512_S16x512_S16x512_S32x512_S1024x512_d0

/-- The pieces' shapes. -/
def shs : List Shape := [S64x512, S16x512, S16x512, S32x512, S64x512, S16x512, S16x512, S32x512, S64x512, S16x512, S16x512, S32x512, S64x512, S16x512, S16x512, S32x512, S64x512, S16x512, S16x512, S32x512, S64x512, S16x512, S16x512, S32x512, S64x512, S16x512, S16x512, S32x512, S64x512, S16x512, S16x512, S32x512]

/-- A piece's rows. -/
def ext (s : Shape) : ℕ := if h : s.rank = S1024x512.rank then s.size (Fin.cast h.symm 0) else 0

theorem cat_0 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨0 + l.val, by omega⟩ r) = v0 (ix2 l r) := by
  have hp : ((shs.take 0).map ext).sum = 0 := by decide +kernel
  unfold cat
  refine concatenate_apply_piece (t := S1024x512) 0 _ _ _ 0 (by exact (by decide : 0 < 32)) S64x512 v0 rfl rfl 0 ?_ (ix2 l r) (fun b hb => ?_) rfl
  · rw [List.map_take]
    exact hp
  · match b, hb with
    | ⟨0, _⟩, hb => exact absurd rfl hb
    | ⟨1, _⟩, _ => rfl

theorem cat_1 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨64 + l.val, by omega⟩ r) = v1 (ix2 l r) := by
  have hp : ((shs.take 1).map ext).sum = 64 := by decide +kernel
  unfold cat
  refine concatenate_apply_piece (t := S1024x512) 0 _ _ _ 1 (by exact (by decide : 1 < 32)) S16x512 v1 rfl rfl 64 ?_ (ix2 l r) (fun b hb => ?_) rfl
  · rw [List.map_take]
    exact hp
  · match b, hb with
    | ⟨0, _⟩, hb => exact absurd rfl hb
    | ⟨1, _⟩, _ => rfl

theorem cat_2 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨80 + l.val, by omega⟩ r) = v2 (ix2 l r) := by
  have hp : ((shs.take 2).map ext).sum = 80 := by decide +kernel
  unfold cat
  refine concatenate_apply_piece (t := S1024x512) 0 _ _ _ 2 (by exact (by decide : 2 < 32)) S16x512 v2 rfl rfl 80 ?_ (ix2 l r) (fun b hb => ?_) rfl
  · rw [List.map_take]
    exact hp
  · match b, hb with
    | ⟨0, _⟩, hb => exact absurd rfl hb
    | ⟨1, _⟩, _ => rfl

theorem cat_3 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨96 + l.val, by omega⟩ r) = v3 (ix2 l r) := by
  have hp : ((shs.take 3).map ext).sum = 96 := by decide +kernel
  unfold cat
  refine concatenate_apply_piece (t := S1024x512) 0 _ _ _ 3 (by exact (by decide : 3 < 32)) S32x512 v3 rfl rfl 96 ?_ (ix2 l r) (fun b hb => ?_) rfl
  · rw [List.map_take]
    exact hp
  · match b, hb with
    | ⟨0, _⟩, hb => exact absurd rfl hb
    | ⟨1, _⟩, _ => rfl

theorem cat_4 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨128 + l.val, by omega⟩ r) = v4 (ix2 l r) := by
  have hp : ((shs.take 4).map ext).sum = 128 := by decide +kernel
  unfold cat
  refine concatenate_apply_piece (t := S1024x512) 0 _ _ _ 4 (by exact (by decide : 4 < 32)) S64x512 v4 rfl rfl 128 ?_ (ix2 l r) (fun b hb => ?_) rfl
  · rw [List.map_take]
    exact hp
  · match b, hb with
    | ⟨0, _⟩, hb => exact absurd rfl hb
    | ⟨1, _⟩, _ => rfl

theorem cat_5 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨192 + l.val, by omega⟩ r) = v5 (ix2 l r) := by
  have hp : ((shs.take 5).map ext).sum = 192 := by decide +kernel
  unfold cat
  refine concatenate_apply_piece (t := S1024x512) 0 _ _ _ 5 (by exact (by decide : 5 < 32)) S16x512 v5 rfl rfl 192 ?_ (ix2 l r) (fun b hb => ?_) rfl
  · rw [List.map_take]
    exact hp
  · match b, hb with
    | ⟨0, _⟩, hb => exact absurd rfl hb
    | ⟨1, _⟩, _ => rfl

theorem cat_6 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨208 + l.val, by omega⟩ r) = v6 (ix2 l r) := by
  have hp : ((shs.take 6).map ext).sum = 208 := by decide +kernel
  unfold cat
  refine concatenate_apply_piece (t := S1024x512) 0 _ _ _ 6 (by exact (by decide : 6 < 32)) S16x512 v6 rfl rfl 208 ?_ (ix2 l r) (fun b hb => ?_) rfl
  · rw [List.map_take]
    exact hp
  · match b, hb with
    | ⟨0, _⟩, hb => exact absurd rfl hb
    | ⟨1, _⟩, _ => rfl

theorem cat_7 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨224 + l.val, by omega⟩ r) = v7 (ix2 l r) := by
  have hp : ((shs.take 7).map ext).sum = 224 := by decide +kernel
  unfold cat
  refine concatenate_apply_piece (t := S1024x512) 0 _ _ _ 7 (by exact (by decide : 7 < 32)) S32x512 v7 rfl rfl 224 ?_ (ix2 l r) (fun b hb => ?_) rfl
  · rw [List.map_take]
    exact hp
  · match b, hb with
    | ⟨0, _⟩, hb => exact absurd rfl hb
    | ⟨1, _⟩, _ => rfl

theorem cat_8 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨256 + l.val, by omega⟩ r) = v8 (ix2 l r) := by
  have hp : ((shs.take 8).map ext).sum = 256 := by decide +kernel
  unfold cat
  refine concatenate_apply_piece (t := S1024x512) 0 _ _ _ 8 (by exact (by decide : 8 < 32)) S64x512 v8 rfl rfl 256 ?_ (ix2 l r) (fun b hb => ?_) rfl
  · rw [List.map_take]
    exact hp
  · match b, hb with
    | ⟨0, _⟩, hb => exact absurd rfl hb
    | ⟨1, _⟩, _ => rfl

theorem cat_9 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨320 + l.val, by omega⟩ r) = v9 (ix2 l r) := by
  have hp : ((shs.take 9).map ext).sum = 320 := by decide +kernel
  unfold cat
  refine concatenate_apply_piece (t := S1024x512) 0 _ _ _ 9 (by exact (by decide : 9 < 32)) S16x512 v9 rfl rfl 320 ?_ (ix2 l r) (fun b hb => ?_) rfl
  · rw [List.map_take]
    exact hp
  · match b, hb with
    | ⟨0, _⟩, hb => exact absurd rfl hb
    | ⟨1, _⟩, _ => rfl

theorem cat_10 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨336 + l.val, by omega⟩ r) = v10 (ix2 l r) := by
  have hp : ((shs.take 10).map ext).sum = 336 := by decide +kernel
  unfold cat
  refine concatenate_apply_piece (t := S1024x512) 0 _ _ _ 10 (by exact (by decide : 10 < 32)) S16x512 v10 rfl rfl 336 ?_ (ix2 l r) (fun b hb => ?_) rfl
  · rw [List.map_take]
    exact hp
  · match b, hb with
    | ⟨0, _⟩, hb => exact absurd rfl hb
    | ⟨1, _⟩, _ => rfl

theorem cat_11 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨352 + l.val, by omega⟩ r) = v11 (ix2 l r) := by
  have hp : ((shs.take 11).map ext).sum = 352 := by decide +kernel
  unfold cat
  refine concatenate_apply_piece (t := S1024x512) 0 _ _ _ 11 (by exact (by decide : 11 < 32)) S32x512 v11 rfl rfl 352 ?_ (ix2 l r) (fun b hb => ?_) rfl
  · rw [List.map_take]
    exact hp
  · match b, hb with
    | ⟨0, _⟩, hb => exact absurd rfl hb
    | ⟨1, _⟩, _ => rfl

theorem cat_12 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨384 + l.val, by omega⟩ r) = v12 (ix2 l r) := by
  have hp : ((shs.take 12).map ext).sum = 384 := by decide +kernel
  unfold cat
  refine concatenate_apply_piece (t := S1024x512) 0 _ _ _ 12 (by exact (by decide : 12 < 32)) S64x512 v12 rfl rfl 384 ?_ (ix2 l r) (fun b hb => ?_) rfl
  · rw [List.map_take]
    exact hp
  · match b, hb with
    | ⟨0, _⟩, hb => exact absurd rfl hb
    | ⟨1, _⟩, _ => rfl

theorem cat_13 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨448 + l.val, by omega⟩ r) = v13 (ix2 l r) := by
  have hp : ((shs.take 13).map ext).sum = 448 := by decide +kernel
  unfold cat
  refine concatenate_apply_piece (t := S1024x512) 0 _ _ _ 13 (by exact (by decide : 13 < 32)) S16x512 v13 rfl rfl 448 ?_ (ix2 l r) (fun b hb => ?_) rfl
  · rw [List.map_take]
    exact hp
  · match b, hb with
    | ⟨0, _⟩, hb => exact absurd rfl hb
    | ⟨1, _⟩, _ => rfl

theorem cat_14 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨464 + l.val, by omega⟩ r) = v14 (ix2 l r) := by
  have hp : ((shs.take 14).map ext).sum = 464 := by decide +kernel
  unfold cat
  refine concatenate_apply_piece (t := S1024x512) 0 _ _ _ 14 (by exact (by decide : 14 < 32)) S16x512 v14 rfl rfl 464 ?_ (ix2 l r) (fun b hb => ?_) rfl
  · rw [List.map_take]
    exact hp
  · match b, hb with
    | ⟨0, _⟩, hb => exact absurd rfl hb
    | ⟨1, _⟩, _ => rfl

theorem cat_15 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨480 + l.val, by omega⟩ r) = v15 (ix2 l r) := by
  have hp : ((shs.take 15).map ext).sum = 480 := by decide +kernel
  unfold cat
  refine concatenate_apply_piece (t := S1024x512) 0 _ _ _ 15 (by exact (by decide : 15 < 32)) S32x512 v15 rfl rfl 480 ?_ (ix2 l r) (fun b hb => ?_) rfl
  · rw [List.map_take]
    exact hp
  · match b, hb with
    | ⟨0, _⟩, hb => exact absurd rfl hb
    | ⟨1, _⟩, _ => rfl

theorem cat_16 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨512 + l.val, by omega⟩ r) = v16 (ix2 l r) := by
  have hp : ((shs.take 16).map ext).sum = 512 := by decide +kernel
  unfold cat
  refine concatenate_apply_piece (t := S1024x512) 0 _ _ _ 16 (by exact (by decide : 16 < 32)) S64x512 v16 rfl rfl 512 ?_ (ix2 l r) (fun b hb => ?_) rfl
  · rw [List.map_take]
    exact hp
  · match b, hb with
    | ⟨0, _⟩, hb => exact absurd rfl hb
    | ⟨1, _⟩, _ => rfl

theorem cat_17 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨576 + l.val, by omega⟩ r) = v17 (ix2 l r) := by
  have hp : ((shs.take 17).map ext).sum = 576 := by decide +kernel
  unfold cat
  refine concatenate_apply_piece (t := S1024x512) 0 _ _ _ 17 (by exact (by decide : 17 < 32)) S16x512 v17 rfl rfl 576 ?_ (ix2 l r) (fun b hb => ?_) rfl
  · rw [List.map_take]
    exact hp
  · match b, hb with
    | ⟨0, _⟩, hb => exact absurd rfl hb
    | ⟨1, _⟩, _ => rfl

theorem cat_18 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨592 + l.val, by omega⟩ r) = v18 (ix2 l r) := by
  have hp : ((shs.take 18).map ext).sum = 592 := by decide +kernel
  unfold cat
  refine concatenate_apply_piece (t := S1024x512) 0 _ _ _ 18 (by exact (by decide : 18 < 32)) S16x512 v18 rfl rfl 592 ?_ (ix2 l r) (fun b hb => ?_) rfl
  · rw [List.map_take]
    exact hp
  · match b, hb with
    | ⟨0, _⟩, hb => exact absurd rfl hb
    | ⟨1, _⟩, _ => rfl

theorem cat_19 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨608 + l.val, by omega⟩ r) = v19 (ix2 l r) := by
  have hp : ((shs.take 19).map ext).sum = 608 := by decide +kernel
  unfold cat
  refine concatenate_apply_piece (t := S1024x512) 0 _ _ _ 19 (by exact (by decide : 19 < 32)) S32x512 v19 rfl rfl 608 ?_ (ix2 l r) (fun b hb => ?_) rfl
  · rw [List.map_take]
    exact hp
  · match b, hb with
    | ⟨0, _⟩, hb => exact absurd rfl hb
    | ⟨1, _⟩, _ => rfl

theorem cat_20 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨640 + l.val, by omega⟩ r) = v20 (ix2 l r) := by
  have hp : ((shs.take 20).map ext).sum = 640 := by decide +kernel
  unfold cat
  refine concatenate_apply_piece (t := S1024x512) 0 _ _ _ 20 (by exact (by decide : 20 < 32)) S64x512 v20 rfl rfl 640 ?_ (ix2 l r) (fun b hb => ?_) rfl
  · rw [List.map_take]
    exact hp
  · match b, hb with
    | ⟨0, _⟩, hb => exact absurd rfl hb
    | ⟨1, _⟩, _ => rfl

theorem cat_21 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨704 + l.val, by omega⟩ r) = v21 (ix2 l r) := by
  have hp : ((shs.take 21).map ext).sum = 704 := by decide +kernel
  unfold cat
  refine concatenate_apply_piece (t := S1024x512) 0 _ _ _ 21 (by exact (by decide : 21 < 32)) S16x512 v21 rfl rfl 704 ?_ (ix2 l r) (fun b hb => ?_) rfl
  · rw [List.map_take]
    exact hp
  · match b, hb with
    | ⟨0, _⟩, hb => exact absurd rfl hb
    | ⟨1, _⟩, _ => rfl

theorem cat_22 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨720 + l.val, by omega⟩ r) = v22 (ix2 l r) := by
  have hp : ((shs.take 22).map ext).sum = 720 := by decide +kernel
  unfold cat
  refine concatenate_apply_piece (t := S1024x512) 0 _ _ _ 22 (by exact (by decide : 22 < 32)) S16x512 v22 rfl rfl 720 ?_ (ix2 l r) (fun b hb => ?_) rfl
  · rw [List.map_take]
    exact hp
  · match b, hb with
    | ⟨0, _⟩, hb => exact absurd rfl hb
    | ⟨1, _⟩, _ => rfl

theorem cat_23 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨736 + l.val, by omega⟩ r) = v23 (ix2 l r) := by
  have hp : ((shs.take 23).map ext).sum = 736 := by decide +kernel
  unfold cat
  refine concatenate_apply_piece (t := S1024x512) 0 _ _ _ 23 (by exact (by decide : 23 < 32)) S32x512 v23 rfl rfl 736 ?_ (ix2 l r) (fun b hb => ?_) rfl
  · rw [List.map_take]
    exact hp
  · match b, hb with
    | ⟨0, _⟩, hb => exact absurd rfl hb
    | ⟨1, _⟩, _ => rfl

theorem cat_24 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨768 + l.val, by omega⟩ r) = v24 (ix2 l r) := by
  have hp : ((shs.take 24).map ext).sum = 768 := by decide +kernel
  unfold cat
  refine concatenate_apply_piece (t := S1024x512) 0 _ _ _ 24 (by exact (by decide : 24 < 32)) S64x512 v24 rfl rfl 768 ?_ (ix2 l r) (fun b hb => ?_) rfl
  · rw [List.map_take]
    exact hp
  · match b, hb with
    | ⟨0, _⟩, hb => exact absurd rfl hb
    | ⟨1, _⟩, _ => rfl

theorem cat_25 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨832 + l.val, by omega⟩ r) = v25 (ix2 l r) := by
  have hp : ((shs.take 25).map ext).sum = 832 := by decide +kernel
  unfold cat
  refine concatenate_apply_piece (t := S1024x512) 0 _ _ _ 25 (by exact (by decide : 25 < 32)) S16x512 v25 rfl rfl 832 ?_ (ix2 l r) (fun b hb => ?_) rfl
  · rw [List.map_take]
    exact hp
  · match b, hb with
    | ⟨0, _⟩, hb => exact absurd rfl hb
    | ⟨1, _⟩, _ => rfl

theorem cat_26 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨848 + l.val, by omega⟩ r) = v26 (ix2 l r) := by
  have hp : ((shs.take 26).map ext).sum = 848 := by decide +kernel
  unfold cat
  refine concatenate_apply_piece (t := S1024x512) 0 _ _ _ 26 (by exact (by decide : 26 < 32)) S16x512 v26 rfl rfl 848 ?_ (ix2 l r) (fun b hb => ?_) rfl
  · rw [List.map_take]
    exact hp
  · match b, hb with
    | ⟨0, _⟩, hb => exact absurd rfl hb
    | ⟨1, _⟩, _ => rfl

theorem cat_27 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨864 + l.val, by omega⟩ r) = v27 (ix2 l r) := by
  have hp : ((shs.take 27).map ext).sum = 864 := by decide +kernel
  unfold cat
  refine concatenate_apply_piece (t := S1024x512) 0 _ _ _ 27 (by exact (by decide : 27 < 32)) S32x512 v27 rfl rfl 864 ?_ (ix2 l r) (fun b hb => ?_) rfl
  · rw [List.map_take]
    exact hp
  · match b, hb with
    | ⟨0, _⟩, hb => exact absurd rfl hb
    | ⟨1, _⟩, _ => rfl

theorem cat_28 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 64) (r : Fin 512) : cat v0 v1 v2 v3 v4 v5 v6 v7 v8 v9 v10 v11 v12 v13 v14 v15 v16 v17 v18 v19 v20 v21 v22 v23 v24 v25 v26 v27 v28 v29 v30 v31 (ix2 ⟨896 + l.val, by omega⟩ r) = v28 (ix2 l r) := by
  have hp : ((shs.take 28).map ext).sum = 896 := by decide +kernel
  unfold cat
  refine concatenate_apply_piece (t := S1024x512) 0 _ _ _ 28 (by exact (by decide : 28 < 32)) S64x512 v28 rfl rfl 896 ?_ (ix2 l r) (fun b hb => ?_) rfl
  · rw [List.map_take]
    exact hp
  · match b, hb with
    | ⟨0, _⟩, hb => exact absurd rfl hb
    | ⟨1, _⟩, _ => rfl

theorem cat_29 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨960 + l.val, by omega⟩ r) = v29 (ix2 l r) := by
  have hp : ((shs.take 29).map ext).sum = 960 := by decide +kernel
  unfold cat
  refine concatenate_apply_piece (t := S1024x512) 0 _ _ _ 29 (by exact (by decide : 29 < 32)) S16x512 v29 rfl rfl 960 ?_ (ix2 l r) (fun b hb => ?_) rfl
  · rw [List.map_take]
    exact hp
  · match b, hb with
    | ⟨0, _⟩, hb => exact absurd rfl hb
    | ⟨1, _⟩, _ => rfl

theorem cat_30 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 16) (r : Fin 512) : cat v0 v1 v2 v3 v4 v5 v6 v7 v8 v9 v10 v11 v12 v13 v14 v15 v16 v17 v18 v19 v20 v21 v22 v23 v24 v25 v26 v27 v28 v29 v30 v31 (ix2 ⟨976 + l.val, by omega⟩ r) = v30 (ix2 l r) := by
  have hp : ((shs.take 30).map ext).sum = 976 := by decide +kernel
  unfold cat
  refine concatenate_apply_piece (t := S1024x512) 0 _ _ _ 30 (by exact (by decide : 30 < 32)) S16x512 v30 rfl rfl 976 ?_ (ix2 l r) (fun b hb => ?_) rfl
  · rw [List.map_take]
    exact hp
  · match b, hb with
    | ⟨0, _⟩, hb => exact absurd rfl hb
    | ⟨1, _⟩, _ => rfl

theorem cat_31 (v0 : FVec Ideal S64x512 .f32) (v1 : FVec Ideal S16x512 .f32) (v2 : FVec Ideal S16x512 .f32) (v3 : FVec Ideal S32x512 .f32) (v4 : FVec Ideal S64x512 .f32) (v5 : FVec Ideal S16x512 .f32) (v6 : FVec Ideal S16x512 .f32) (v7 : FVec Ideal S32x512 .f32) (v8 : FVec Ideal S64x512 .f32) (v9 : FVec Ideal S16x512 .f32) (v10 : FVec Ideal S16x512 .f32) (v11 : FVec Ideal S32x512 .f32) (v12 : FVec Ideal S64x512 .f32) (v13 : FVec Ideal S16x512 .f32) (v14 : FVec Ideal S16x512 .f32) (v15 : FVec Ideal S32x512 .f32) (v16 : FVec Ideal S64x512 .f32) (v17 : FVec Ideal S16x512 .f32) (v18 : FVec Ideal S16x512 .f32) (v19 : FVec Ideal S32x512 .f32) (v20 : FVec Ideal S64x512 .f32) (v21 : FVec Ideal S16x512 .f32) (v22 : FVec Ideal S16x512 .f32) (v23 : FVec Ideal S32x512 .f32) (v24 : FVec Ideal S64x512 .f32) (v25 : FVec Ideal S16x512 .f32) (v26 : FVec Ideal S16x512 .f32) (v27 : FVec Ideal S32x512 .f32) (v28 : FVec Ideal S64x512 .f32) (v29 : FVec Ideal S16x512 .f32) (v30 : FVec Ideal S16x512 .f32) (v31 : FVec Ideal S32x512 .f32) (l : Fin 32) (r : Fin 512) : cat v0 v1 v2 v3 v4 v5 v6 v7 v8 v9 v10 v11 v12 v13 v14 v15 v16 v17 v18 v19 v20 v21 v22 v23 v24 v25 v26 v27 v28 v29 v30 v31 (ix2 ⟨992 + l.val, by omega⟩ r) = v31 (ix2 l r) := by
  have hp : ((shs.take 31).map ext).sum = 992 := by decide +kernel
  unfold cat
  refine concatenate_apply_piece (t := S1024x512) 0 _ _ _ 31 (by exact (by decide : 31 < 32)) S32x512 v31 rfl rfl 992 ?_ (ix2 l r) (fun b hb => ?_) rfl
  · rw [List.map_take]
    exact hp
  · match b, hb with
    | ⟨0, _⟩, hb => exact absurd rfl hb
    | ⟨1, _⟩, _ => rfl

end Cert.Kernel5Ideal.Hand

end
-- ==== Proof.PrepQ3.lean ====
module

public import proofs.«01_k».proof.Proof.PrepQ2
public import proofs.«01_k».proof.Proof.Gen.Kernel5Ideal.Value
public import Idealize.ShloMosaic.Lib.StableHlo.ReadAt

@[expose] public section

set_option maxRecDepth 16384

noncomputable section

/-! The attention's preparation: the queries' rows of one block, over the ideal floats. -/

namespace Cert.Kernel5Ideal.Hand

open Idealize.ShloMosaic Idealize.ShloMosaic.TcCoe Idealize.SL.Sem
open Cert.Kernel5Ideal.Gen
theorem sc_at (x : FVec Ideal S1024x512 .bf16) (j : Fin 1024) (r : Fin 512) :
    shapeCast S1x1024x512 x shapeCasts_S1024x512_S1x1024x512 (ix3 0 j r) = x (ix2 j r) := by
  pointwise []

theorem pay50_at (v11 v12 : FVec Ideal S16x512 .f32) (v33 : FVec Ideal S1024x512 .f32) (v36 : FVec Ideal S64x512 .f32) (v39 v42 : FVec Ideal S16x512 .f32) (r : Fin 512)
    (e36 : ∀ l : Fin 64, v36 (ix2 l r) = v33 (ix2 ⟨l.val, by omega⟩ r))
    (e39 : ∀ l : Fin 16, v39 (ix2 l r) = v33 (ix2 ⟨64 + l.val, by omega⟩ r) * v11 (ix2 l r) - v33 (ix2 ⟨80 + l.val, by omega⟩ r) * v12 (ix2 l r))
    (e42 : ∀ l : Fin 16, v42 (ix2 l r) = v33 (ix2 ⟨64 + l.val, by omega⟩ r) * v12 (ix2 l r) + v33 (ix2 ⟨80 + l.val, by omega⟩ r) * v11 (ix2 l r))
    (h : Fin 8) (l : Fin 128) :
    k0_pay50 (F := Ideal) v11 v12 v33 v36 v39 v42 (k0_pay14 v33) (k0_pay17 v33) (k0_pay18 v11 v12 v33) (k0_pay19 v11 v12 v33) (k0_pay20 v33) (k0_pay23 v33) (k0_pay24 v11 v12 v33) (k0_pay25 v11 v12 v33) (k0_pay26 v33) (k0_pay29 v33) (k0_pay30 v11 v12 v33) (k0_pay31 v11 v12 v33) (k0_pay32 v33) (k0_pay35 v33) (k0_pay36 v11 v12 v33) (k0_pay37 v11 v12 v33) (k0_pay38 v33) (k0_pay41 v33) (k0_pay42 v11 v12 v33) (k0_pay43 v11 v12 v33) (k0_pay44 v33) (k0_pay47 v33) (k0_pay48 v11 v12 v33) (k0_pay49 v11 v12 v33) (ix3 0 ⟨128 * h.val + l.val, by omega⟩ r)
      = rotq v33 v11 v12 h l r := by
  unfold k0_pay50
  refine (sc_at _ _ _).trans ?_
  match h with
  | ⟨0, hh⟩ =>
    refine lanes (fun (l : Fin 128) => (truncf .bf16 _ bitsLt_bf16_f32 : FVec Ideal S1024x512 .bf16) (ix2 ⟨128 * 0 + l.val, by omega⟩ r) = rotq v33 v11 v12 ⟨0, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 0 + (0 + l.val) = 0 + l.val; omega))).trans ((cat_0 _ _ _ _ _ _ _ _ _ _ _ _ _ _ _ _ _ _ _ _ _ _ _ _ _ _ _ _ _ _ _ _ l r).trans ?_)
      rw [rotq_a]
      exact (e36 l).trans (congrArg (fun j => v33 (ix2 j r)) (Fin.ext (by show l.val = 128 * 0 + 0 + l.val; omega)))
    · refine (congrArg (fun j => cat _ _ _ _ _ _ _ _ _ _ _ _ _ _ _ _ _ _ _ _ _ _ _ _ _ _ _ _ _ _ _ _ (ix2 j r)) (Fin.ext (by show 128 * 0 + (64 + l.val) = 64 + l.val; omega))).trans ((cat_1 _ _ _ _ _ _ _ _ _ _ _ _ _ _ _ _ _ _ _ _ _ _ _ _ _ _ _ _ _ _ _ _ l r).trans ?_)
      rw [rotq_b]
      exact e39 l
    · refine (congrArg (fun j => cat _ _ _ _ _ _ _ _ _ _ _ _ _ _ _ _ _ _ _ _ _ _ _ _ _ _ _ _ _ _ _ _ (ix2 j r)) (Fin.ext (by show 128 * 0 + (80 + l.val) = 80 + l.val; omega))).trans ((cat_2 _ _ _ _ _ _ _ _ _ _ _ _ _ _ _ _ _ _ _ _ _ _ _ _ _ _ _ _ _ _ _ _ l r).trans ?_)
      rw [rotq_c]
      exact e42 l
    · refine (congrArg (fun j => cat _ _ _ _ _ _ _ _ _ _ _ _ _ _ _ _ _ _ _ _ _ _ _ _ _ _ _ _ _ _ _ _ (ix2 j r)) (Fin.ext (by show 128 * 0 + (96 + l.val) = 96 + l.val; omega))).trans ((cat_3 _ _ _ _ _ _ _ _ _ _ _ _ _ _ _ _ _ _ _ _ _ _ _ _ _ _ _ _ _ _ _ _ l r).trans ?_)
      rw [rotq_d]
      pointwise [k0_pay14]
  | ⟨1, hh⟩ =>
    refine lanes (fun (l : Fin 128) => (truncf .bf16 _ bitsLt_bf16_f32 : FVec Ideal S1024x512 .bf16) (ix2 ⟨128 * 1 + l.val, by omega⟩ r) = rotq v33 v11 v12 ⟨1, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 1 + (0 + l.val) = 128 + l.val; omega))).trans ((cat_4 _ _ _ _ _ _ _ _ _ _ _ _ _ _ _ _ _ _ _ _ _ _ _ _ _ _ _ _ _ _ _ _ l r).trans ?_)
      rw [rotq_a]
      pointwise [k0_pay17]
    · refine (congrArg (fun j => cat _ _ _ _ _ _ _ _ _ _ _ _ _ _ _ _ _ _ _ _ _ _ _ _ _ _ _ _ _ _ _ _ (ix2 j r)) (Fin.ext (by show 128 * 1 + (64 + l.val) = 192 + l.val; omega))).trans ((cat_5 _ _ _ _ _ _ _ _ _ _ _ _ _ _ _ _ _ _ _ _ _ _ _ _ _ _ _ _ _ _ _ _ l r).trans ?_)
      rw [rotq_b]
      pointwise [k0_pay18, k0_pay15, k0_pay16]
    · refine (congrArg (fun j => cat _ _ _ _ _ _ _ _ _ _ _ _ _ _ _ _ _ _ _ _ _ _ _ _ _ _ _ _ _ _ _ _ (ix2 j r)) (Fin.ext (by show 128 * 1 + (80 + l.val) = 208 + l.val; omega))).trans ((cat_6 _ _ _ _ _ _ _ _ _ _ _ _ _ _ _ _ _ _ _ _ _ _ _ _ _ _ _ _ _ _ _ _ l r).trans ?_)
      rw [rotq_c]
      pointwise [k0_pay19, k0_pay15, k0_pay16]
    · refine (congrArg (fun j => cat _ _ _ _ _ _ _ _ _ _ _ _ _ _ _ _ _ _ _ _ _ _ _ _ _ _ _ _ _ _ _ _ (ix2 j r)) (Fin.ext (by show 128 * 1 + (96 + l.val) = 224 + l.val; omega))).trans ((cat_7 _ _ _ _ _ _ _ _ _ _ _ _ _ _ _ _ _ _ _ _ _ _ _ _ _ _ _ _ _ _ _ _ l r).trans ?_)
      rw [rotq_d]
      pointwise [k0_pay20]
  | ⟨2, hh⟩ =>
    refine lanes (fun (l : Fin 128) => (truncf .bf16 _ bitsLt_bf16_f32 : FVec Ideal S1024x512 .bf16) (ix2 ⟨128 * 2 + l.val, by omega⟩ r) = rotq v33 v11 v12 ⟨2, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 2 + (0 + l.val) = 256 + l.val; omega))).trans ((cat_8 _ _ _ _ _ _ _ _ _ _ _ _ _ _ _ _ _ _ _ _ _ _ _ _ _ _ _ _ _ _ _ _ l r).trans ?_)
      rw [rotq_a]
      pointwise [k0_pay23]
    · refine (congrArg (fun j => cat _ _ _ _ _ _ _ _ _ _ _ _ _ _ _ _ _ _ _ _ _ _ _ _ _ _ _ _ _ _ _ _ (ix2 j r)) (Fin.ext (by show 128 * 2 + (64 + l.val) = 320 + l.val; omega))).trans ((cat_9 _ _ _ _ _ _ _ _ _ _ _ _ _ _ _ _ _ _ _ _ _ _ _ _ _ _ _ _ _ _ _ _ l r).trans ?_)
      rw [rotq_b]
      pointwise [k0_pay24, k0_pay21, k0_pay22]
    · refine (congrArg (fun j => cat _ _ _ _ _ _ _ _ _ _ _ _ _ _ _ _ _ _ _ _ _ _ _ _ _ _ _ _ _ _ _ _ (ix2 j r)) (Fin.ext (by show 128 * 2 + (80 + l.val) = 336 + l.val; omega))).trans ((cat_10 _ _ _ _ _ _ _ _ _ _ _ _ _ _ _ _ _ _ _ _ _ _ _ _ _ _ _ _ _ _ _ _ l r).trans ?_)
      rw [rotq_c]
      pointwise [k0_pay25, k0_pay21, k0_pay22]
    · refine (congrArg (fun j => cat _ _ _ _ _ _ _ _ _ _ _ _ _ _ _ _ _ _ _ _ _ _ _ _ _ _ _ _ _ _ _ _ (ix2 j r)) (Fin.ext (by show 128 * 2 + (96 + l.val) = 352 + l.val; omega))).trans ((cat_11 _ _ _ _ _ _ _ _ _ _ _ _ _ _ _ _ _ _ _ _ _ _ _ _ _ _ _ _ _ _ _ _ l r).trans ?_)
      rw [rotq_d]
      pointwise [k0_pay26]
  | ⟨3, hh⟩ =>
    refine lanes (fun (l : Fin 128) => (truncf .bf16 _ bitsLt_bf16_f32 : FVec Ideal S1024x512 .bf16) (ix2 ⟨128 * 3 + l.val, by omega⟩ r) = rotq v33 v11 v12 ⟨3, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 3 + (0 + l.val) = 384 + l.val; omega))).trans ((cat_12 _ _ _ _ _ _ _ _ _ _ _ _ _ _ _ _ _ _ _ _ _ _ _ _ _ _ _ _ _ _ _ _ l r).trans ?_)
      rw [rotq_a]
      pointwise [k0_pay29]
    · refine (congrArg (fun j => cat _ _ _ _ _ _ _ _ _ _ _ _ _ _ _ _ _ _ _ _ _ _ _ _ _ _ _ _ _ _ _ _ (ix2 j r)) (Fin.ext (by show 128 * 3 + (64 + l.val) = 448 + l.val; omega))).trans ((cat_13 _ _ _ _ _ _ _ _ _ _ _ _ _ _ _ _ _ _ _ _ _ _ _ _ _ _ _ _ _ _ _ _ l r).trans ?_)
      rw [rotq_b]
      pointwise [k0_pay30, k0_pay27, k0_pay28]
    · refine (congrArg (fun j => cat _ _ _ _ _ _ _ _ _ _ _ _ _ _ _ _ _ _ _ _ _ _ _ _ _ _ _ _ _ _ _ _ (ix2 j r)) (Fin.ext (by show 128 * 3 + (80 + l.val) = 464 + l.val; omega))).trans ((cat_14 _ _ _ _ _ _ _ _ _ _ _ _ _ _ _ _ _ _ _ _ _ _ _ _ _ _ _ _ _ _ _ _ l r).trans ?_)
      rw [rotq_c]
      pointwise [k0_pay31, k0_pay27, k0_pay28]
    · refine (congrArg (fun j => cat _ _ _ _ _ _ _ _ _ _ _ _ _ _ _ _ _ _ _ _ _ _ _ _ _ _ _ _ _ _ _ _ (ix2 j r)) (Fin.ext (by show 128 * 3 + (96 + l.val) = 480 + l.val; omega))).trans ((cat_15 _ _ _ _ _ _ _ _ _ _ _ _ _ _ _ _ _ _ _ _ _ _ _ _ _ _ _ _ _ _ _ _ l r).trans ?_)
      rw [rotq_d]
      pointwise [k0_pay32]
  | ⟨4, hh⟩ =>
    refine lanes (fun (l : Fin 128) => (truncf .bf16 _ bitsLt_bf16_f32 : FVec Ideal S1024x512 .bf16) (ix2 ⟨128 * 4 + l.val, by omega⟩ r) = rotq v33 v11 v12 ⟨4, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 4 + (0 + l.val) = 512 + l.val; omega))).trans ((cat_16 _ _ _ _ _ _ _ _ _ _ _ _ _ _ _ _ _ _ _ _ _ _ _ _ _ _ _ _ _ _ _ _ l r).trans ?_)
      rw [rotq_a]
      pointwise [k0_pay35]
    · refine (congrArg (fun j => cat _ _ _ _ _ _ _ _ _ _ _ _ _ _ _ _ _ _ _ _ _ _ _ _ _ _ _ _ _ _ _ _ (ix2 j r)) (Fin.ext (by show 128 * 4 + (64 + l.val) = 576 + l.val; omega))).trans ((cat_17 _ _ _ _ _ _ _ _ _ _ _ _ _ _ _ _ _ _ _ _ _ _ _ _ _ _ _ _ _ _ _ _ l r).trans ?_)
      rw [rotq_b]
      pointwise [k0_pay36, k0_pay33, k0_pay34]
    · refine (congrArg (fun j => cat _ _ _ _ _ _ _ _ _ _ _ _ _ _ _ _ _ _ _ _ _ _ _ _ _ _ _ _ _ _ _ _ (ix2 j r)) (Fin.ext (by show 128 * 4 + (80 + l.val) = 592 + l.val; omega))).trans ((cat_18 _ _ _ _ _ _ _ _ _ _ _ _ _ _ _ _ _ _ _ _ _ _ _ _ _ _ _ _ _ _ _ _ l r).trans ?_)
      rw [rotq_c]
      pointwise [k0_pay37, k0_pay33, k0_pay34]
    · refine (congrArg (fun j => cat _ _ _ _ _ _ _ _ _ _ _ _ _ _ _ _ _ _ _ _ _ _ _ _ _ _ _ _ _ _ _ _ (ix2 j r)) (Fin.ext (by show 128 * 4 + (96 + l.val) = 608 + l.val; omega))).trans ((cat_19 _ _ _ _ _ _ _ _ _ _ _ _ _ _ _ _ _ _ _ _ _ _ _ _ _ _ _ _ _ _ _ _ l r).trans ?_)
      rw [rotq_d]
      pointwise [k0_pay38]
  | ⟨5, hh⟩ =>
    refine lanes (fun (l : Fin 128) => (truncf .bf16 _ bitsLt_bf16_f32 : FVec Ideal S1024x512 .bf16) (ix2 ⟨128 * 5 + l.val, by omega⟩ r) = rotq v33 v11 v12 ⟨5, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 5 + (0 + l.val) = 640 + l.val; omega))).trans ((cat_20 _ _ _ _ _ _ _ _ _ _ _ _ _ _ _ _ _ _ _ _ _ _ _ _ _ _ _ _ _ _ _ _ l r).trans ?_)
      rw [rotq_a]
      pointwise [k0_pay41]
    · refine (congrArg (fun j => cat _ _ _ _ _ _ _ _ _ _ _ _ _ _ _ _ _ _ _ _ _ _ _ _ _ _ _ _ _ _ _ _ (ix2 j r)) (Fin.ext (by show 128 * 5 + (64 + l.val) = 704 + l.val; omega))).trans ((cat_21 _ _ _ _ _ _ _ _ _ _ _ _ _ _ _ _ _ _ _ _ _ _ _ _ _ _ _ _ _ _ _ _ l r).trans ?_)
      rw [rotq_b]
      pointwise [k0_pay42, k0_pay39, k0_pay40]
    · refine (congrArg (fun j => cat _ _ _ _ _ _ _ _ _ _ _ _ _ _ _ _ _ _ _ _ _ _ _ _ _ _ _ _ _ _ _ _ (ix2 j r)) (Fin.ext (by show 128 * 5 + (80 + l.val) = 720 + l.val; omega))).trans ((cat_22 _ _ _ _ _ _ _ _ _ _ _ _ _ _ _ _ _ _ _ _ _ _ _ _ _ _ _ _ _ _ _ _ l r).trans ?_)
      rw [rotq_c]
      pointwise [k0_pay43, k0_pay39, k0_pay40]
    · refine (congrArg (fun j => cat _ _ _ _ _ _ _ _ _ _ _ _ _ _ _ _ _ _ _ _ _ _ _ _ _ _ _ _ _ _ _ _ (ix2 j r)) (Fin.ext (by show 128 * 5 + (96 + l.val) = 736 + l.val; omega))).trans ((cat_23 _ _ _ _ _ _ _ _ _ _ _ _ _ _ _ _ _ _ _ _ _ _ _ _ _ _ _ _ _ _ _ _ l r).trans ?_)
      rw [rotq_d]
      pointwise [k0_pay44]
  | ⟨6, hh⟩ =>
    refine lanes (fun (l : Fin 128) => (truncf .bf16 _ bitsLt_bf16_f32 : FVec Ideal S1024x512 .bf16) (ix2 ⟨128 * 6 + l.val, by omega⟩ r) = rotq v33 v11 v12 ⟨6, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 6 + (0 + l.val) = 768 + l.val; omega))).trans ((cat_24 _ _ _ _ _ _ _ _ _ _ _ _ _ _ _ _ _ _ _ _ _ _ _ _ _ _ _ _ _ _ _ _ l r).trans ?_)
      rw [rotq_a]
      pointwise [k0_pay47]
    · refine (congrArg (fun j => cat _ _ _ _ _ _ _ _ _ _ _ _ _ _ _ _ _ _ _ _ _ _ _ _ _ _ _ _ _ _ _ _ (ix2 j r)) (Fin.ext (by show 128 * 6 + (64 + l.val) = 832 + l.val; omega))).trans ((cat_25 _ _ _ _ _ _ _ _ _ _ _ _ _ _ _ _ _ _ _ _ _ _ _ _ _ _ _ _ _ _ _ _ l r).trans ?_)
      rw [rotq_b]
      pointwise [k0_pay48, k0_pay45, k0_pay46]
    · refine (congrArg (fun j => cat _ _ _ _ _ _ _ _ _ _ _ _ _ _ _ _ _ _ _ _ _ _ _ _ _ _ _ _ _ _ _ _ (ix2 j r)) (Fin.ext (by show 128 * 6 + (80 + l.val) = 848 + l.val; omega))).trans ((cat_26 _ _ _ _ _ _ _ _ _ _ _ _ _ _ _ _ _ _ _ _ _ _ _ _ _ _ _ _ _ _ _ _ l r).trans ?_)
      rw [rotq_c]
      pointwise [k0_pay49, k0_pay45, k0_pay46]
    · refine (congrArg (fun j => cat _ _ _ _ _ _ _ _ _ _ _ _ _ _ _ _ _ _ _ _ _ _ _ _ _ _ _ _ _ _ _ _ (ix2 j r)) (Fin.ext (by show 128 * 6 + (96 + l.val) = 864 + l.val; omega))).trans ((cat_27 _ _ _ _ _ _ _ _ _ _ _ _ _ _ _ _ _ _ _ _ _ _ _ _ _ _ _ _ _ _ _ _ l r).trans ?_)
      rw [rotq_d]
      pointwise [k0_pay50]
  | ⟨7, hh⟩ =>
    refine lanes (fun (l : Fin 128) => (truncf .bf16 _ bitsLt_bf16_f32 : FVec Ideal S1024x512 .bf16) (ix2 ⟨128 * 7 + l.val, by omega⟩ r) = rotq v33 v11 v12 ⟨7, hh⟩ l r) (fun l => ?_) (fun l => ?_) (fun l => ?_) (fun l => ?_) l
    · refine (congrArg (fun j => cat _ _ _ _ _ _ _ _ _ _ _ _ _ _ _ _ _ _ _ _ _ _ _ _ _ _ _ _ _ _ _ _ (ix2 j r)) (Fin.ext (by show 128 * 7 + (0 + l.val) = 896 + l.val; omega))).trans ((cat_28 _ _ _ _ _ _ _ _ _ _ _ _ _ _ _ _ _ _ _ _ _ _ _ _ _ _ _ _ _ _ _ _ l r).trans ?_)
      rw [rotq_a]
      pointwise []
    · refine (congrArg (fun j => cat _ _ _ _ _ _ _ _ _ _ _ _ _ _ _ _ _ _ _ _ _ _ _ _ _ _ _ _ _ _ _ _ (ix2 j r)) (Fin.ext (by show 128 * 7 + (64 + l.val) = 960 + l.val; omega))).trans ((cat_29 _ _ _ _ _ _ _ _ _ _ _ _ _ _ _ _ _ _ _ _ _ _ _ _ _ _ _ _ _ _ _ _ l r).trans ?_)
      rw [rotq_b]
      pointwise []
    · refine (congrArg (fun j => cat _ _ _ _ _ _ _ _ _ _ _ _ _ _ _ _ _ _ _ _ _ _ _ _ _ _ _ _ _ _ _ _ (ix2 j r)) (Fin.ext (by show 128 * 7 + (80 + l.val) = 976 + l.val; omega))).trans ((cat_30 _ _ _ _ _ _ _ _ _ _ _ _ _ _ _ _ _ _ _ _ _ _ _ _ _ _ _ _ _ _ _ _ l r).trans ?_)
      rw [rotq_c]
      pointwise []
    · refine (congrArg (fun j => cat _ _ _ _ _ _ _ _ _ _ _ _ _ _ _ _ _ _ _ _ _ _ _ _ _ _ _ _ _ _ _ _ (ix2 j r)) (Fin.ext (by show 128 * 7 + (96 + l.val) = 992 + l.val; omega))).trans ((cat_31 _ _ _ _ _ _ _ _ _ _ _ _ _ _ _ _ _ _ _ _ _ _ _ _ _ _ _ _ _ _ _ _ l r).trans ?_)
      rw [rotq_d]
      pointwise []

end Cert.Kernel5Ideal.Hand

end
-- ==== Proof.PrepHost.lean ====
module

public import proofs.«01_k».proof.Proof.PrepRows
public import proofs.«01_k».proof.Proof.Gen.Kernel5Ideal.Value
public import Idealize.ShloMosaic.Lib.StableHlo.ReadAt

@[expose] public section

set_option maxRecDepth 16384

noncomputable section

/-! The attention's preparation: what the host hands the launch, over the ideal floats. -/

namespace Cert.Kernel5Ideal.Hand

open Idealize.ShloMosaic Idealize.ShloMosaic.TcCoe Idealize.SL.Sem
open Cert.Kernel5Ideal.Gen

variable (m : (ℓ : Loc nD τ sig) → Buf (Elt Ideal) ℓ) (c : Dev nD)

abbrev argp : FVec Ideal S32x2048x672 .f32 := m ((c.tc : Thread nD τ).loc main_arg0)
abbrev argpos : IVec S32x2048 32 := m ((c.tc : Thread nD τ).loc main_arg1)
abbrev argqn : FVec Ideal S384 .f32 := m ((c.tc : Thread nD τ).loc main_arg2)
abbrev argwq : FVec Ideal S384x768 .f32 := m ((c.tc : Thread nD τ).loc main_arg3)
abbrev argkn : FVec Ideal S256 .f32 := m ((c.tc : Thread nD τ).loc main_arg4)
abbrev argwkv : FVec Ideal S256x1024 .f32 := m ((c.tc : Thread nD τ).loc main_arg5)

/-- The token of a row, its batch element and place. -/
abbrev bat (n : Fin 65536) : Fin 32 := ⟨n.val / 2048, by omega⟩
abbrev pos (n : Fin 65536) : Fin 2048 := ⟨n.val % 2048, by omega⟩

/-! ### What the host hands the launch -/

theorem sitofp_zero : (FloatOps.sitofp (F := Ideal) FTy.f32 0#32 : EReal) = 0 := by
  show (((0#32 : BitVec 32).toInt : ℝ) : EReal) = 0
  simp

/-- The query weight as the launch gets it. -/
def wq (w : FVec Ideal S384x768 .f32) : FVec Ideal S1024x384 .bf16 :=
  truncf .bf16 (transpose S1024x384 [1, 0] (shapeCast S384x1024 (pad S384x8x128 ![0, 0, 0] ![0, 0, 32] ![0, 0, 0] (shapeCast S384x8x96 w shapeCasts_S384x768_S384x8x96)
    (sitofp .f32 (constantI S_ 32 0#32)) pads_S384x8x96_S384x8x128_000_000_0320 h_S_) shapeCasts_S384x8x128_S384x1024) transposes_S384x1024_S1024x384_1_0) bitsLt_bf16_f32

/-- The lanes the rotated key goes to. -/
def place : FVec Ideal S128x1024 .f32 :=
  select (andi (cmpi .slt (iotaInDim S128x1024 32 0) (broadcastInDim S128x1024 ![] bcast_S_S128x1024 (constantI S_ 32 32#32)))
      (cmpi .eq (andi (iotaInDim S128x1024 32 1) (broadcastInDim S128x1024 ![] bcast_S_S128x1024 (constantI S_ 32 127#32)))
        (addi (broadcastInDim S128x1024 ![] bcast_S_S128x1024 (constantI S_ 32 64#32)) (iotaInDim S128x1024 32 0))))
    (broadcastInDim S128x1024 ![] bcast_S_S128x1024 (constant S_ .f32 0x3F800000#32)) (broadcastInDim S128x1024 ![] bcast_S_S128x1024 (constant S_ .f32 0x00000000#32))

/-- The key weight as the launch gets it. -/
def wk (w : FVec Ideal S256x1024 .f32) : FVec Ideal S384x1024 .bf16 :=
  truncf .bf16 (concatenate S384x1024 0 [⟨S256x1024, shapeCast S256x1024 (pad S256x8x128 ![0, 0, 0] ![0, 0, 64] ![0, 0, 0]
      (extractStridedSlice S256x8x64 ![0, 0, 0] (shapeCast S256x8x128 w shapeCasts_S256x1024_S256x8x128) slices_S256x8x128_S256x8x64_0_0_0)
      (sitofp .f32 (constantI S_ 32 0#32)) pads_S256x8x64_S256x8x128_000_000_0640 h_S_) shapeCasts_S256x8x128_S256x1024⟩, ⟨S128x1024, place⟩] concatenates_S256x1024_S128x1024_S384x1024_d0) bitsLt_bf16_f32

/-- The value weight as the launch gets it. -/
def wv (w : FVec Ideal S256x1024 .f32) : FVec Ideal S640x384 .bf16 :=
  truncf .bf16 (transpose S640x384 [1, 0] (concatenate S384x640 0 [⟨S256x640, shapeCast S256x640 (pad S256x8x80 ![0, 0, 0] ![0, 0, 16] ![0, 0, 0]
      (extractStridedSlice S256x8x64 ![0, 0, 64] (shapeCast S256x8x128 w shapeCasts_S256x1024_S256x8x128) slices_S256x8x128_S256x8x64_0_0_64)
      (sitofp .f32 (constantI S_ 32 0#32)) pads_S256x8x64_S256x8x80_000_000_0160 h_S_) shapeCasts_S256x8x80_S256x640⟩,
    ⟨S128x640, broadcastInDim S128x640 ![] bcast_S_S128x640 (constant S_ .f32 0x00000000#32)⟩] concatenates_S256x640_S128x640_S384x640_d0) transposes_S384x640_S640x384_1_0) bitsLt_bf16_f32

/-- The ones the values get. -/
def vone : FVec Ideal S640x1 .f32 :=
  shapeCast S640x1 (select (cmpi .eq (iotaInDim S8x80x1 32 1) (broadcastInDim S8x80x1 ![] bcast_S_S8x80x1 (constantI S_ 32 64#32)))
    (broadcastInDim S8x80x1 ![] bcast_S_S8x80x1 (constant (F := Ideal) S_ .f32 0x3F800000#32)) (broadcastInDim S8x80x1 ![] bcast_S_S8x80x1 (constant S_ .f32 0x00000000#32))) shapeCasts_S8x80x1_S640x1

/-- The projected rows as the launch gets them. -/
def pp (x : FVec Ideal S32x2048x672 .f32) : FVec Ideal S65536x768 .bf16 :=
  truncf .bf16 (pad S65536x768 ![0, 0] ![0, 96] ![0, 0] (shapeCast S65536x672 x shapeCasts_S32x2048x672_S65536x672)
    (sitofp .f32 (constantI S_ 32 0#32)) pads_S65536x672_S65536x768_000_0960 h_S_) bitsLt_bf16_f32

/-- The frequencies. -/
def freqs : FVec Ideal S16x1 .f32 :=
  shapeCast S16x1 (Host.divf (broadcastInDim S16 ![] bcast_S_S16 (constant (F := Ideal) S_ .f32 0x3F800000#32))
    (Host.powf (broadcastInDim S16 ![] bcast_S_S16 (constant S_ .f32 0x461C4000#32))
      (Host.divf (addf (broadcastInDim S16 ![] bcast_S_S16 (constant S_ .f32 0x00000000#32))
        (mulf (broadcastInDim S16 ![] bcast_S_S16 (constant S_ .f32 0x40000000#32)) (sitofp .f32 (iotaInDim S16 32 0))))
        (broadcastInDim S16 ![] bcast_S_S16 (constant S_ .f32 0x42000000#32))))) shapeCasts_S16_S16x1

theorem V29_eq : V m c main_v29 = wq (argwq m c) := by
  unfold V
  after_reads_simp
  simp -implicitDefEqProofs only [StableHlo.TRef.toBuf, StableHlo.TRef.ofBuf, cast_cast, cast_eq]
  clean_types
  unfold wq
  rfl

theorem V30_eq : V m c main_v30 = wk (argwkv m c) := by
  unfold V
  after_reads_simp
  clean_types
  unfold wk place
  rfl

theorem V32_eq : V m c main_v32 = wv (argwkv m c) := by
  unfold V
  after_reads_simp
  clean_types
  unfold wv
  rfl

theorem V33_eq : V m c main_v33 = vone := by
  unfold V
  after_reads_simp
  simp -implicitDefEqProofs only [StableHlo.TRef.toBuf, StableHlo.TRef.ofBuf, cast_cast, cast_eq]
  clean_types
  unfold vone
  rfl

theorem V36_eq : V m c main_v36 = pp (argp m c) := by
  unfold V
  after_reads_simp
  simp -implicitDefEqProofs only [StableHlo.TRef.toBuf, StableHlo.TRef.ofBuf, cast_cast, cast_eq]
  clean_types
  unfold pp
  rfl

theorem V48_eq : V m c main_v48 = freqs := by
  unfold V
  after_reads_simp
  unfold freqs
  rfl

theorem V49_at (k : Fin 384) : (V m c main_v49 : FVec Ideal S1x384 .f32) (ix2 0 k) = argqn m c (ix1 k) := by
  have e : V m c main_v49 = shapeCast S1x384 (argqn m c) shapeCasts_S384_S1x384 := by
    unfold V
    after_reads_simp
    rfl
  rw [e]
  pointwise []

theorem V50_at (k : Fin 256) : (V m c main_v50 : FVec Ideal S1x256 .f32) (ix2 0 k) = argkn m c (ix1 k) := by
  have e : V m c main_v50 = shapeCast S1x256 (argkn m c) shapeCasts_S256_S1x256 := by
    unfold V
    after_reads_simp
    rfl
  rw [e]
  pointwise []

theorem V51_at (t : Fin 128) (r : Fin 512) : (V m c main_v51 : IVec S128x1x512 32) (ix3 t 0 r) = argpos m c (ix2 (bat ⟨512 * t.val + r.val, by omega⟩) (pos ⟨512 * t.val + r.val, by omega⟩)) := by
  have e : V m c main_v51 = shapeCast S128x1x512 (argpos m c) shapeCasts_S32x2048_S128x1x512 := by
    unfold V
    after_reads_simp
    rfl
  rw [e]
  pointwise []
  exact congrArg₂ (fun a b => argpos m c (ix2 a b)) (Fin.ext (by show t.val / 4 = (512 * t.val + r.val) / 2048; omega)) (Fin.ext (by show t.val % 4 * 512 + r.val = (512 * t.val + r.val) % 2048; omega))

theorem freqs_at (f : Fin 16) : freqs (ix2 f 0) = Prep.freq f := by
  pointwise [freqs]
  rfl

theorem pp_at (x : FVec Ideal S32x2048x672 .f32) (n : Fin 65536) (k : Fin 672) : pp x (ix2 n ⟨k.val, by omega⟩) = x (ix3 (bat n) (pos n) k) := by
  have h : k.val < 672 := k.isLt
  pointwise [pp]

theorem eq64 : ∀ l : Fin 80, IntOp.cmpi .eq (BitVec.ofNat 32 l.val) 64#32 = if l.val = 64 then 1#1 else 0#1 := by decide

theorem and127 : ∀ (h : Fin 8) (l : Fin 128), IntOp.andi (BitVec.ofNat 32 (128 * h.val + l.val)) 127#32 = BitVec.ofNat 32 l.val := by decide +kernel

theorem lane_eq : ∀ (r l : Fin 128), IntOp.andi (IntOp.cmpi .slt (BitVec.ofNat 32 r.val) 32#32) (IntOp.cmpi .eq (BitVec.ofNat 32 l.val) (IntOp.addi (64#32) (BitVec.ofNat 32 r.val)))
    = if r.val < 32 ∧ l.val = 64 + r.val then 1#1 else 0#1 := by decide +kernel

theorem vone_at (h : Fin 8) (l : Fin 80) : vone (ix2 ⟨80 * h.val + l.val, by omega⟩ 0) = if l.val = 64 then 1 else 0 := by
  have e := eq64 l
  pointwise [vone]
  rw [e]
  by_cases k : l.val = 64
  · rw [if_pos k, if_pos k]; rfl
  · rw [if_neg k, if_neg k]; rfl

theorem place_at (r : Fin 128) (h : Fin 8) (l : Fin 128) : place (ix2 r ⟨128 * h.val + l.val, by omega⟩) = if r.val < 32 ∧ l.val = 64 + r.val then 1 else 0 := by
  pointwise [place]
  rw [and127, lane_eq]
  by_cases k : r.val < 32 ∧ l.val = 64 + r.val
  · rw [if_pos k, if_pos k]; rfl
  · rw [if_neg k, if_neg k]; rfl

theorem wq_at (w : FVec Ideal S384x768 .f32) (k : Fin 384) (h : Fin 8) (l : Fin 128) :
    wq w (ix2 ⟨128 * h.val + l.val, by omega⟩ k) = if l.val < 96 then w (ix2 k ⟨(96 * h.val + l.val) % 768, by omega⟩) else 0 := by
  pointwise [wq]
  by_cases k' : l.val < 96
  · simp only [k', ↓reduceDIte, ↓reduceIte]
    exact congrArg (fun j => w (ix2 k j)) (Fin.ext (by show h.val * 96 + l.val = (96 * h.val + l.val) % 768; omega))
  · simp only [k', ↓reduceDIte, ↓reduceIte, sitofp_zero]

theorem wk_low (w : FVec Ideal S256x1024 .f32) (k : Fin 256) (h : Fin 8) (l : Fin 128) :
    wk w (ix2 ⟨k.val, by omega⟩ ⟨128 * h.val + l.val, by omega⟩) = if l.val < 64 then w (ix2 k ⟨128 * h.val + l.val, by omega⟩) else 0 := by
  unfold wk
  generalize place = y
  have hk : k.val < 256 := k.isLt
  pointwise []
  by_cases k' : l.val < 64
  · simp only [k', ↓reduceDIte, ↓reduceIte]
    exact congrArg (fun j => w (ix2 k j)) (Fin.ext (by show h.val * 128 + l.val = 128 * h.val + l.val; omega))
  · simp only [k', ↓reduceDIte, ↓reduceIte, sitofp_zero]

theorem wk_high (w : FVec Ideal S256x1024 .f32) (r : Fin 128) (j : Fin 1024) :
    wk w (ix2 ⟨256 + r.val, by omega⟩ j) = place (ix2 r j) := by
  unfold wk
  generalize place = y
  have hk : ¬ 256 + r.val < 256 := by omega
  pointwise []

theorem wv_low (w : FVec Ideal S256x1024 .f32) (k : Fin 256) (h : Fin 8) (l : Fin 80) :
    wv w (ix2 ⟨80 * h.val + l.val, by omega⟩ ⟨k.val, by omega⟩) = if l.val < 64 then w (ix2 k ⟨(128 * h.val + 64 + l.val) % 1024, by omega⟩) else 0 := by
  have hk : k.val < 256 := k.isLt
  pointwise [wv]
  by_cases k' : l.val < 64
  · simp only [k', ↓reduceDIte, ↓reduceIte]
    exact congrArg (fun j => w (ix2 k j)) (Fin.ext (by show h.val * 128 + (64 + l.val) = (128 * h.val + 64 + l.val) % 1024; omega))
  · simp only [k', ↓reduceDIte, ↓reduceIte, sitofp_zero]

theorem wv_high (w : FVec Ideal S256x1024 .f32) (r : Fin 128) (j : Fin 640) :
    wv w (ix2 j ⟨256 + r.val, by omega⟩) = 0 := by
  have hk : ¬ 256 + r.val < 256 := by omega
  pointwise [wv]

end Cert.Kernel5Ideal.Hand

end
-- ==== Proof.PrepOut.lean ====
module

public import proofs.«01_k».proof.Proof.PrepBody
public import proofs.«01_k».proof.Proof.PrepQ3
public import proofs.«01_k».proof.Proof.PrepHost
public import proofs.«01_k».proof.Proof.Gen.Kernel5Ideal.Value
public import Idealize.ShloMosaic.Lib.StableHlo.ReadAt

@[expose] public section

set_option maxRecDepth 16384

noncomputable section

/-! The attention's preparation: its results at an index, over the ideal floats. -/

namespace Cert.Kernel5Ideal.Hand

open Idealize.ShloMosaic Idealize.ShloMosaic.TcCoe Idealize.SL.Sem
open Cert.Kernel5Ideal.Gen

theorem out9_at (x0 : FVec Ideal S512x768 .bf16) (x1 : IVec S1x1x512 32) (x2 : FVec Ideal S16x1 .f32) (x3 : FVec Ideal S1x384 .f32) (x4 : FVec Ideal S1x256 .f32) (x5 : FVec Ideal S1024x384 .bf16) (x6 : FVec Ideal S384x1024 .bf16) (x7 : FVec Ideal S640x384 .bf16) (x8 : FVec Ideal S640x1 .f32) (h : Fin 8) (l : Fin 128) (r : Fin 512) :
    out0_9 (F := Ideal) x0 x1 x2 x3 x4 x5 x6 x7 x8 (ix3 0 ⟨128 * h.val + l.val, by omega⟩ r)
      = rotq (k0_pay8 (F := Ideal) x0 x3 x5) (k0_pay6 (F := Ideal) x2 x1) (k0_pay7 (F := Ideal) x2 x1) h l r := by
  have e : r0_5.emb (ix3 0 ⟨128 * h.val + l.val, by omega⟩ r) = ix3 0 ⟨128 * h.val + l.val, by omega⟩ r := by
    funext a
    match a with
    | ⟨0, _⟩ => exact Fin.ext (by show 0 + 1 * 0 = 0; omega)
    | ⟨1, _⟩ => exact Fin.ext (by show 0 + 1 * (128 * h.val + l.val) = 128 * h.val + l.val; omega)
    | ⟨2, _⟩ => exact Fin.ext (by show 0 + 1 * r.val = r.val; omega)
  have l0 : View.ld (Val := Elt Ideal) (e' := .bf16) x0 r0_0 = x0 := View.ld_unit_zero (by decide) _ _
  have l1 : View.ld (Val := Elt Ideal) (e' := .i32) x1 r0_2 = x1 := View.ld_unit_zero (by decide) _ _
  have l2 : View.ld (Val := Elt Ideal) (e' := .f32) x2 r0_1 = x2 := View.ld_unit_zero (by decide) _ _
  have l3 : View.ld (Val := Elt Ideal) (e' := .f32) x3 r0_3 = x3 := View.ld_unit_zero (by decide) _ _
  have l5 : View.ld (Val := Elt Ideal) (e' := .bf16) x5 r0_4 = x5 := View.ld_unit_zero (by decide) _ _
  unfold out0_9 k0_pay61 k0_pay60 k0_pay59
  rw [l0, l1, l2, l3, l5]
  refine (congrArg (View.canon _) e.symm).trans ((View.canon_cons_emb _ _ _ _).trans (pay50_at _ _ _ _ _ _ r (fun l => ?_) (fun l => ?_) (fun l => ?_) h l))
  · unfold k0_pay11
    generalize k0_pay8 (F := Ideal) x0 x3 x5 = y
    pointwise []
  · unfold k0_pay12 k0_pay9 k0_pay10
    generalize k0_pay8 (F := Ideal) x0 x3 x5 = y
    generalize k0_pay6 (F := Ideal) x2 x1 = y1
    generalize k0_pay7 (F := Ideal) x2 x1 = y2
    pointwise []
  · unfold k0_pay13 k0_pay9 k0_pay10
    generalize k0_pay8 (F := Ideal) x0 x3 x5 = y
    generalize k0_pay6 (F := Ideal) x2 x1 = y1
    generalize k0_pay7 (F := Ideal) x2 x1 = y2
    pointwise []

/-- The joined row the keys and the values are products of. -/
abbrev lat (x0 : FVec Ideal S512x768 .bf16) (x1 : IVec S1x1x512 32) (x2 : FVec Ideal S16x1 .f32) (x4 : FVec Ideal S1x256 .f32) : FVec Ideal S512x384 .bf16 :=
  k0_pay1 (F := Ideal) (k0_pay51 (F := Ideal) (k0_pay4 (F := Ideal) x0) x4) (k0_pay52 (F := Ideal) (k0_pay4 (F := Ideal) x0)) (k0_pay53 (F := Ideal) (k0_pay6 (F := Ideal) x2 x1))
    (k0_pay54 (F := Ideal) (k0_pay7 (F := Ideal) x2 x1)) k0_pay55 (k0_pay56 (F := Ideal) (k0_pay4 (F := Ideal) x0)) (k0_pay57 (F := Ideal) (k0_pay4 (F := Ideal) x0))

theorem out10_at (x0 : FVec Ideal S512x768 .bf16) (x1 : IVec S1x1x512 32) (x2 : FVec Ideal S16x1 .f32) (x3 : FVec Ideal S1x384 .f32) (x4 : FVec Ideal S1x256 .f32) (x5 : FVec Ideal S1024x384 .bf16) (x6 : FVec Ideal S384x1024 .bf16) (x7 : FVec Ideal S640x384 .bf16) (x8 : FVec Ideal S640x1 .f32) (r : Fin 512) (j : Fin 1024) :
    out0_10 (F := Ideal) x0 x1 x2 x3 x4 x5 x6 x7 x8 (ix2 r j) = ∑ k, lat x0 x1 x2 x4 (ix2 r k) * x6 (ix2 k j) := by
  have e : r0_8.emb (ix2 r j) = ix2 r j := by
    funext a
    match a with
    | ⟨0, _⟩ => exact Fin.ext (by show 0 + 1 * r.val = r.val; omega)
    | ⟨1, _⟩ => exact Fin.ext (by show 0 + 1 * j.val = j.val; omega)
  have l0 : View.ld (Val := Elt Ideal) (e' := .bf16) x0 r0_0 = x0 := View.ld_unit_zero (by decide) _ _
  have l1 : View.ld (Val := Elt Ideal) (e' := .i32) x1 r0_2 = x1 := View.ld_unit_zero (by decide) _ _
  have l2 : View.ld (Val := Elt Ideal) (e' := .f32) x2 r0_1 = x2 := View.ld_unit_zero (by decide) _ _
  have l4 : View.ld (Val := Elt Ideal) (e' := .f32) x4 r0_6 = x4 := View.ld_unit_zero (by decide) _ _
  have l6 : View.ld (Val := Elt Ideal) (e' := .bf16) x6 r0_7 = x6 := View.ld_unit_zero (by decide) _ _
  unfold out0_10 k0_pay68 k0_pay67 k0_pay66 k0_pay65 k0_pay64 k0_pay63 k0_pay62 k0_pay60 k0_pay59 k0_pay58
  rw [l0, l1, l2, l4, l6]
  exact (congrArg (View.canon _) e.symm).trans ((View.canon_cons_emb _ _ _ _).trans (pay2_at _ _ _ _ _ _ _ _ r j))

theorem out11_at (x0 : FVec Ideal S512x768 .bf16) (x1 : IVec S1x1x512 32) (x2 : FVec Ideal S16x1 .f32) (x3 : FVec Ideal S1x384 .f32) (x4 : FVec Ideal S1x256 .f32) (x5 : FVec Ideal S1024x384 .bf16) (x6 : FVec Ideal S384x1024 .bf16) (x7 : FVec Ideal S640x384 .bf16) (x8 : FVec Ideal S640x1 .f32) (r : Fin 512) (j : Fin 640) :
    out0_11 (F := Ideal) x0 x1 x2 x3 x4 x5 x6 x7 x8 (ix4 0 0 j r) = (∑ k, x7 (ix2 j k) * lat x0 x1 x2 x4 (ix2 r k)) + x8 (ix2 j 0) := by
  have e : r0_11.emb (ix4 0 0 j r) = ix4 0 0 j r := by
    funext a
    match a with
    | ⟨0, _⟩ => exact Fin.ext (by show 0 + 1 * 0 = 0; omega)
    | ⟨1, _⟩ => exact Fin.ext (by show 0 + 1 * 0 = 0; omega)
    | ⟨2, _⟩ => exact Fin.ext (by show 0 + 1 * j.val = j.val; omega)
    | ⟨3, _⟩ => exact Fin.ext (by show 0 + 1 * r.val = r.val; omega)
  have l0 : View.ld (Val := Elt Ideal) (e' := .bf16) x0 r0_0 = x0 := View.ld_unit_zero (by decide) _ _
  have l1 : View.ld (Val := Elt Ideal) (e' := .i32) x1 r0_2 = x1 := View.ld_unit_zero (by decide) _ _
  have l2 : View.ld (Val := Elt Ideal) (e' := .f32) x2 r0_1 = x2 := View.ld_unit_zero (by decide) _ _
  have l4 : View.ld (Val := Elt Ideal) (e' := .f32) x4 r0_6 = x4 := View.ld_unit_zero (by decide) _ _
  have l7 : View.ld (Val := Elt Ideal) (e' := .bf16) x7 r0_9 = x7 := View.ld_unit_zero (by decide) _ _
  have l8 : View.ld (Val := Elt Ideal) (e' := .f32) x8 r0_10 = x8 := View.ld_unit_zero (by decide) _ _
  unfold out0_11 k0_pay68 k0_pay67 k0_pay66 k0_pay65 k0_pay64 k0_pay63 k0_pay62 k0_pay60 k0_pay59 k0_pay58
  rw [l0, l1, l2, l4, l7, l8]
  exact (congrArg (View.canon _) e.symm).trans ((View.canon_cons_emb _ _ _ _).trans (pay3_at _ _ _ _ _ _ _ _ _ r j))

/-! ### The rows of a token -/

/-- A lane of a row, in the padded row. -/
abbrev up (k : Fin 672) : Fin 768 := ⟨k.val, by omega⟩

section

variable (x0 : FVec Ideal S512x768 .bf16) (x1 : IVec S1x1x512 32) (x2 : FVec Ideal S16x1 .f32) (r : Fin 512)
  (x : Fin 672 → EReal) (p : BitVec 32) (hx : ∀ k : Fin 672, x0 (ix2 r (up k)) = x k) (hp : x1 (ix3 0 0 r) = p) (hf : ∀ f, x2 (ix2 f 0) = Prep.freq f)

include hp hf in
theorem cs_at (f : Fin 16) : k0_pay6 (F := Ideal) x2 x1 (ix2 f r) = Prep.cs p f := by
  rw [pay6_at, hf, hp]
  rfl

include hp hf in
theorem sn_at (f : Fin 16) : k0_pay7 (F := Ideal) x2 x1 (ix2 f r) = Prep.sn p f := by
  rw [pay7_at, hf, hp]
  rfl

include hx in
theorem pay4_at (k : Fin 672) : k0_pay4 (F := Ideal) x0 (ix2 r ⟨k.val, by omega⟩) = x k := by
  pointwise [k0_pay4]
  exact hx k

include hx in
theorem lat_low (x4 : FVec Ideal S1x256 .f32) (g : Fin 256 → EReal) (hg : ∀ k, x4 (ix2 0 k) = g k) (k : Fin 256) :
    lat x0 x1 x2 x4 (ix2 r ⟨k.val, by omega⟩) = Prep.norm (Ideal.ofBits .f32 0x43800000#32) (Prep.ckv x) g k := by
  refine (pay1_low _ _ _ _ _ _ _ r k).trans ((pay51_at _ _ r k).trans ?_)
  have e : ∀ k : Fin 256, k0_pay4 (F := Ideal) x0 (ix2 r ⟨384 + k.val, by omega⟩) = Prep.ckv x k := fun k => pay4_at x0 r x hx ⟨384 + k.val, by omega⟩
  simp only [e, hg]

include hx hp hf in
theorem lat_rot (x4 : FVec Ideal S1x256 .f32) (l : Fin 32) : lat x0 x1 x2 x4 (ix2 r ⟨256 + l.val, by omega⟩) = Prep.rot p (Prep.kr x) l := by
  refine (pay1_rot _ (k0_pay4 (F := Ideal) x0) _ _ p r (cs_at x1 x2 r p hp hf) (sn_at x1 x2 r p hp hf) l).trans ?_
  have e : ∀ d : Fin 32, k0_pay4 (F := Ideal) x0 (ix2 r ⟨640 + d.val, by omega⟩) = Prep.kr x d := fun d => pay4_at x0 r x hx ⟨640 + d.val, by omega⟩
  simp only [e]

/-- A sum over the joined row is the latent lanes' and the rotated lanes'. -/
theorem sum_split (f : Fin 384 → EReal) : ∑ k, f k = (∑ k : Fin 256, f ⟨k.val, by omega⟩) + ∑ k : Fin 128, f ⟨256 + k.val, by omega⟩ :=
  Fin.sum_univ_add (a := 256) (b := 128) f

include hx hp hf in
theorem key_at (x4 : FVec Ideal S1x256 .f32) (x6 : FVec Ideal S384x1024 .bf16) (g : Fin 256 → EReal) (w : Fin 256 → Fin 1024 → EReal) (hg : ∀ k, x4 (ix2 0 k) = g k)
    (h : Fin 8) (l : Fin 128) (ha : ∀ k : Fin 256, x6 (ix2 ⟨k.val, by omega⟩ ⟨128 * h.val + l.val, by omega⟩) = if l.val < 64 then w k ⟨128 * h.val + l.val, by omega⟩ else 0)
    (hb : ∀ k : Fin 128, x6 (ix2 ⟨256 + k.val, by omega⟩ ⟨128 * h.val + l.val, by omega⟩) = if k.val < 32 ∧ l.val = 64 + k.val then 1 else 0) :
    ∑ k, lat x0 x1 x2 x4 (ix2 r k) * x6 (ix2 k ⟨128 * h.val + l.val, by omega⟩) = Prep.kOut x p g w h l := by
  rw [sum_split]
  simp only [ha, hb, lat_low x0 x1 x2 r x hx x4 g hg]
  unfold Prep.kOut
  by_cases k1 : l.val < 64
  · have z : ∀ k : Fin 128, ¬ (k.val < 32 ∧ l.val = 64 + k.val) := fun k => by omega
    simp only [k1, z, ↓reduceIte, mul_zero, Finset.sum_const_zero, add_zero]
    rfl
  · simp only [k1, ↓reduceIte, mul_zero, Finset.sum_const_zero, zero_add]
    by_cases k2 : l.val < 96
    · rw [if_pos k2]
      refine (Finset.sum_eq_single (⟨l.val - 64, by omega⟩ : Fin 128) (fun b _ hb => ?_) (fun hb => absurd (Finset.mem_univ _) hb)).trans ?_
      · have z : ¬ (b.val < 32 ∧ l.val = 64 + b.val) := fun z => hb (Fin.ext (by show b.val = l.val - 64; omega))
        rw [if_neg z, mul_zero]
      · have z : l.val - 64 < 32 ∧ l.val = 64 + (l.val - 64) := by omega
        rw [if_pos z, mul_one]
        refine (lat_rot x0 x1 x2 r x p hx hp hf x4 ⟨l.val - 64, by omega⟩).trans ?_
        exact congrArg (Prep.rot p (Prep.kr x)) (Fin.ext (by show l.val - 64 = (l.val - 64) % 32; omega))
    · rw [if_neg k2]
      have z : ∀ k : Fin 128, ¬ (k.val < 32 ∧ l.val = 64 + k.val) := fun k => by omega
      simp only [z, ↓reduceIte, mul_zero, Finset.sum_const_zero]

include hx in
theorem val_at (x4 : FVec Ideal S1x256 .f32) (x7 : FVec Ideal S640x384 .bf16) (x8 : FVec Ideal S640x1 .f32) (g : Fin 256 → EReal) (w : Fin 256 → Fin 1024 → EReal) (hg : ∀ k, x4 (ix2 0 k) = g k)
    (h : Fin 8) (l : Fin 80) (ha : ∀ k : Fin 256, x7 (ix2 ⟨80 * h.val + l.val, by omega⟩ ⟨k.val, by omega⟩) = if l.val < 64 then w k ⟨(128 * h.val + 64 + l.val) % 1024, by omega⟩ else 0)
    (hb : ∀ k : Fin 128, x7 (ix2 ⟨80 * h.val + l.val, by omega⟩ ⟨256 + k.val, by omega⟩) = 0)
    (h1 : x8 (ix2 ⟨80 * h.val + l.val, by omega⟩ 0) = if l.val = 64 then 1 else 0) :
    (∑ k, x7 (ix2 ⟨80 * h.val + l.val, by omega⟩ k) * lat x0 x1 x2 x4 (ix2 r k)) + x8 (ix2 ⟨80 * h.val + l.val, by omega⟩ 0) = Prep.vOut x g w h l := by
  rw [sum_split, h1]
  simp only [ha, hb, lat_low x0 x1 x2 r x hx x4 g hg, zero_mul, Finset.sum_const_zero, add_zero]
  unfold Prep.vOut
  by_cases k1 : l.val < 64
  · have z : ¬ l.val = 64 := by omega
    simp only [k1, z, ↓reduceIte, add_zero]
    exact Finset.sum_congr rfl fun k _ => mul_comm _ _
  · simp only [k1, ↓reduceIte, zero_mul, Finset.sum_const_zero, zero_add]
    by_cases k2 : l.val = 64
    · rw [if_pos k2, if_pos (by omega)]
    · rw [if_neg k2, if_neg (by omega)]

include hx hp hf in
theorem query_at (x3 : FVec Ideal S1x384 .f32) (x5 : FVec Ideal S1024x384 .bf16) (g : Fin 384 → EReal) (w : Fin 384 → Fin 768 → EReal) (hg : ∀ k, x3 (ix2 0 k) = g k)
    (hw : ∀ (k : Fin 384) (h : Fin 8) (l : Fin 128), x5 (ix2 ⟨128 * h.val + l.val, by omega⟩ k) = if l.val < 96 then w k ⟨(96 * h.val + l.val) % 768, by omega⟩ else 0)
    (h : Fin 8) (l : Fin 128) :
    rotq (k0_pay8 (F := Ideal) x0 x3 x5) (k0_pay6 (F := Ideal) x2 x1) (k0_pay7 (F := Ideal) x2 x1) h l r = Prep.qOut x p g w h l := by
  have hc := cs_at x1 x2 r p hp hf
  have hs := sn_at x1 x2 r p hp hf
  have hq : ∀ l : Fin 128, k0_pay8 (F := Ideal) x0 x3 x5 (ix2 ⟨128 * h.val + l.val, by omega⟩ r) = if l.val < 96 then Prep.qv x g w ⟨(96 * h.val + l.val) % 768, by omega⟩ else 0 := by
    intro l
    rw [pay8_at]
    have e : ∀ k : Fin 384, x0 (ix2 r ⟨k.val, by omega⟩) = Prep.cq x k := fun k => hx ⟨k.val, by omega⟩
    have hw' : ∀ k, x5 (ix2 ⟨128 * h.val + l.val, by omega⟩ k) = if l.val < 96 then w k ⟨(96 * h.val + l.val) % 768, by omega⟩ else 0 := fun k => hw k h l
    unfold Rows.mul
    simp only [e, hg, hw']
    by_cases k : l.val < 96
    · simp only [k, ↓reduceIte]
      rfl
    · simp only [k, ↓reduceIte, mul_zero, zero_mul, Finset.sum_const_zero]
  generalize k0_pay8 (F := Ideal) x0 x3 x5 = Q at hq
  generalize k0_pay6 (F := Ideal) x2 x1 = C at hc
  generalize k0_pay7 (F := Ideal) x2 x1 = S at hs
  have hl := l.isLt
  have q' : ∀ (n : ℕ) (hn : n < 1024) (l : Fin 128) (k : l.val < 96) (e : n = 128 * h.val + l.val), Q (ix2 ⟨n, hn⟩ r) = Prep.qv x g w ⟨(96 * h.val + l.val) % 768, by omega⟩ := by
    intro n hn l k e
    subst e
    exact (hq l).trans (if_pos k)
  unfold rotq Prep.qOut
  by_cases k1 : l.val < 64
  · rw [if_pos k1, if_pos k1]
    exact q' _ _ l (by omega) rfl
  rw [if_neg k1, if_neg k1]
  by_cases k2 : l.val < 80
  · have k3 : l.val < 96 := by omega
    rw [dif_pos k2, if_pos k3, hc, hs, q' _ _ l k3 rfl, q' _ _ ⟨l.val + 16, by omega⟩ (by show l.val + 16 < 96; omega) (by show (128 * h.val + l.val + 16) % 1024 = 128 * h.val + (l.val + 16); omega)]
    unfold Prep.rot
    have k4 : (l.val - 64) % 32 < 16 := by omega
    rw [dif_pos k4]
    refine congrArg₂ (· - ·) (congrArg₂ (· * ·) (congrArg (Prep.qv x g w) (Fin.ext ?_)) (congrArg (Prep.cs p) (Fin.ext ?_))) (congrArg₂ (· * ·) (congrArg (Prep.qv x g w) (Fin.ext ?_)) (congrArg (Prep.sn p) (Fin.ext ?_)))
    · show (96 * h.val + l.val) % 768 = 96 * h.val + 64 + (l.val - 64) % 32; omega
    · show l.val - 64 = (l.val - 64) % 32; omega
    · show (96 * h.val + (l.val + 16)) % 768 = 96 * h.val + 64 + ((l.val - 64) % 32 + 16); omega
    · show l.val - 64 = (l.val - 64) % 32; omega
  rw [dif_neg k2]
  by_cases k3 : l.val < 96
  · rw [dif_pos k3, if_pos k3, hc, hs, q' _ _ l k3 rfl, q' _ _ ⟨l.val - 16, by omega⟩ (by show l.val - 16 < 96; omega) (by show 128 * h.val + l.val - 16 = 128 * h.val + (l.val - 16); omega)]
    unfold Prep.rot
    have k4 : ¬ (l.val - 64) % 32 < 16 := by omega
    rw [dif_neg k4]
    refine congrArg₂ (· + ·) (congrArg₂ (· * ·) (congrArg (Prep.qv x g w) (Fin.ext ?_)) (congrArg (Prep.sn p) (Fin.ext ?_))) (congrArg₂ (· * ·) (congrArg (Prep.qv x g w) (Fin.ext ?_)) (congrArg (Prep.cs p) (Fin.ext ?_)))
    · show (96 * h.val + (l.val - 16)) % 768 = 96 * h.val + 64 + ((l.val - 64) % 32 - 16); omega
    · show l.val - 80 = (l.val - 64) % 32 - 16; omega
    · show (96 * h.val + l.val) % 768 = 96 * h.val + 64 + (l.val - 64) % 32; omega
    · show l.val - 80 = (l.val - 64) % 32 - 16; omega
  · rw [dif_neg k3, if_neg k3, hq l, if_neg k3]

end

end Cert.Kernel5Ideal.Hand

end
-- ==== Proof.Prep.lean ====
module

public import proofs.«01_k».proof.Proof.PrepOut
public import proofs.«01_k».proof.Proof.Gen.Kernel5Ideal.Value
public import Idealize.ShloMosaic.Lib.StableHlo.ReadAt

@[expose] public section

set_option maxRecDepth 16384

noncomputable section

/-! The attention's preparation: its result arrays, over the ideal floats. -/

namespace Cert.Kernel5Ideal.Hand

open Idealize.ShloMosaic Idealize.ShloMosaic.TcCoe Idealize.SL.Sem
open Cert.Kernel5Ideal.Gen

variable (m : (ℓ : Loc nD τ sig) → Buf (Elt Ideal) ℓ) (c : Dev nD)

/-! ### The blocks of a point -/

theorem tlt (t : Fin cfg0.N) : t.val < 128 := N_0 ▸ t.isLt

theorem read0_at (A : FVec Ideal S65536x768 .bf16) (t : Fin cfg0.N) (r : Fin 512) (k : Fin 768) :
    ((cfg0.win 0).blk t).view.read (Elt Ideal) A (ix2 r k) = A (ix2 ⟨512 * t.val + r.val, by have := tlt t; omega⟩ k) := by
  have h0 : win0_0.index t 0 = t.val := by revert t; decide +kernel
  have h1 : win0_0.index t 1 = 0 := by revert t; decide +kernel
  rw [View.read_apply]
  show A _ = A _
  refine congrArg A (funext fun a => Fin.ext ?_)
  match a with
  | ⟨0, _⟩ => show win0_0.index t 0 * 512 + 1 * r.val = 512 * t.val + r.val; rw [h0]; omega
  | ⟨1, _⟩ => show win0_0.index t 1 * 768 + 1 * k.val = k.val; rw [h1]; omega

theorem read1_at (A : IVec S128x1x512 32) (t : Fin cfg0.N) (r : Fin 512) :
    (((cfg0.win 1).blk t).view.read (Elt Ideal) A : IVec S1x1x512 32) (ix3 0 0 r) = A (ix3 ⟨t.val, tlt t⟩ 0 r) := by
  have h0 : win0_1.index t 0 = t.val := by revert t; decide +kernel
  have h1 : win0_1.index t 1 = 0 := by revert t; decide +kernel
  have h2 : win0_1.index t 2 = 0 := by revert t; decide +kernel
  rw [View.read_apply]
  show A _ = A _
  refine congrArg A (funext fun a => Fin.ext ?_)
  match a with
  | ⟨0, _⟩ => show win0_1.index t 0 * 1 + 1 * 0 = t.val; rw [h0]; omega
  | ⟨1, _⟩ => show win0_1.index t 1 * 1 + 1 * 0 = 0; rw [h1]
  | ⟨2, _⟩ => show win0_1.index t 2 * 512 + 1 * r.val = r.val; rw [h2]; omega

theorem read2_at (A : FVec Ideal S16x1 .f32) (t : Fin cfg0.N) (j : Fin 16) (k : Fin 1) :
    ((cfg0.win 2).blk t).view.read (Elt Ideal) A (ix2 j k) = A (ix2 j k) := by
  have h0 : win0_2.index t 0 = 0 := by revert t; decide +kernel
  have h1 : win0_2.index t 1 = 0 := by revert t; decide +kernel
  rw [View.read_apply]
  show A _ = A _
  refine congrArg A (funext fun a => Fin.ext ?_)
  match a with
  | ⟨0, _⟩ => show win0_2.index t 0 * 16 + 1 * j.val = j.val; rw [h0]; omega
  | ⟨1, _⟩ => show win0_2.index t 1 * 1 + 1 * k.val = k.val; rw [h1]; omega

theorem read3_at (A : FVec Ideal S1x384 .f32) (t : Fin cfg0.N) (j : Fin 1) (k : Fin 384) :
    ((cfg0.win 3).blk t).view.read (Elt Ideal) A (ix2 j k) = A (ix2 j k) := by
  have h0 : win0_3.index t 0 = 0 := by revert t; decide +kernel
  have h1 : win0_3.index t 1 = 0 := by revert t; decide +kernel
  rw [View.read_apply]
  show A _ = A _
  refine congrArg A (funext fun a => Fin.ext ?_)
  match a with
  | ⟨0, _⟩ => show win0_3.index t 0 * 1 + 1 * j.val = j.val; rw [h0]; omega
  | ⟨1, _⟩ => show win0_3.index t 1 * 384 + 1 * k.val = k.val; rw [h1]; omega

theorem read4_at (A : FVec Ideal S1x256 .f32) (t : Fin cfg0.N) (j : Fin 1) (k : Fin 256) :
    ((cfg0.win 4).blk t).view.read (Elt Ideal) A (ix2 j k) = A (ix2 j k) := by
  have h0 : win0_4.index t 0 = 0 := by revert t; decide +kernel
  have h1 : win0_4.index t 1 = 0 := by revert t; decide +kernel
  rw [View.read_apply]
  show A _ = A _
  refine congrArg A (funext fun a => Fin.ext ?_)
  match a with
  | ⟨0, _⟩ => show win0_4.index t 0 * 1 + 1 * j.val = j.val; rw [h0]; omega
  | ⟨1, _⟩ => show win0_4.index t 1 * 256 + 1 * k.val = k.val; rw [h1]; omega

theorem read5_at (A : FVec Ideal S1024x384 .bf16) (t : Fin cfg0.N) (j : Fin 1024) (k : Fin 384) :
    ((cfg0.win 5).blk t).view.read (Elt Ideal) A (ix2 j k) = A (ix2 j k) := by
  have h0 : win0_5.index t 0 = 0 := by revert t; decide +kernel
  have h1 : win0_5.index t 1 = 0 := by revert t; decide +kernel
  rw [View.read_apply]
  show A _ = A _
  refine congrArg A (funext fun a => Fin.ext ?_)
  match a with
  | ⟨0, _⟩ => show win0_5.index t 0 * 1024 + 1 * j.val = j.val; rw [h0]; omega
  | ⟨1, _⟩ => show win0_5.index t 1 * 384 + 1 * k.val = k.val; rw [h1]; omega

theorem read6_at (A : FVec Ideal S384x1024 .bf16) (t : Fin cfg0.N) (j : Fin 384) (k : Fin 1024) :
    ((cfg0.win 6).blk t).view.read (Elt Ideal) A (ix2 j k) = A (ix2 j k) := by
  have h0 : win0_6.index t 0 = 0 := by revert t; decide +kernel
  have h1 : win0_6.index t 1 = 0 := by revert t; decide +kernel
  rw [View.read_apply]
  show A _ = A _
  refine congrArg A (funext fun a => Fin.ext ?_)
  match a with
  | ⟨0, _⟩ => show win0_6.index t 0 * 384 + 1 * j.val = j.val; rw [h0]; omega
  | ⟨1, _⟩ => show win0_6.index t 1 * 1024 + 1 * k.val = k.val; rw [h1]; omega

theorem read7_at (A : FVec Ideal S640x384 .bf16) (t : Fin cfg0.N) (j : Fin 640) (k : Fin 384) :
    ((cfg0.win 7).blk t).view.read (Elt Ideal) A (ix2 j k) = A (ix2 j k) := by
  have h0 : win0_7.index t 0 = 0 := by revert t; decide +kernel
  have h1 : win0_7.index t 1 = 0 := by revert t; decide +kernel
  rw [View.read_apply]
  show A _ = A _
  refine congrArg A (funext fun a => Fin.ext ?_)
  match a with
  | ⟨0, _⟩ => show win0_7.index t 0 * 640 + 1 * j.val = j.val; rw [h0]; omega
  | ⟨1, _⟩ => show win0_7.index t 1 * 384 + 1 * k.val = k.val; rw [h1]; omega

theorem read8_at (A : FVec Ideal S640x1 .f32) (t : Fin cfg0.N) (j : Fin 640) (k : Fin 1) :
    ((cfg0.win 8).blk t).view.read (Elt Ideal) A (ix2 j k) = A (ix2 j k) := by
  have h0 : win0_8.index t 0 = 0 := by revert t; decide +kernel
  have h1 : win0_8.index t 1 = 0 := by revert t; decide +kernel
  rw [View.read_apply]
  show A _ = A _
  refine congrArg A (funext fun a => Fin.ext ?_)
  match a with
  | ⟨0, _⟩ => show win0_8.index t 0 * 640 + 1 * j.val = j.val; rw [h0]; omega
  | ⟨1, _⟩ => show win0_8.index t 1 * 1 + 1 * k.val = k.val; rw [h1]; omega

theorem read9_at (A : FVec Ideal S32x1024x2048 .bf16) (t : Fin cfg0.N) (j : Fin 1024) (r : Fin 512) :
    ((cfg0.win 9).blk t).view.read (Elt Ideal) A (ix3 0 j r) = A (ix3 ⟨t.val / 4, by have := tlt t; omega⟩ j ⟨t.val % 4 * 512 + r.val, by omega⟩) := by
  have h0 : win0_9.index t 0 = t.val / 4 := by revert t; decide +kernel
  have h1 : win0_9.index t 1 = 0 := by revert t; decide +kernel
  have h2 : win0_9.index t 2 = t.val % 4 := by revert t; decide +kernel
  rw [View.read_apply]
  show A _ = A _
  refine congrArg A (funext fun a => Fin.ext ?_)
  match a with
  | ⟨0, _⟩ => show win0_9.index t 0 * 1 + 1 * 0 = t.val / 4; rw [h0]; omega
  | ⟨1, _⟩ => show win0_9.index t 1 * 1024 + 1 * j.val = j.val; rw [h1]; omega
  | ⟨2, _⟩ => show win0_9.index t 2 * 512 + 1 * r.val = t.val % 4 * 512 + r.val; rw [h2]; omega

theorem read10_at (A : FVec Ideal S65536x1024 .bf16) (t : Fin cfg0.N) (r : Fin 512) (k : Fin 1024) :
    ((cfg0.win 10).blk t).view.read (Elt Ideal) A (ix2 r k) = A (ix2 ⟨512 * t.val + r.val, by have := tlt t; omega⟩ k) := by
  have h0 : win0_10.index t 0 = t.val := by revert t; decide +kernel
  have h1 : win0_10.index t 1 = 0 := by revert t; decide +kernel
  rw [View.read_apply]
  show A _ = A _
  refine congrArg A (funext fun a => Fin.ext ?_)
  match a with
  | ⟨0, _⟩ => show win0_10.index t 0 * 512 + 1 * r.val = 512 * t.val + r.val; rw [h0]; omega
  | ⟨1, _⟩ => show win0_10.index t 1 * 1024 + 1 * k.val = k.val; rw [h1]; omega

theorem read11_at (A : FVec Ideal S32x4x640x512 .bf16) (t : Fin cfg0.N) (j : Fin 640) (r : Fin 512) :
    ((cfg0.win 11).blk t).view.read (Elt Ideal) A (ix4 0 0 j r) = A (ix4 ⟨t.val / 4, by have := tlt t; omega⟩ ⟨t.val % 4, by omega⟩ j r) := by
  have h0 : win0_11.index t 0 = t.val / 4 := by revert t; decide +kernel
  have h1 : win0_11.index t 1 = t.val % 4 := by revert t; decide +kernel
  have h2 : win0_11.index t 2 = 0 := by revert t; decide +kernel
  have h3 : win0_11.index t 3 = 0 := by revert t; decide +kernel
  rw [View.read_apply]
  show A _ = A _
  refine congrArg A (funext fun a => Fin.ext ?_)
  match a with
  | ⟨0, _⟩ => show win0_11.index t 0 * 1 + 1 * 0 = t.val / 4; rw [h0]; omega
  | ⟨1, _⟩ => show win0_11.index t 1 * 1 + 1 * 0 = t.val % 4; rw [h1]; omega
  | ⟨2, _⟩ => show win0_11.index t 2 * 640 + 1 * j.val = j.val; rw [h2]; omega
  | ⟨3, _⟩ => show win0_11.index t 3 * 512 + 1 * r.val = r.val; rw [h3]; omega

/-! ### The result arrays -/

/-- A head and a lane of a row's column. -/
abbrev hd (j : Fin 1024) : Fin 8 := ⟨j.val / 128, by omega⟩
abbrev ln (j : Fin 1024) : Fin 128 := ⟨j.val % 128, by omega⟩

def outAt0 (x : FVec Ideal S32x2048x672 .f32) (p : IVec S32x2048 32) (g : FVec Ideal S384 .f32) (w : FVec Ideal S384x768 .f32) (b : Fin 32) (j : Fin 1024) (s : Fin 2048) : EReal :=
  Prep.qOut (fun k => x (ix3 b s k)) (p (ix2 b s)) (fun k => g (ix1 k)) (fun k j => w (ix2 k j)) (hd j) (ln j)

def outAt1 (x : FVec Ideal S32x2048x672 .f32) (p : IVec S32x2048 32) (g : FVec Ideal S256 .f32) (w : FVec Ideal S256x1024 .f32) (n : Fin 65536) (j : Fin 1024) : EReal :=
  Prep.kOut (fun k => x (ix3 (bat n) (pos n) k)) (p (ix2 (bat n) (pos n))) (fun k => g (ix1 k)) (fun k j => w (ix2 k j)) (hd j) (ln j)

def outAt2 (x : FVec Ideal S32x2048x672 .f32) (g : FVec Ideal S256 .f32) (w : FVec Ideal S256x1024 .f32) (b : Fin 32) (q : Fin 4) (j : Fin 640) (r : Fin 512) : EReal :=
  Prep.vOut (fun k => x (ix3 b ⟨q.val * 512 + r.val, by omega⟩ k)) (fun k => g (ix1 k)) (fun k j => w (ix2 k j)) ⟨j.val / 80, by omega⟩ ⟨j.val % 80, by omega⟩

def result0 : FVec Ideal S32x1024x2048 .bf16 := fun i => outAt0 (argp m c) (argpos m c) (argqn m c) (argwq m c) (i 0) (i 1) (i 2)
def result1 : FVec Ideal S65536x1024 .bf16 := fun i => outAt1 (argp m c) (argpos m c) (argkn m c) (argwkv m c) (i 0) (i 1)
def result2 : FVec Ideal S32x4x640x512 .bf16 := fun i => outAt2 (argp m c) (argkn m c) (argwkv m c) (i 0) (i 1) (i 2) (i 3)

/-! ### The blocks of a point -/

section

variable (t : Fin cfg0.N) (r : Fin 512)

abbrev tn : Fin 65536 := ⟨512 * t.val + r.val, by have := tlt t; omega⟩

theorem b0 (k : Fin 672) : (iblk m c 0 t : FVec Ideal S512x768 .bf16) (ix2 r ⟨k.val, by omega⟩) = argp m c (ix3 (bat (tn t r)) (pos (tn t r)) k) :=
  (read0_at _ t r ⟨k.val, by omega⟩).trans ((congrFun (V36_eq m c) _).trans (pp_at _ (tn t r) k))
theorem b1 : (iblk m c 1 t : IVec S1x1x512 32) (ix3 0 0 r) = argpos m c (ix2 (bat (tn t r)) (pos (tn t r))) :=
  (read1_at _ t r).trans (V51_at m c ⟨t.val, tlt t⟩ r)
theorem b2 (f : Fin 16) : (iblk m c 2 t : FVec Ideal S16x1 .f32) (ix2 f 0) = Prep.freq f :=
  (read2_at _ t f 0).trans ((congrFun (V48_eq m c) _).trans (freqs_at f))
theorem b3 (k : Fin 384) : (iblk m c 3 t : FVec Ideal S1x384 .f32) (ix2 0 k) = argqn m c (ix1 k) := (read3_at _ t 0 k).trans (V49_at m c k)
theorem b4 (k : Fin 256) : (iblk m c 4 t : FVec Ideal S1x256 .f32) (ix2 0 k) = argkn m c (ix1 k) := (read4_at _ t 0 k).trans (V50_at m c k)

theorem outs0_at (j : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix3 0 j r)
      = outAt0 (argp m c) (argpos m c) (argqn m c) (argwq m c) (bat (tn t r)) j (pos (tn t r)) := by
  have e : j = ⟨128 * (hd j).val + (ln j).val, by omega⟩ := Fin.ext (by show j.val = 128 * (j.val / 128) + j.val % 128; omega)
  have b5 : ∀ (k : Fin 384) (h : Fin 8) (l : Fin 128), (iblk m c 5 t : FVec Ideal S1024x384 .bf16) (ix2 ⟨128 * h.val + l.val, by omega⟩ k) = if l.val < 96 then argwq m c (ix2 k ⟨(96 * h.val + l.val) % 768, by omega⟩) else 0 :=
    fun k h l => (read5_at _ t _ k).trans ((congrFun (V29_eq m c) _).trans (wq_at _ k h l))
  refine (congrArg (fun j => out0_9 (F := Ideal) (iblk m c 0 t) (iblk m c 1 t) (iblk m c 2 t) (iblk m c 3 t) (iblk m c 4 t) (iblk m c 5 t) (iblk m c 6 t) (iblk m c 7 t) (iblk m c 8 t) (ix3 0 j r)) e).trans ?_
  exact (out9_at _ _ _ _ _ _ _ _ _ (hd j) (ln j) r).trans (query_at _ _ _ r _ _ (b0 m c t r) (b1 m c t r) (b2 m c t) _ _ _ _ (b3 m c t) b5 (hd j) (ln j))

theorem outs1_at (j : Fin 1024) :
    out0_10 (F := Ideal) (iblk m c 0 t) (iblk m c 1 t) (iblk m c 2 t) (iblk m c 3 t) (iblk m c 4 t) (iblk m c 5 t) (iblk m c 6 t) (iblk m c 7 t) (iblk m c 8 t) (ix2 r j)
      = outAt1 (argp m c) (argpos m c) (argkn m c) (argwkv m c) (tn t r) j := by
  have e : j = ⟨128 * (hd j).val + (ln j).val, by omega⟩ := Fin.ext (by show j.val = 128 * (j.val / 128) + j.val % 128; omega)
  have b6 : ∀ (k : Fin 384) (j : Fin 1024), (iblk m c 6 t : FVec Ideal S384x1024 .bf16) (ix2 k j) = wk (argwkv m c) (ix2 k j) := fun k j => (read6_at _ t k j).trans (congrFun (V30_eq m c) _)
  refine (congrArg (fun j => out0_10 (F := Ideal) (iblk m c 0 t) (iblk m c 1 t) (iblk m c 2 t) (iblk m c 3 t) (iblk m c 4 t) (iblk m c 5 t) (iblk m c 6 t) (iblk m c 7 t) (iblk m c 8 t) (ix2 r j)) e).trans ?_
  exact (out10_at _ _ _ _ _ _ _ _ _ r _).trans (key_at _ _ _ r _ _ (b0 m c t r) (b1 m c t r) (b2 m c t) _ _ _ (fun k j => argwkv m c (ix2 k j)) (b4 m c t) (hd j) (ln j)
    (fun k => (b6 _ _).trans (wk_low _ k (hd j) (ln j))) (fun k => (b6 _ _).trans ((wk_high _ k _).trans (place_at k (hd j) (ln j)))))

theorem outs2_at (j : Fin 640) :
    out0_11 (F := Ideal) (iblk m c 0 t) (iblk m c 1 t) (iblk m c 2 t) (iblk m c 3 t) (iblk m c 4 t) (iblk m c 5 t) (iblk m c 6 t) (iblk m c 7 t) (iblk m c 8 t) (ix4 0 0 j r)
      = Prep.vOut (fun k => argp m c (ix3 (bat (tn t r)) (pos (tn t r)) k)) (fun k => argkn m c (ix1 k)) (fun k j => argwkv m c (ix2 k j)) ⟨j.val / 80, by omega⟩ ⟨j.val % 80, by omega⟩ := by
  have e : j = ⟨80 * (j.val / 80) + j.val % 80, by omega⟩ := Fin.ext (by show j.val = 80 * (j.val / 80) + j.val % 80; omega)
  have b7 : ∀ (j : Fin 640) (k : Fin 384), (iblk m c 7 t : FVec Ideal S640x384 .bf16) (ix2 j k) = wv (argwkv m c) (ix2 j k) := fun j k => (read7_at _ t j k).trans (congrFun (V32_eq m c) _)
  have b8 : ∀ (j : Fin 640), (iblk m c 8 t : FVec Ideal S640x1 .f32) (ix2 j 0) = vone (ix2 j 0) := fun j => (read8_at _ t j 0).trans (congrFun (V33_eq m c) _)
  refine (congrArg (fun j => out0_11 (F := Ideal) (iblk m c 0 t) (iblk m c 1 t) (iblk m c 2 t) (iblk m c 3 t) (iblk m c 4 t) (iblk m c 5 t) (iblk m c 6 t) (iblk m c 7 t) (iblk m c 8 t) (ix4 0 0 j r)) e).trans ?_
  exact (out11_at _ _ _ _ _ _ _ _ _ r _).trans (val_at _ _ _ r _ (b0 m c t r) _ _ _ _ (fun k j => argwkv m c (ix2 k j)) (b4 m c t) ⟨j.val / 80, by omega⟩ ⟨j.val % 80, by omega⟩
    (fun k => (b7 _ _).trans (wv_low _ k ⟨j.val / 80, by omega⟩ ⟨j.val % 80, by omega⟩)) (fun k => (b7 _ _).trans (wv_high _ k _)) ((b8 _).trans (vone_at ⟨j.val / 80, by omega⟩ ⟨j.val % 80, by omega⟩)))

theorem tb : bat (tn t r) = ⟨t.val / 4, by have := tlt t; omega⟩ := Fin.ext (by show (512 * t.val + r.val) / 2048 = t.val / 4; omega)
theorem tp : pos (tn t r) = ⟨t.val % 4 * 512 + r.val, by omega⟩ := Fin.ext (by show (512 * t.val + r.val) % 2048 = t.val % 4 * 512 + r.val; omega)

end

theorem flushed0_eq (t : Fin cfg0.N) (hf : (cfg0.win 9).flush t = true) :
    (dats m 0 c).flushed 9 t = ((cfg0.win 9).blk t).view.read (Elt Ideal) (result0 m c) := by
  show (cfg0.win 9).cut (grid0.coords t) ((dats m 0 c).after 9 t) = _
  rw [after0_9]
  funext i
  obtain ⟨j, r, rfl⟩ : ∃ (j : Fin 1024) (r : Fin 512), i = ix3 0 j r := ⟨i 1, i 2, by
    funext a
    match a with
    | ⟨0, _⟩ => exact Fin.ext (by have : (i 0).val < 1 := (i 0).isLt; show (i 0).val = 0; omega)
    | ⟨1, _⟩ => rfl
    | ⟨2, _⟩ => rfl⟩
  refine Eq.trans ?_ (((outs0_at m c t r j).trans (by rw [tb, tp]; rfl : _ = result0 m c (ix3 ⟨t.val / 4, by have := tlt t; omega⟩ j ⟨t.val % 4 * 512 + r.val, by omega⟩))).trans ((read9_at (result0 m c) t j r).symm))
  rfl

theorem final0_o : (dats m 0 c).arrAt 9 cfg0.N = result0 m c :=
  (dats m 0 c).arrAt_eq_of_cover 9 (result0 m c) (flushed0_eq m c) fun i => by
    have h0 : (i 0 : Nat) < 32 := (i 0).isLt
    have h1 : (i 1 : Nat) < 1024 := (i 1).isLt
    have h2 : (i 2 : Nat) < 2048 := (i 2).isLt
    have hN : cfg0.N = 128 := N_0
    obtain ⟨t, ht⟩ : ∃ t : Fin cfg0.N, t.val = (i 0 : Nat) * 4 + (i 2 : Nat) / 512 := ⟨⟨(i 0 : Nat) * 4 + (i 2 : Nat) / 512, by omega⟩, rfl⟩
    refine ⟨t, flush0_9 t, ?_⟩
    show i ∈ ((View.whole main_v52_0).slice (win0_9.rect t)).set
    rw [View.set_slice_whole, Rect.mem_set_unit]
    have i0 : win0_9.index t 0 = t.val / 4 := by clear ht; revert t; decide +kernel
    have i1 : win0_9.index t 1 = 0 := by clear ht; revert t; decide +kernel
    have i2 : win0_9.index t 2 = t.val % 4 := by clear ht; revert t; decide +kernel
    have s0 : win0_9.xsize (grid0.coords t) 0 = 1 := by clear ht i0 i1 i2 ; revert t; decide +kernel
    have s1 : win0_9.xsize (grid0.coords t) 1 = 1024 := by clear ht i0 i1 i2 s0; revert t; decide +kernel
    have s2 : win0_9.xsize (grid0.coords t) 2 = 512 := by clear ht i0 i1 i2 s0 s1; revert t; decide +kernel
    intro a
    match a with
    | ⟨0, _⟩ => show win0_9.index t 0 * 1 ≤ (i 0 : Nat) ∧ (i 0 : Nat) < win0_9.index t 0 * 1 + win0_9.xsize (grid0.coords t) 0
                rw [i0, s0]; omega
    | ⟨1, _⟩ => show win0_9.index t 1 * 1024 ≤ (i 1 : Nat) ∧ (i 1 : Nat) < win0_9.index t 1 * 1024 + win0_9.xsize (grid0.coords t) 1
                rw [i1, s1]; omega
    | ⟨2, _⟩ => show win0_9.index t 2 * 512 ≤ (i 2 : Nat) ∧ (i 2 : Nat) < win0_9.index t 2 * 512 + win0_9.xsize (grid0.coords t) 2
                rw [i2, s2]; omega

theorem flushed1_eq (t : Fin cfg0.N) (hf : (cfg0.win 10).flush t = true) :
    (dats m 0 c).flushed 10 t = ((cfg0.win 10).blk t).view.read (Elt Ideal) (result1 m c) := by
  show (cfg0.win 10).cut (grid0.coords t) ((dats m 0 c).after 10 t) = _
  rw [after0_10]
  funext i
  obtain ⟨r, j, rfl⟩ : ∃ (r : Fin 512) (j : Fin 1024), i = ix2 r j := ⟨i 0, i 1, by
    funext a
    match a with
    | ⟨0, _⟩ => rfl
    | ⟨1, _⟩ => rfl⟩
  refine Eq.trans ?_ ((outs1_at m c t r j).trans ((read10_at (result1 m c) t r j).symm))
  rfl

theorem final1_o : (dats m 0 c).arrAt 10 cfg0.N = result1 m c :=
  (dats m 0 c).arrAt_eq_of_cover 10 (result1 m c) (flushed1_eq m c) fun i => by
    have h0 : (i 0 : Nat) < 65536 := (i 0).isLt
    have h1 : (i 1 : Nat) < 1024 := (i 1).isLt
    have hN : cfg0.N = 128 := N_0
    obtain ⟨t, ht⟩ : ∃ t : Fin cfg0.N, t.val = (i 0 : Nat) / 512 := ⟨⟨(i 0 : Nat) / 512, by omega⟩, rfl⟩
    refine ⟨t, flush0_10 t, ?_⟩
    show i ∈ ((View.whole main_v52_1).slice (win0_10.rect t)).set
    rw [View.set_slice_whole, Rect.mem_set_unit]
    have i0 : win0_10.index t 0 = t.val := by clear ht; revert t; decide +kernel
    have i1 : win0_10.index t 1 = 0 := by clear ht; revert t; decide +kernel
    have s0 : win0_10.xsize (grid0.coords t) 0 = 512 := by clear ht i0 i1 ; revert t; decide +kernel
    have s1 : win0_10.xsize (grid0.coords t) 1 = 1024 := by clear ht i0 i1 s0; revert t; decide +kernel
    intro a
    match a with
    | ⟨0, _⟩ => show win0_10.index t 0 * 512 ≤ (i 0 : Nat) ∧ (i 0 : Nat) < win0_10.index t 0 * 512 + win0_10.xsize (grid0.coords t) 0
                rw [i0, s0]; omega
    | ⟨1, _⟩ => show win0_10.index t 1 * 1024 ≤ (i 1 : Nat) ∧ (i 1 : Nat) < win0_10.index t 1 * 1024 + win0_10.xsize (grid0.coords t) 1
                rw [i1, s1]; omega

theorem flushed2_eq (t : Fin cfg0.N) (hf : (cfg0.win 11).flush t = true) :
    (dats m 0 c).flushed 11 t = ((cfg0.win 11).blk t).view.read (Elt Ideal) (result2 m c) := by
  show (cfg0.win 11).cut (grid0.coords t) ((dats m 0 c).after 11 t) = _
  rw [after0_11]
  funext i
  obtain ⟨j, r, rfl⟩ : ∃ (j : Fin 640) (r : Fin 512), i = ix4 0 0 j r := ⟨i 2, i 3, by
    funext a
    match a with
    | ⟨0, _⟩ => exact Fin.ext (by have : (i 0).val < 1 := (i 0).isLt; show (i 0).val = 0; omega)
    | ⟨1, _⟩ => exact Fin.ext (by have : (i 1).val < 1 := (i 1).isLt; show (i 1).val = 0; omega)
    | ⟨2, _⟩ => rfl
    | ⟨3, _⟩ => rfl⟩
  refine Eq.trans ?_ (((outs2_at m c t r j).trans (by rw [tb, tp]; rfl : _ = result2 m c (ix4 ⟨t.val / 4, by have := tlt t; omega⟩ ⟨t.val % 4, by omega⟩ j r))).trans ((read11_at (result2 m c) t j r).symm))
  rfl

theorem final2_o : (dats m 0 c).arrAt 11 cfg0.N = result2 m c :=
  (dats m 0 c).arrAt_eq_of_cover 11 (result2 m c) (flushed2_eq m c) fun i => by
    have h0 : (i 0 : Nat) < 32 := (i 0).isLt
    have h1 : (i 1 : Nat) < 4 := (i 1).isLt
    have h2 : (i 2 : Nat) < 640 := (i 2).isLt
    have h3 : (i 3 : Nat) < 512 := (i 3).isLt
    have hN : cfg0.N = 128 := N_0
    obtain ⟨t, ht⟩ : ∃ t : Fin cfg0.N, t.val = (i 0 : Nat) * 4 + (i 1 : Nat) := ⟨⟨(i 0 : Nat) * 4 + (i 1 : Nat), by omega⟩, rfl⟩
    refine ⟨t, flush0_11 t, ?_⟩
    show i ∈ ((View.whole main_v52_2).slice (win0_11.rect t)).set
    rw [View.set_slice_whole, Rect.mem_set_unit]
    have i0 : win0_11.index t 0 = t.val / 4 := by clear ht; revert t; decide +kernel
    have i1 : win0_11.index t 1 = t.val % 4 := by clear ht; revert t; decide +kernel
    have i2 : win0_11.index t 2 = 0 := by clear ht; revert t; decide +kernel
    have i3 : win0_11.index t 3 = 0 := by clear ht; revert t; decide +kernel
    have s0 : win0_11.xsize (grid0.coords t) 0 = 1 := by clear ht i0 i1 i2 i3 ; revert t; decide +kernel
    have s1 : win0_11.xsize (grid0.coords t) 1 = 1 := by clear ht i0 i1 i2 i3 s0; revert t; decide +kernel
    have s2 : win0_11.xsize (grid0.coords t) 2 = 640 := by clear ht i0 i1 i2 i3 s0 s1; revert t; decide +kernel
    have s3 : win0_11.xsize (grid0.coords t) 3 = 512 := by clear ht i0 i1 i2 i3 s0 s1 s2; revert t; decide +kernel
    intro a
    match a with
    | ⟨0, _⟩ => show win0_11.index t 0 * 1 ≤ (i 0 : Nat) ∧ (i 0 : Nat) < win0_11.index t 0 * 1 + win0_11.xsize (grid0.coords t) 0
                rw [i0, s0]; omega
    | ⟨1, _⟩ => show win0_11.index t 1 * 1 ≤ (i 1 : Nat) ∧ (i 1 : Nat) < win0_11.index t 1 * 1 + win0_11.xsize (grid0.coords t) 1
                rw [i1, s1]; omega
    | ⟨2, _⟩ => show win0_11.index t 2 * 640 ≤ (i 2 : Nat) ∧ (i 2 : Nat) < win0_11.index t 2 * 640 + win0_11.xsize (grid0.coords t) 2
                rw [i2, s2]; omega
    | ⟨3, _⟩ => show win0_11.index t 3 * 512 ≤ (i 3 : Nat) ∧ (i 3 : Nat) < win0_11.index t 3 * 512 + win0_11.xsize (grid0.coords t) 3
                rw [i3, s3]; omega

end Cert.Kernel5Ideal.Hand

end
-- ==== Proof.PrepRef.lean ====
module

public import proofs.«01_k».proof.Proof.PrepRows
public import proofs.«01_k».proof.Proof.Gen.Reference5Ideal.Run

@[expose] public section

set_option maxRecDepth 16384

noncomputable section

/-! The reference of the attention's preparation, at an index, over the ideal floats. -/

namespace Cert.Reference5Ideal.Hand

open Cert.Reference5Ideal Cert.Reference5Ideal.Gen
open Idealize.ShloMosaic Idealize.ShloMosaic.TcCoe Idealize.SL.Sem

/-- The latent of 384 lanes, normalized. -/
def norm384 (x : FVec Ideal S32x2048x672 .f32) (g : FVec Ideal S384 .f32) : FVec Ideal S32x2048x384 .f32 :=
  mulf (mulf (extractStridedSlice S32x2048x384 ![0, 0, 0] x slices_S32x2048x672_S32x2048x384_0_0_0) (broadcastInDim S32x2048x384 ![0, 1, 2] bcast_S32x2048x1_S32x2048x384_0_1_2 (Host.rsqrt (addf (Host.divf (broadcastInDim S32x2048x1 ![0, 1] bcast_S32x2048_S32x2048x1_0_1 (Host.reduceAdd (mulf (extractStridedSlice S32x2048x384 ![0, 0, 0] x slices_S32x2048x672_S32x2048x384_0_0_0) (extractStridedSlice S32x2048x384 ![0, 0, 0] x slices_S32x2048x672_S32x2048x384_0_0_0)) (constant S_ .f32 0x00000000#32) reducesTo_S32x2048x384_S32x2048_d2 h_S_)) (broadcastInDim S32x2048x1 ![] bcast_S_S32x2048x1 (constant S_ .f32 0x43C00000#32))) (broadcastInDim S32x2048x1 ![] bcast_S_S32x2048x1 (constant S_ .f32 0x358637BD#32)))))) (broadcastInDim S32x2048x384 ![0, 1, 2] bcast_S1x1x384_S32x2048x384_0_1_2 (broadcastInDim S1x1x384 ![2] bcast_S384_S1x1x384_2 g))

/-- The latent of 256 lanes, normalized. -/
def norm256 (x : FVec Ideal S32x2048x672 .f32) (g : FVec Ideal S256 .f32) : FVec Ideal S32x2048x256 .f32 :=
  mulf (mulf (extractStridedSlice S32x2048x256 ![0, 0, 384] x slices_S32x2048x672_S32x2048x256_0_0_384) (broadcastInDim S32x2048x256 ![0, 1, 2] bcast_S32x2048x1_S32x2048x256_0_1_2 (Host.rsqrt (addf (Host.divf (broadcastInDim S32x2048x1 ![0, 1] bcast_S32x2048_S32x2048x1_0_1 (Host.reduceAdd (mulf (extractStridedSlice S32x2048x256 ![0, 0, 384] x slices_S32x2048x672_S32x2048x256_0_0_384) (extractStridedSlice S32x2048x256 ![0, 0, 384] x slices_S32x2048x672_S32x2048x256_0_0_384)) (constant S_ .f32 0x00000000#32) reducesTo_S32x2048x256_S32x2048_d2 h_S_)) (broadcastInDim S32x2048x1 ![] bcast_S_S32x2048x1 (constant S_ .f32 0x43800000#32))) (broadcastInDim S32x2048x1 ![] bcast_S_S32x2048x1 (constant S_ .f32 0x358637BD#32)))))) (broadcastInDim S32x2048x256 ![0, 1, 2] bcast_S1x1x256_S32x2048x256_0_1_2 (broadcastInDim S1x1x256 ![2] bcast_S256_S1x1x256_2 g))

/-- The heads' scaled queries, and the heads' keys and values. -/
def heads (x : FVec Ideal S32x2048x672 .f32) (g : FVec Ideal S384 .f32) (w : FVec Ideal S384x768 .f32) : FVec Ideal S32x2048x8x96 .f32 :=
  shapeCast S32x2048x8x96 (mulf (Host.dotGeneral dot_S32x2048x384_S384x768_S32x2048x768_2_0_01_1_n_n none (norm384 x g) w) (broadcastInDim S32x2048x768 ![] bcast_S_S32x2048x768 (constant S_ .f32 0x3E16C740#32))) shapeCasts_S32x2048x768_S32x2048x8x96
def pairs (x : FVec Ideal S32x2048x672 .f32) (g : FVec Ideal S256 .f32) (w : FVec Ideal S256x1024 .f32) : FVec Ideal S32x2048x8x128 .f32 :=
  shapeCast S32x2048x8x128 (Host.dotGeneral dot_S32x2048x256_S256x1024_S32x2048x1024_2_0_01_1_n_n none (norm256 x g) w) shapeCasts_S32x2048x1024_S32x2048x8x128

/-- The frequencies and the angles. -/
def freqA : FVec Ideal S16 .f32 :=
  Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32))))
def angA (p : IVec S32x2048 32) : FVec Ideal S32x2048x16 .f32 :=
  mulf (broadcastInDim S32x2048x16 ![0, 1, 2] bcast_S32x2048x1_S32x2048x16_0_1_2 (broadcastInDim S32x2048x1 ![0, 1] bcast_S32x2048_S32x2048x1_0_1 (sitofp .f32 p))) (broadcastInDim S32x2048x16 ![0, 1, 2] bcast_S1x1x16_S32x2048x16_0_1_2 (broadcastInDim S1x1x16 ![2] bcast_S16_S1x1x16_2 freqA))

/-- The rotated lanes of the heads' queries. -/
def ropeq (q : FVec Ideal S32x2048x8x32 .f32) (a : FVec Ideal S32x2048x16 .f32) : FVec Ideal S32x2048x8x32 .f32 :=
  concatenate S32x2048x8x32 3 [⟨S32x2048x8x16, (subf (mulf (extractStridedSlice S32x2048x8x16 ![0, 0, 0, 0] q slices_S32x2048x8x32_S32x2048x8x16_0_0_0_0) (broadcastInDim S32x2048x8x16 ![0, 1, 2, 3] bcast_S32x2048x1x16_S32x2048x8x16_0_1_2_3 (broadcastInDim S32x2048x1x16 ![0, 1, 3] bcast_S32x2048x16_S32x2048x1x16_0_1_3 (Host.cos a)))) (mulf (extractStridedSlice S32x2048x8x16 ![0, 0, 0, 16] q slices_S32x2048x8x32_S32x2048x8x16_0_0_0_16) (broadcastInDim S32x2048x8x16 ![0, 1, 2, 3] bcast_S32x2048x1x16_S32x2048x8x16_0_1_2_3 (broadcastInDim S32x2048x1x16 ![0, 1, 3] bcast_S32x2048x16_S32x2048x1x16_0_1_3 (Host.sin a)))) : FVec Ideal S32x2048x8x16 .f32)⟩,
    ⟨S32x2048x8x16, (addf (mulf (extractStridedSlice S32x2048x8x16 ![0, 0, 0, 0] q slices_S32x2048x8x32_S32x2048x8x16_0_0_0_0) (broadcastInDim S32x2048x8x16 ![0, 1, 2, 3] bcast_S32x2048x1x16_S32x2048x8x16_0_1_2_3 (broadcastInDim S32x2048x1x16 ![0, 1, 3] bcast_S32x2048x16_S32x2048x1x16_0_1_3 (Host.sin a)))) (mulf (extractStridedSlice S32x2048x8x16 ![0, 0, 0, 16] q slices_S32x2048x8x32_S32x2048x8x16_0_0_0_16) (broadcastInDim S32x2048x8x16 ![0, 1, 2, 3] bcast_S32x2048x1x16_S32x2048x8x16_0_1_2_3 (broadcastInDim S32x2048x1x16 ![0, 1, 3] bcast_S32x2048x16_S32x2048x1x16_0_1_3 (Host.cos a)))) : FVec Ideal S32x2048x8x16 .f32)⟩] concatenates_S32x2048x8x16_S32x2048x8x16_S32x2048x8x32_d3

/-- The rotated lanes of the shared key. -/
def ropek (k : FVec Ideal S32x2048x32 .f32) (a : FVec Ideal S32x2048x16 .f32) : FVec Ideal S32x2048x32 .f32 :=
  concatenate S32x2048x32 2 [⟨S32x2048x16, (subf (mulf (extractStridedSlice S32x2048x16 ![0, 0, 0] k slices_S32x2048x32_S32x2048x16_0_0_0) (Host.cos a)) (mulf (extractStridedSlice S32x2048x16 ![0, 0, 16] k slices_S32x2048x32_S32x2048x16_0_0_16) (Host.sin a)) : FVec Ideal S32x2048x16 .f32)⟩,
    ⟨S32x2048x16, (addf (mulf (extractStridedSlice S32x2048x16 ![0, 0, 0] k slices_S32x2048x32_S32x2048x16_0_0_0) (Host.sin a)) (mulf (extractStridedSlice S32x2048x16 ![0, 0, 16] k slices_S32x2048x32_S32x2048x16_0_0_16) (Host.cos a)) : FVec Ideal S32x2048x16 .f32)⟩] concatenates_S32x2048x16_S32x2048x16_S32x2048x32_d2

/-- The heads' 128 lanes: a head's 64 plain lanes, 32 rotated ones, 32 zeros. -/
def lanes (a : FVec Ideal S32x2048x8x64 .f32) (b : FVec Ideal S32x2048x8x32 .f32) : FVec Ideal S32x2048x8x128 .f32 :=
  concatenate S32x2048x8x128 3 [⟨S32x2048x8x64, a⟩, ⟨S32x2048x8x32, b⟩, ⟨S32x2048x8x32, (broadcastInDim S32x2048x8x32 ![] bcast_S_S32x2048x8x32 (constant S_ .f32 0x00000000#32) : FVec Ideal S32x2048x8x32 .f32)⟩] concatenates_S32x2048x8x64_S32x2048x8x32_S32x2048x8x32_S32x2048x8x128_d3

/-- The heads' 80 lanes: a head's 64 values, a one, 15 zeros. -/
def vlanes (a : FVec Ideal S32x2048x8x64 .f32) : FVec Ideal S32x2048x8x80 .f32 :=
  concatenate S32x2048x8x80 3 [⟨S32x2048x8x64, a⟩, ⟨S32x2048x8x1, (broadcastInDim S32x2048x8x1 ![] bcast_S_S32x2048x8x1 (constant S_ .f32 0x3F800000#32) : FVec Ideal S32x2048x8x1 .f32)⟩, ⟨S32x2048x8x15, (broadcastInDim S32x2048x8x15 ![] bcast_S_S32x2048x8x15 (constant S_ .f32 0x00000000#32) : FVec Ideal S32x2048x8x15 .f32)⟩] concatenates_S32x2048x8x64_S32x2048x8x1_S32x2048x8x15_S32x2048x8x80_d3

def query (q : FVec Ideal S32x2048x8x96 .f32) (a : FVec Ideal S32x2048x16 .f32) : FVec Ideal S32x2048x8x128 .f32 :=
  lanes (extractStridedSlice S32x2048x8x64 ![0, 0, 0, 0] q slices_S32x2048x8x96_S32x2048x8x64_0_0_0_0) (ropeq (extractStridedSlice S32x2048x8x32 ![0, 0, 0, 64] q slices_S32x2048x8x96_S32x2048x8x32_0_0_0_64) a)

def key (kv : FVec Ideal S32x2048x8x128 .f32) (k : FVec Ideal S32x2048x32 .f32) : FVec Ideal S32x2048x8x128 .f32 :=
  lanes (extractStridedSlice S32x2048x8x64 ![0, 0, 0, 0] kv slices_S32x2048x8x128_S32x2048x8x64_0_0_0_0) (broadcastInDim S32x2048x8x32 ![0, 1, 2, 3] bcast_S32x2048x1x32_S32x2048x8x32_0_1_2_3 (broadcastInDim S32x2048x1x32 ![0, 1, 3] bcast_S32x2048x32_S32x2048x1x32_0_1_3 k))

def refOut0 (x : FVec Ideal S32x2048x672 .f32) (p : IVec S32x2048 32) (g : FVec Ideal S384 .f32) (w : FVec Ideal S384x768 .f32) : FVec Ideal S32x1024x2048 .bf16 :=
  truncf .bf16 (transpose S32x1024x2048 [0, 2, 1] (shapeCast S32x2048x1024 (query (heads x g w) (angA p)) shapeCasts_S32x2048x8x128_S32x2048x1024) transposes_S32x2048x1024_S32x1024x2048_0_2_1) bitsLt_bf16_f32

def refOut1 (x : FVec Ideal S32x2048x672 .f32) (p : IVec S32x2048 32) (g : FVec Ideal S256 .f32) (w : FVec Ideal S256x1024 .f32) : FVec Ideal S65536x1024 .bf16 :=
  truncf .bf16 (shapeCast S65536x1024 (key (pairs x g w) (ropek (extractStridedSlice S32x2048x32 ![0, 0, 640] x slices_S32x2048x672_S32x2048x32_0_0_640) (angA p))) shapeCasts_S32x2048x8x128_S65536x1024) bitsLt_bf16_f32

def refOut2 (x : FVec Ideal S32x2048x672 .f32) (g : FVec Ideal S256 .f32) (w : FVec Ideal S256x1024 .f32) : FVec Ideal S32x4x640x512 .bf16 :=
  truncf .bf16 (transpose S32x4x640x512 [0, 1, 3, 2] (shapeCast S32x4x512x640 (vlanes (extractStridedSlice S32x2048x8x64 ![0, 0, 0, 64] (pairs x g w) slices_S32x2048x8x128_S32x2048x8x64_0_0_0_64)) shapeCasts_S32x2048x8x80_S32x4x512x640) transposes_S32x4x512x640_S32x4x640x512_0_1_3_2) bitsLt_bf16_f32

/-! ### At an index -/

theorem norm384_at (x : FVec Ideal S32x2048x672 .f32) (g : FVec Ideal S384 .f32) (b : Fin 32) (s : Fin 2048) (i : Fin 384) :
    norm384 x g (ix3 b s i) = Prep.norm (Ideal.ofBits .f32 0x43C00000#32) (Prep.cq fun k => x (ix3 b s k)) (fun k => g (ix1 k)) i := by
  pointwise [norm384]
  rfl

theorem norm256_at (x : FVec Ideal S32x2048x672 .f32) (g : FVec Ideal S256 .f32) (b : Fin 32) (s : Fin 2048) (i : Fin 256) :
    norm256 x g (ix3 b s i) = Prep.norm (Ideal.ofBits .f32 0x43800000#32) (Prep.ckv fun k => x (ix3 b s k)) (fun k => g (ix1 k)) i := by
  pointwise [norm256]
  rfl

theorem heads_at (x : FVec Ideal S32x2048x672 .f32) (g : FVec Ideal S384 .f32) (w : FVec Ideal S384x768 .f32) (b : Fin 32) (s : Fin 2048) (h : Fin 8) (l : Fin 96) :
    heads x g w (ix4 b s h l) = Prep.qv (fun k => x (ix3 b s k)) (fun k => g (ix1 k)) (fun k j => w (ix2 k j)) ⟨96 * h.val + l.val, by omega⟩ := by
  unfold heads
  have e := norm384_at x g b s
  generalize norm384 x g = y at e
  pointwise []
  simp only [e]
  simp only [Nat.mul_comm h.val 96]
  rfl

theorem pairs_at (x : FVec Ideal S32x2048x672 .f32) (g : FVec Ideal S256 .f32) (w : FVec Ideal S256x1024 .f32) (b : Fin 32) (s : Fin 2048) (h : Fin 8) (l : Fin 128) :
    pairs x g w (ix4 b s h l) = Prep.kvv (fun k => x (ix3 b s k)) (fun k => g (ix1 k)) (fun k j => w (ix2 k j)) ⟨128 * h.val + l.val, by omega⟩ := by
  unfold pairs
  have e := norm256_at x g b s
  generalize norm256 x g = y at e
  pointwise []
  simp only [e]
  simp only [Nat.mul_comm h.val 128]
  rfl

theorem freqA_at (f : Fin 16) : freqA (ix1 f) = Prep.freq f := by
  pointwise [freqA]
  rfl

theorem angA_at (p : IVec S32x2048 32) (b : Fin 32) (s : Fin 2048) (f : Fin 16) : angA p (ix3 b s f) = Prep.ang (p (ix2 b s)) f := by
  unfold angA
  have e := freqA_at
  generalize freqA = y at e
  pointwise []
  rw [e]
  exact mul_comm _ _

theorem ropeq_at (q : FVec Ideal S32x2048x8x32 .f32) (a : FVec Ideal S32x2048x16 .f32) (p : BitVec 32) (b : Fin 32) (s : Fin 2048) (h : Fin 8) (l : Fin 32)
    (ha : ∀ f, a (ix3 b s f) = Prep.ang p f) :
    ropeq q a (ix4 b s h l) = Prep.rot p (fun d => q (ix4 b s h d)) l := by
  unfold ropeq Prep.rot Prep.cs Prep.sn
  pointwise []
  simp only [ha]
  split
  · simp only [Nat.add_comm 16]
  · rename_i k
    have : (⟨16 + (l.val - 16), by omega⟩ : Fin 32) = l := Fin.ext (by show 16 + (l.val - 16) = l.val; omega)
    rw [this]

theorem ropek_at (k : FVec Ideal S32x2048x32 .f32) (a : FVec Ideal S32x2048x16 .f32) (p : BitVec 32) (b : Fin 32) (s : Fin 2048) (l : Fin 32)
    (ha : ∀ f, a (ix3 b s f) = Prep.ang p f) :
    ropek k a (ix3 b s l) = Prep.rot p (fun d => k (ix3 b s d)) l := by
  unfold ropek Prep.rot Prep.cs Prep.sn
  pointwise []
  simp only [ha]
  split
  · simp only [Nat.add_comm 16]
  · rename_i k
    have : (⟨16 + (l.val - 16), by omega⟩ : Fin 32) = l := Fin.ext (by show 16 + (l.val - 16) = l.val; omega)
    rw [this]

theorem lanes_at (a : FVec Ideal S32x2048x8x64 .f32) (u : FVec Ideal S32x2048x8x32 .f32) (b : Fin 32) (s : Fin 2048) (h : Fin 8) (l : Fin 128) :
    lanes a u (ix4 b s h l) = if k : l.val < 64 then a (ix4 b s h ⟨l.val, k⟩) else if k : l.val < 96 then u (ix4 b s h ⟨(l.val - 64) % 32, by omega⟩) else 0 := by
  unfold lanes
  pointwise []
  by_cases k : l.val < 64
  · simp only [k, ↓reduceDIte]
  · by_cases k' : l.val < 96
    · have k2 : l.val - 64 < 32 := by omega
      simp only [k, k', k2, ↓reduceDIte, Nat.mod_eq_of_lt k2]
    · have k2 : ¬ l.val - 64 < 32 := by omega
      simp only [k, k', k2, ↓reduceDIte]

theorem vlanes_at (a : FVec Ideal S32x2048x8x64 .f32) (b : Fin 32) (s : Fin 2048) (h : Fin 8) (l : Fin 80) :
    vlanes a (ix4 b s h l) = if k : l.val < 64 then a (ix4 b s h ⟨l.val, k⟩) else if l.val < 65 then 1 else 0 := by
  unfold vlanes
  pointwise []
  by_cases k : l.val < 64
  · simp only [k, ↓reduceDIte]
  · by_cases k' : l.val < 65
    · have k2 : l.val - 64 < 1 := by omega
      simp only [k, k', k2, ↓reduceDIte, ↓reduceIte]
    · have k2 : ¬ l.val - 64 < 1 := by omega
      simp only [k, k', k2, ↓reduceDIte, ↓reduceIte]

theorem query_at (q : FVec Ideal S32x2048x8x96 .f32) (a : FVec Ideal S32x2048x16 .f32) (p : BitVec 32) (b : Fin 32) (s : Fin 2048) (h : Fin 8) (l : Fin 128)
    (ha : ∀ f, a (ix3 b s f) = Prep.ang p f) :
    query q a (ix4 b s h l) = if k : l.val < 64 then q (ix4 b s h ⟨l.val, by omega⟩) else if k : l.val < 96 then Prep.rot p (fun d => q (ix4 b s h ⟨64 + d.val, by omega⟩)) ⟨(l.val - 64) % 32, by omega⟩ else 0 := by
  have e : ∀ d : Fin 32, extractStridedSlice S32x2048x8x32 ![0, 0, 0, 64] q slices_S32x2048x8x96_S32x2048x8x32_0_0_0_64 (ix4 b s h d) = q (ix4 b s h ⟨64 + d.val, by omega⟩) := by
    intro d
    pointwise []
  unfold query
  rw [lanes_at, ropeq_at _ a p b s h _ ha]
  simp only [e]
  split
  · pointwise []
  · rfl

theorem key_at (kv : FVec Ideal S32x2048x8x128 .f32) (u : FVec Ideal S32x2048x32 .f32) (b : Fin 32) (s : Fin 2048) (h : Fin 8) (l : Fin 128) :
    key kv u (ix4 b s h l) = if k : l.val < 64 then kv (ix4 b s h ⟨l.val, by omega⟩) else if k : l.val < 96 then u (ix3 b s ⟨(l.val - 64) % 32, by omega⟩) else 0 := by
  unfold key
  rw [lanes_at]
  split
  · pointwise []
  · split
    · pointwise []
    · rfl

theorem flip0 (z : FVec Ideal S32x2048x1024 .f32) (b : Fin 32) (j : Fin 1024) (s : Fin 2048) :
    (truncf .bf16 (transpose S32x1024x2048 [0, 2, 1] z transposes_S32x2048x1024_S32x1024x2048_0_2_1) bitsLt_bf16_f32 : FVec Ideal S32x1024x2048 .bf16) (ix3 b j s) = z (ix3 b s j) := by
  pointwise []

theorem join0 (y : FVec Ideal S32x2048x8x128 .f32) (b : Fin 32) (s : Fin 2048) (j : Fin 1024) :
    shapeCast S32x2048x1024 y shapeCasts_S32x2048x8x128_S32x2048x1024 (ix3 b s j) = y (ix4 b s ⟨j.val / 128, by omega⟩ ⟨j.val % 128, by omega⟩) := by
  pointwise []

theorem flip2 (z : FVec Ideal S32x4x512x640 .f32) (b : Fin 32) (q : Fin 4) (j : Fin 640) (r : Fin 512) :
    (truncf .bf16 (transpose S32x4x640x512 [0, 1, 3, 2] z transposes_S32x4x512x640_S32x4x640x512_0_1_3_2) bitsLt_bf16_f32 : FVec Ideal S32x4x640x512 .bf16) (ix4 b q j r) = z (ix4 b q r j) := by
  pointwise []

theorem join2 (y : FVec Ideal S32x2048x8x80 .f32) (b : Fin 32) (q : Fin 4) (r : Fin 512) (j : Fin 640) :
    shapeCast S32x4x512x640 y shapeCasts_S32x2048x8x80_S32x4x512x640 (ix4 b q r j) = y (ix4 b ⟨q.val * 512 + r.val, by omega⟩ ⟨j.val / 80, by omega⟩ ⟨j.val % 80, by omega⟩) := by
  pointwise []

theorem out0_at (x : FVec Ideal S32x2048x672 .f32) (p : IVec S32x2048 32) (g : FVec Ideal S384 .f32) (w : FVec Ideal S384x768 .f32) (b : Fin 32) (j : Fin 1024) (s : Fin 2048) :
    refOut0 x p g w (ix3 b j s) = Prep.qOut (fun k => x (ix3 b s k)) (p (ix2 b s)) (fun k => g (ix1 k)) (fun k j => w (ix2 k j)) ⟨j.val / 128, by omega⟩ ⟨j.val % 128, by omega⟩ := by
  unfold refOut0
  refine (flip0 _ b j s).trans ((join0 _ b s j).trans ((query_at _ _ (p (ix2 b s)) b s _ _ (angA_at p b s)).trans ?_))
  simp only [heads_at]
  unfold Prep.qOut
  split
  · rename_i k
    refine congrArg (Prep.qv _ _ _) (Fin.ext ?_)
    show 96 * (j.val / 128) + j.val % 128 = (96 * (j.val / 128) + j.val % 128) % 768
    have k' : j.val % 128 < 64 := k
    omega
  · simp only [← Nat.add_assoc]
    split <;> rfl

theorem out1_at (x : FVec Ideal S32x2048x672 .f32) (p : IVec S32x2048 32) (g : FVec Ideal S256 .f32) (w : FVec Ideal S256x1024 .f32) (n : Fin 65536) (j : Fin 1024) :
    refOut1 x p g w (ix2 n j) = Prep.kOut (fun k => x (ix3 ⟨n.val / 2048, by omega⟩ ⟨n.val % 2048, by omega⟩ k)) (p (ix2 ⟨n.val / 2048, by omega⟩ ⟨n.val % 2048, by omega⟩)) (fun k => g (ix1 k)) (fun k j => w (ix2 k j)) ⟨j.val / 128, by omega⟩ ⟨j.val % 128, by omega⟩ := by
  have e : ∀ (b : Fin 32) (s : Fin 2048) (d : Fin 32), extractStridedSlice S32x2048x32 ![0, 0, 640] x slices_S32x2048x672_S32x2048x32_0_0_640 (ix3 b s d) = Prep.kr (fun k => x (ix3 b s k)) d := by
    intro b s d
    pointwise []
    rfl
  have f : refOut1 x p g w (ix2 n j) = key (pairs x g w) (ropek (extractStridedSlice S32x2048x32 ![0, 0, 640] x slices_S32x2048x672_S32x2048x32_0_0_640) (angA p)) (ix4 ⟨n.val / 2048, by omega⟩ ⟨n.val % 2048, by omega⟩ ⟨j.val / 128, by omega⟩ ⟨j.val % 128, by omega⟩) := by
    unfold refOut1
    generalize key _ _ = y
    pointwise []
  rw [f, key_at, ropek_at _ _ _ _ _ _ (angA_at p _ _)]
  simp only [e, pairs_at]
  unfold Prep.kOut
  split
  · rfl
  · split <;> rfl

theorem out2_at (x : FVec Ideal S32x2048x672 .f32) (g : FVec Ideal S256 .f32) (w : FVec Ideal S256x1024 .f32) (b : Fin 32) (q : Fin 4) (j : Fin 640) (r : Fin 512) :
    refOut2 x g w (ix4 b q j r) = Prep.vOut (fun k => x (ix3 b ⟨q.val * 512 + r.val, by omega⟩ k)) (fun k => g (ix1 k)) (fun k j => w (ix2 k j)) ⟨j.val / 80, by omega⟩ ⟨j.val % 80, by omega⟩ := by
  have e : ∀ (b : Fin 32) (s : Fin 2048) (h : Fin 8) (l : Fin 64), extractStridedSlice S32x2048x8x64 ![0, 0, 0, 64] (pairs x g w) slices_S32x2048x8x128_S32x2048x8x64_0_0_0_64 (ix4 b s h l) = pairs x g w (ix4 b s h ⟨64 + l.val, by omega⟩) := by
    intro b s h l
    generalize pairs x g w = y
    pointwise []
  unfold refOut2
  refine (flip2 _ b q j r).trans ((join2 _ b q r j).trans ((vlanes_at _ _ _ _ _).trans ?_))
  unfold Prep.vOut
  split
  · rename_i k
    rw [e, pairs_at]
    refine congrArg (Prep.kvv _ _ _) (Fin.ext ?_)
    show 128 * (j.val / 80) + (64 + j.val % 80) = (128 * (j.val / 80) + 64 + j.val % 80) % 1024
    have k' : j.val % 80 < 64 := k
    omega
  · rfl

/-- The run: the results of the arguments, which end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = refOut0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v94) = refOut1 (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v97) = refOut2 (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3⟩ := h c
    refine ⟨h0.trans ?_, h1.trans ?_, h2.trans ?_, h3⟩
    · unfold Cert.Reference5Ideal.Value.res_main_v92 refOut0 query lanes ropeq heads angA norm384 freqA
      rfl
    · unfold Cert.Reference5Ideal.Value.res_main_v94 refOut1 key lanes ropek pairs angA norm256 freqA
      rfl
    · unfold refOut2 vlanes pairs norm256
      rfl) (Cert.Reference5Ideal.Value.run (F := Ideal) m ρ)

end Cert.Reference5Ideal.Hand

end
-- ==== Proof.Ada.lean ====
module

public import proofs.«01_k».proof.Proof.Rows
public import proofs.«01_k».proof.Proof.Gen.Kernel6Ideal.Value
public import Idealize.ShloMosaic.Lib.StableHlo.ReadAt

@[expose] public section

set_option maxRecDepth 16384

noncomputable section

/-! The conditioning call: its result at an index, over the ideal floats. -/

namespace Cert.Kernel6Ideal.Hand

open Idealize.ShloMosaic Idealize.ShloMosaic.TcCoe Idealize.SL.Sem
open Cert.Kernel6Ideal.Gen

/-- The conditioning row, gated by itself. -/
def gated (c : Fin 1024 → EReal) (k : Fin 1024) : EReal := c k * Ideal.logistic (c k)

theorem pay1_at (x0 : FVec Ideal S32x1024 .f32) (x1 : FVec Ideal S1x1024x1536 .f32) (x2 : FVec Ideal S1x1x1536 .f32) (b : Fin 32) (j : Fin 1536) :
    k0_pay1 (F := Ideal) x0 x1 x2 (ix3 0 b j) = Rows.mul (gated fun k => x0 (ix2 b k)) (fun k j => x1 (ix3 0 k j)) j + x2 (ix3 0 0 j) := by
  pointwise [k0_pay1]
  rfl

theorem out3_at (x0 : FVec Ideal S32x1024 .f32) (x1 : FVec Ideal S1x1024x1536 .f32) (x2 : FVec Ideal S1x1x1536 .f32) (b : Fin 32) (j : Fin 1536) :
    out0_3 (F := Ideal) x0 x1 x2 (ix3 0 b j) = Rows.mul (gated fun k => x0 (ix2 b k)) (fun k j => x1 (ix3 0 k j)) j + x2 (ix3 0 0 j) := by
  have e : r0_3.emb (ix3 0 b j) = ix3 0 b j := by
    funext a
    match a with
    | ⟨0, _⟩ => exact Fin.ext (by show 0 + 1 * 0 = 0; omega)
    | ⟨1, _⟩ => exact Fin.ext (by show 0 + 1 * b.val = b.val; omega)
    | ⟨2, _⟩ => exact Fin.ext (by show 0 + 1 * j.val = j.val; omega)
  have l0 : View.ld (Val := Elt Ideal) (e' := .f32) x0 r0_0 = x0 := View.ld_unit_zero (by decide) _ _
  have l1 : View.ld (Val := Elt Ideal) (e' := .f32) x1 r0_1 = x1 := View.ld_unit_zero (by decide) _ _
  have l2 : View.ld (Val := Elt Ideal) (e' := .f32) x2 r0_2 = x2 := View.ld_unit_zero (by decide) _ _
  unfold out0_3
  rw [l0, l1, l2]
  exact (congrArg (View.canon _) e.symm).trans ((View.canon_cons_emb _ _ _ _).trans (pay1_at _ _ _ b j))

variable (m : (ℓ : Loc nD τ sig) → Buf (Elt Ideal) ℓ) (c : Dev nD)

abbrev argc : FVec Ideal S32x1024 .f32 := m ((c.tc : Thread nD τ).loc main_arg0)
abbrev argw : FVec Ideal S2x1024x6144 .f32 := m ((c.tc : Thread nD τ).loc main_arg1)
abbrev argb : FVec Ideal S2x6144 .f32 := m ((c.tc : Thread nD τ).loc main_arg2)

theorem V0_at (l : Fin 2) (j : Fin 6144) : (V m c main_v0 : FVec Ideal S2x1x6144 .f32) (ix3 l 0 j) = argb m c (ix2 l j) := by
  have e : V m c main_v0 = shapeCast S2x1x6144 (argb m c) shapeCasts_S2x6144_S2x1x6144 := by
    unfold V
    after_reads_simp
    rfl
  rw [e]
  pointwise []

theorem tlt (t : Fin cfg0.N) : t.val < 8 := N_0 ▸ t.isLt

/-- A point's layer, and a column of its tile. -/
abbrev lay (t : Fin cfg0.N) : Fin 2 := ⟨t.val / 4, by have := tlt t; omega⟩
abbrev col (t : Fin cfg0.N) (j : Fin 1536) : Fin 6144 := ⟨t.val % 4 * 1536 + j.val, by omega⟩

theorem read0_at (A : FVec Ideal S32x1024 .f32) (t : Fin cfg0.N) (j : Fin 32) (k : Fin 1024) :
    ((cfg0.win 0).blk t).view.read (Elt Ideal) A (ix2 j k) = A (ix2 j k) := by
  have h0 : win0_0.index t 0 = 0 := by revert t; decide +kernel
  have h1 : win0_0.index t 1 = 0 := by revert t; decide +kernel
  rw [View.read_apply]
  show A _ = A _
  refine congrArg A (funext fun a => Fin.ext ?_)
  match a with
  | ⟨0, _⟩ => show win0_0.index t 0 * 32 + 1 * j.val = j.val; rw [h0]; omega
  | ⟨1, _⟩ => show win0_0.index t 1 * 1024 + 1 * k.val = k.val; rw [h1]; omega

theorem read1_at (A : FVec Ideal S2x1024x6144 .f32) (t : Fin cfg0.N) (k : Fin 1024) (j : Fin 1536) :
    ((cfg0.win 1).blk t).view.read (Elt Ideal) A (ix3 0 k j) = A (ix3 (lay t) k (col t j)) := by
  have h0 : win0_1.index t 0 = t.val / 4 := by revert t; decide +kernel
  have h1 : win0_1.index t 1 = 0 := by revert t; decide +kernel
  have h2 : win0_1.index t 2 = t.val % 4 := by revert t; decide +kernel
  rw [View.read_apply]
  show A _ = A _
  refine congrArg A (funext fun a => Fin.ext ?_)
  match a with
  | ⟨0, _⟩ => show win0_1.index t 0 * 1 + 1 * 0 = t.val / 4; rw [h0]; omega
  | ⟨1, _⟩ => show win0_1.index t 1 * 1024 + 1 * k.val = k.val; rw [h1]; omega
  | ⟨2, _⟩ => show win0_1.index t 2 * 1536 + 1 * j.val = t.val % 4 * 1536 + j.val; rw [h2]; omega

theorem read2_at (A : FVec Ideal S2x1x6144 .f32) (t : Fin cfg0.N) (k : Fin 1) (j : Fin 1536) :
    ((cfg0.win 2).blk t).view.read (Elt Ideal) A (ix3 0 k j) = A (ix3 (lay t) k (col t j)) := by
  have h0 : win0_2.index t 0 = t.val / 4 := by revert t; decide +kernel
  have h1 : win0_2.index t 1 = 0 := by revert t; decide +kernel
  have h2 : win0_2.index t 2 = t.val % 4 := by revert t; decide +kernel
  rw [View.read_apply]
  show A _ = A _
  refine congrArg A (funext fun a => Fin.ext ?_)
  match a with
  | ⟨0, _⟩ => show win0_2.index t 0 * 1 + 1 * 0 = t.val / 4; rw [h0]; omega
  | ⟨1, _⟩ => show win0_2.index t 1 * 1 + 1 * k.val = k.val; rw [h1]; omega
  | ⟨2, _⟩ => show win0_2.index t 2 * 1536 + 1 * j.val = t.val % 4 * 1536 + j.val; rw [h2]; omega

theorem read3_at (A : FVec Ideal S2x32x6144 .f32) (t : Fin cfg0.N) (k : Fin 32) (j : Fin 1536) :
    ((cfg0.win 3).blk t).view.read (Elt Ideal) A (ix3 0 k j) = A (ix3 (lay t) k (col t j)) := by
  have h0 : win0_3.index t 0 = t.val / 4 := by revert t; decide +kernel
  have h1 : win0_3.index t 1 = 0 := by revert t; decide +kernel
  have h2 : win0_3.index t 2 = t.val % 4 := by revert t; decide +kernel
  rw [View.read_apply]
  show A _ = A _
  refine congrArg A (funext fun a => Fin.ext ?_)
  match a with
  | ⟨0, _⟩ => show win0_3.index t 0 * 1 + 1 * 0 = t.val / 4; rw [h0]; omega
  | ⟨1, _⟩ => show win0_3.index t 1 * 32 + 1 * k.val = k.val; rw [h1]; omega
  | ⟨2, _⟩ => show win0_3.index t 2 * 1536 + 1 * j.val = t.val % 4 * 1536 + j.val; rw [h2]; omega

def outAt (x : FVec Ideal S32x1024 .f32) (w : FVec Ideal S2x1024x6144 .f32) (d : FVec Ideal S2x6144 .f32) (l : Fin 2) (b : Fin 32) (j : Fin 6144) : EReal :=
  Rows.mul (gated fun k => x (ix2 b k)) (fun k j => w (ix3 l k j)) j + d (ix2 l j)

def result : FVec Ideal S2x32x6144 .f32 := fun i => outAt (argc m c) (argw m c) (argb m c) (i 0) (i 1) (i 2)

theorem b0 (t : Fin cfg0.N) (b : Fin 32) (k : Fin 1024) : (iblk m c 0 t : FVec Ideal S32x1024 .f32) (ix2 b k) = argc m c (ix2 b k) :=
  (read0_at _ t b k).trans (congrFun (V_main_arg0 m c) _)
theorem b1 (t : Fin cfg0.N) (k : Fin 1024) (j : Fin 1536) : (iblk m c 1 t : FVec Ideal S1x1024x1536 .f32) (ix3 0 k j) = argw m c (ix3 (lay t) k (col t j)) :=
  (read1_at _ t k j).trans (congrFun (V_main_arg1 m c) _)
theorem b2 (t : Fin cfg0.N) (j : Fin 1536) : (iblk m c 2 t : FVec Ideal S1x1x1536 .f32) (ix3 0 0 j) = argb m c (ix2 (lay t) (col t j)) :=
  (read2_at _ t 0 j).trans (V0_at m c (lay t) (col t j))

theorem outs_at (t : Fin cfg0.N) (b : Fin 32) (j : Fin 1536) :
    out0_3 (F := Ideal) (iblk m c 0 t) (iblk m c 1 t) (iblk m c 2 t) (ix3 0 b j) = outAt (argc m c) (argw m c) (argb m c) (lay t) b (col t j) := by
  refine (out3_at _ _ _ b j).trans ?_
  unfold Rows.mul
  simp only [b0, b1, b2]
  rfl

theorem flushed_eq (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext i
  obtain ⟨r, j, rfl⟩ : ∃ (r : Fin 32) (j : Fin 1536), i = ix3 0 r j := ⟨i 1, i 2, by
    funext a
    match a with
    | ⟨0, _⟩ => exact Fin.ext (by have : (i 0).val < 1 := (i 0).isLt; show (i 0).val = 0; omega)
    | ⟨1, _⟩ => rfl
    | ⟨2, _⟩ => rfl⟩
  refine Eq.trans ?_ ((outs_at m c t r j).trans ((read3_at (result m c) t r j).symm))
  rfl

theorem final_o : (dats m 0 c).arrAt 3 cfg0.N = result m c :=
  (dats m 0 c).arrAt_eq_of_cover 3 (result m c) (flushed_eq m c) fun i => by
    have h0 : (i 0 : Nat) < 2 := (i 0).isLt
    have h1 : (i 1 : Nat) < 32 := (i 1).isLt
    have h2 : (i 2 : Nat) < 6144 := (i 2).isLt
    have hN : cfg0.N = 8 := N_0
    obtain ⟨t, ht⟩ : ∃ t : Fin cfg0.N, t.val = (i 0 : Nat) * 4 + (i 2 : Nat) / 1536 := ⟨⟨(i 0 : Nat) * 4 + (i 2 : Nat) / 1536, by omega⟩, rfl⟩
    refine ⟨t, flush0_3 t, ?_⟩
    show i ∈ ((View.whole main_v1).slice (win0_3.rect t)).set
    rw [View.set_slice_whole, Rect.mem_set_unit]
    have i0 : win0_3.index t 0 = t.val / 4 := by clear ht; revert t; decide +kernel
    have i1 : win0_3.index t 1 = 0 := by clear ht; revert t; decide +kernel
    have i2 : win0_3.index t 2 = t.val % 4 := by clear ht; revert t; decide +kernel
    have s0 : win0_3.xsize (grid0.coords t) 0 = 1 := by clear ht i0 i1 i2 ; revert t; decide +kernel
    have s1 : win0_3.xsize (grid0.coords t) 1 = 32 := by clear ht i0 i1 i2 s0; revert t; decide +kernel
    have s2 : win0_3.xsize (grid0.coords t) 2 = 1536 := by clear ht i0 i1 i2 s0 s1; revert t; decide +kernel
    intro a
    match a with
    | ⟨0, _⟩ => show win0_3.index t 0 * 1 ≤ (i 0 : Nat) ∧ (i 0 : Nat) < win0_3.index t 0 * 1 + win0_3.xsize (grid0.coords t) 0
                rw [i0, s0]; omega
    | ⟨1, _⟩ => show win0_3.index t 1 * 32 ≤ (i 1 : Nat) ∧ (i 1 : Nat) < win0_3.index t 1 * 32 + win0_3.xsize (grid0.coords t) 1
                rw [i1, s1]; omega
    | ⟨2, _⟩ => show win0_3.index t 2 * 1536 ≤ (i 2 : Nat) ∧ (i 2 : Nat) < win0_3.index t 2 * 1536 + win0_3.xsize (grid0.coords t) 2
                rw [i2, s2]; omega

end Cert.Kernel6Ideal.Hand

end
-- ==== Proof.AdaRef.lean ====
module

public import proofs.«01_k».proof.Proof.Rows
public import proofs.«01_k».proof.Proof.Gen.Reference6Ideal.Run

@[expose] public section

set_option maxRecDepth 16384

noncomputable section

/-! The reference of the conditioning call, at an index, over the ideal floats. -/

namespace Cert.Reference6Ideal.Hand

open Cert.Reference6Ideal Cert.Reference6Ideal.Gen
open Idealize.ShloMosaic Idealize.ShloMosaic.TcCoe Idealize.SL.Sem

/-- The conditioning, gated by itself. -/
def silu (x : FVec Ideal S32x1024 .f32) : FVec Ideal S32x1024 .f32 :=
  mulf x (Host.divf (broadcastInDim S32x1024 ![] bcast_S_S32x1024 (constant S_ .f32 0x3F800000#32)) (addf (broadcastInDim S32x1024 ![] bcast_S_S32x1024 (constant S_ .f32 0x3F800000#32)) (Host.exp (Host.negf x))))

/-- A layer's product and shift. -/
def layer (y : FVec Ideal S32x1024 .f32) (w : FVec Ideal S1x1024x6144 .f32) (d : FVec Ideal S1x6144 .f32) : FVec Ideal S1x32x6144 .f32 :=
  broadcastInDim S1x32x6144 ![1, 2] bcast_S32x6144_S1x32x6144_1_2 (addf (Host.dotGeneral dot_S32x1024_S1024x6144_S32x6144_1_0_0_1_n_n none y (shapeCast S1024x6144 w shapeCasts_S1x1024x6144_S1024x6144)) (broadcastInDim S32x6144 ![0, 1] bcast_S1x6144_S32x6144_0_1 (broadcastInDim S1x6144 ![1] bcast_S6144_S1x6144_1 (shapeCast S6144 d shapeCasts_S1x6144_S6144))))

def refOut (x : FVec Ideal S32x1024 .f32) (w : FVec Ideal S2x1024x6144 .f32) (d : FVec Ideal S2x6144 .f32) : FVec Ideal S2x32x6144 .f32 :=
  concatenate S2x32x6144 0 [⟨S1x32x6144, layer (silu x) (extractStridedSlice S1x1024x6144 ![0, 0, 0] w slices_S2x1024x6144_S1x1024x6144_0_0_0) (extractStridedSlice S1x6144 ![0, 0] d slices_S2x6144_S1x6144_0_0)⟩,
    ⟨S1x32x6144, layer (silu x) (extractStridedSlice S1x1024x6144 ![1, 0, 0] w slices_S2x1024x6144_S1x1024x6144_1_0_0) (extractStridedSlice S1x6144 ![1, 0] d slices_S2x6144_S1x6144_1_0)⟩] concatenates_S1x32x6144_S1x32x6144_S2x32x6144_d0

theorem silu_at (x : FVec Ideal S32x1024 .f32) (b : Fin 32) (k : Fin 1024) : silu x (ix2 b k) = x (ix2 b k) * Ideal.logistic (x (ix2 b k)) := by
  pointwise [silu]
  rfl

theorem layer_at (y : FVec Ideal S32x1024 .f32) (w : FVec Ideal S1x1024x6144 .f32) (d : FVec Ideal S1x6144 .f32) (b : Fin 32) (j : Fin 6144) :
    layer y w d (ix3 0 b j) = Rows.mul (fun k => y (ix2 b k)) (fun k j => w (ix3 0 k j)) j + d (ix2 0 j) := by
  pointwise [layer]
  rfl

theorem out_at (x : FVec Ideal S32x1024 .f32) (w : FVec Ideal S2x1024x6144 .f32) (d : FVec Ideal S2x6144 .f32) (l : Fin 2) (b : Fin 32) (j : Fin 6144) :
    refOut x w d (ix3 l b j) = Rows.mul (fun k => x (ix2 b k) * Ideal.logistic (x (ix2 b k))) (fun k j => w (ix3 l k j)) j + d (ix2 l j) := by
  have w0 : ∀ k j, extractStridedSlice S1x1024x6144 ![0, 0, 0] w slices_S2x1024x6144_S1x1024x6144_0_0_0 (ix3 0 k j) = w (ix3 0 k j) := by
    intro k j
    pointwise []
  have w1 : ∀ k j, extractStridedSlice S1x1024x6144 ![1, 0, 0] w slices_S2x1024x6144_S1x1024x6144_1_0_0 (ix3 0 k j) = w (ix3 1 k j) := by
    intro k j
    pointwise []
  have d0 : ∀ j, extractStridedSlice S1x6144 ![0, 0] d slices_S2x6144_S1x6144_0_0 (ix2 0 j) = d (ix2 0 j) := by
    intro j
    pointwise []
  have d1 : ∀ j, extractStridedSlice S1x6144 ![1, 0] d slices_S2x6144_S1x6144_1_0 (ix2 0 j) = d (ix2 1 j) := by
    intro j
    pointwise []
  have h0 := layer_at (silu x) (extractStridedSlice S1x1024x6144 ![0, 0, 0] w slices_S2x1024x6144_S1x1024x6144_0_0_0) (extractStridedSlice S1x6144 ![0, 0] d slices_S2x6144_S1x6144_0_0) b j
  have h1 := layer_at (silu x) (extractStridedSlice S1x1024x6144 ![1, 0, 0] w slices_S2x1024x6144_S1x1024x6144_1_0_0) (extractStridedSlice S1x6144 ![1, 0] d slices_S2x6144_S1x6144_1_0) b j
  simp only [silu_at, w0, w1, d0, d1] at h0 h1
  unfold refOut
  generalize layer (silu x) (extractStridedSlice S1x1024x6144 ![0, 0, 0] w slices_S2x1024x6144_S1x1024x6144_0_0_0) (extractStridedSlice S1x6144 ![0, 0] d slices_S2x6144_S1x6144_0_0) = y0 at h0
  generalize layer (silu x) (extractStridedSlice S1x1024x6144 ![1, 0, 0] w slices_S2x1024x6144_S1x1024x6144_1_0_0) (extractStridedSlice S1x6144 ![1, 0] d slices_S2x6144_S1x6144_1_0) = y1 at h1
  match l with
  | ⟨0, _⟩ =>
    refine Eq.trans ?_ h0
    pointwise []
  | ⟨1, _⟩ =>
    refine Eq.trans ?_ h1
    pointwise []

/-- The run: the result of the arguments, which end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1⟩ := h c
    refine ⟨h0.trans ?_, h1⟩
    unfold refOut layer silu
    rfl) (Cert.Reference6Ideal.Value.run (F := Ideal) m ρ)

end Cert.Reference6Ideal.Hand

end
-- ==== Proof.Model.lean ====
/- The attention of one grid point as functions of its blocks, at any floats: what one head carries from
   key tile to key tile, one step of the running softmax, and the block the point leaves. The kernel keeps
   its scores with keys along rows and queries along columns. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.ReadBack

@[expose] public section

set_option maxRecDepth 8192

noncomputable section

namespace Cert.KernelIdeal.Hand

open Idealize.ShloMosaic Idealize.ShloMosaic.TcCoe
open Cert.KernelIdeal.Gen

variable {F : FTy → Type} [FloatOps F]

/-- What a head carries: the running maximum, the accumulator over the tiles before the last one scored, the
    scores of the next tile, and the weights of the last one, not yet in the accumulator. -/
structure HS (F : FTy → Type) [FloatOps F] where
  m : FVec F S1x512 .f32
  a : FVec F S80x512 .f32
  s : Vec F S1x1x512x512 .f32
  p : Vec F S1x1x512x512 .bf16

/-- Head `h`'s keys of tile `n`. -/
def kblk (x : Vec F S2048x1024 .bf16) (h n : ℕ) : Vec F S512x128 .bf16 := fun j =>
  x fun a => ⟨(![512 * n, 128 * h] a + (j a).val) % S2048x1024.size a, Nat.mod_lt _ (by fin_cases a <;> decide)⟩

/-- Head `h`'s values of tile `n`, transposed, under them the row of ones. -/
def vblk (x : Vec F S1x4x640x512 .bf16) (h n : ℕ) : Vec F S1x1x80x512 .bf16 := fun j =>
  x fun a => ⟨(![0, n, 80 * h, 0] a + (j a).val) % S1x4x640x512.size a, Nat.mod_lt _ (by fin_cases a <;> decide)⟩

/-- Head `h`'s queries. -/
def qblk (x : Vec F S1x1024x512 .bf16) (h : ℕ) : Vec F S1x128x512 .bf16 := fun j =>
  x fun a => ⟨(![0, 128 * h, 0] a + (j a).val) % S1x1024x512.size a, Nat.mod_lt _ (by fin_cases a <;> decide)⟩

def qhead (x : Vec F S1x1024x512 .bf16) (h : ℕ) : FVec F S128x512 .bf16 :=
  shapeCast S128x512 (qblk x h) shapeCasts_S1x128x512_S128x512

/-- The scores of a tile. -/
def score (q : FVec F S128x512 .bf16) (kb : Vec F S512x128 .bf16) : Vec F S1x1x512x512 .f32 := k0_pay3 q kb

/-- The values of a tile against its weights. -/
def vdot (p : FVec F S512x512 .bf16) (vt : Vec F S1x1x80x512 .bf16) : FVec F S80x512 .f32 := k0_pay23 p vt

def park (p : FVec F S512x512 .bf16) : Vec F S1x1x512x512 .bf16 := shapeCast S1x1x512x512 p shapeCasts_S512x512_S1x1x512x512
def unpark (p : Vec F S1x1x512x512 .bf16) : FVec F S512x512 .bf16 := shapeCast S512x512 p shapeCasts_S1x1x512x512_S512x512

/-- One step: the weights of the tile scored against the new maximum, the tile before it into the accumulator. -/
def HS.step (q : FVec F S128x512 .bf16) (kb : Vec F S512x128 .bf16) (vt : Vec F S1x1x80x512 .bf16) (st : HS F) : HS F :=
  ⟨k0_pay33 st.m st.s, k0_pay35 st.m st.a (vdot (unpark st.p) vt) st.s, score q kb, park (k0_pay34 st.m st.s)⟩

/-- The value tile that belongs to the weights held before tile `n`. -/
def vi (i n : ℕ) : ℕ := if n = 0 then i else n - 1

/-- `n` steps, head by head, from any start. -/
def steps (q : Fin 8 → FVec F S128x512 .bf16) (x4 : Vec F S2048x1024 .bf16) (x5 : Vec F S1x4x640x512 .bf16) (i : ℕ)
    (st : Fin 8 → HS F) : ℕ → Fin 8 → HS F
  | 0 => st
  | n + 1 => fun h => (steps q x4 x5 i st n h).step (q h) (kblk x4 h.val (n + 1)) (vblk x5 h.val (vi i n))

/-- A load of keys at the offsets of tile `n`, head `h`. -/
theorem ld_kblk (x : Vec F S2048x1024 .bf16) (h n : ℕ) {off : Fin 2 → ℕ} (inb : ∀ a, off a + S512x128.size a ≤ S2048x1024.size a)
    (e : off = ![512 * n, 128 * h]) : View.ld (Val := Elt F) (S := S2048x1024) x (Rect.unit off S512x128.size inb) = kblk x h n := by
  subst e
  funext j
  refine congrArg x (funext fun a => Fin.ext ?_)
  have hj : (j a).val < S512x128.size a := (j a).isLt
  have := inb a
  show _ = _ % _
  rw [Nat.mod_eq_of_lt (by omega)]
  exact congrArg (_ + ·) (Nat.one_mul _)

theorem ld_vblk (x : Vec F S1x4x640x512 .bf16) (h n : ℕ) {off : Fin 4 → ℕ} (inb : ∀ a, off a + S1x1x80x512.size a ≤ S1x4x640x512.size a)
    (e : off = ![0, n, 80 * h, 0]) : View.ld (Val := Elt F) (S := S1x4x640x512) x (Rect.unit off S1x1x80x512.size inb) = vblk x h n := by
  subst e
  funext j
  refine congrArg x (funext fun a => Fin.ext ?_)
  have hj : (j a).val < S1x1x80x512.size a := (j a).isLt
  have := inb a
  show _ = _ % _
  rw [Nat.mod_eq_of_lt (by omega)]
  exact congrArg (_ + ·) (Nat.one_mul _)

theorem ld_qblk (x : Vec F S1x1024x512 .bf16) (h : ℕ) {off : Fin 3 → ℕ} (inb : ∀ a, off a + S1x128x512.size a ≤ S1x1024x512.size a)
    (e : off = ![0, 128 * h, 0]) : View.ld (Val := Elt F) (S := S1x1024x512) x (Rect.unit off S1x128x512.size inb) = qblk x h := by
  subst e
  funext j
  refine congrArg x (funext fun a => Fin.ext ?_)
  have hj : (j a).val < S1x128x512.size a := (j a).isLt
  have := inb a
  show _ = _ % _
  rw [Nat.mod_eq_of_lt (by omega)]
  exact congrArg (_ + ·) (Nat.one_mul _)

/-- A load of the newest piece's own rectangle. -/
theorem readAt_hit {sig : RefSig} {κ : Kind} {sp : Space} {s : Shape} {e : EltTy} {Val : EltTy → Type} (v : View sig κ sp s e) (f : v.ty.Contents Val)
    (r : Rect s) (w : r.shape.Idx → Val e) (L : List (View.Piece Val s e)) :
    v.readAt Val r.toLoadRect (v.writes Val f (⟨r, w⟩ :: L)) = w :=
  funext fun x => View.read_writes_cons_emb v f r w L x

/-- A load beside the newest piece. -/
theorem readAt_skip {sig : RefSig} {κ : Kind} {sp : Space} {s : Shape} {e : EltTy} {Val : EltTy → Type} (v : View sig κ sp s e) (f : v.ty.Contents Val)
    (r : Rect s) (w : r.shape.Idx → Val e) (L : List (View.Piece Val s e)) (B : LoadRect s) (h : LoadRect.disj r B = true) :
    v.readAt Val B (v.writes Val f (⟨r, w⟩ :: L)) = v.readAt Val B (v.writes Val f L) :=
  funext fun j => View.read_writes_cons_miss v f ⟨r, w⟩ L (B.idx j) (LoadRect.idx_not_mem_of_disj h j)

end Cert.KernelIdeal.Hand

end
-- ==== Proof.Trip.lean ====
/- The loop over pairs of key tiles: one trip runs two steps of the model, head by head, and the loop by that
   as its invariant. -/
module

public import proofs.«01_k».proof.Proof.Model

@[expose] public section

set_option maxRecDepth 16384
set_option maxHeartbeats 8000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- What the loop carries: eight maxima and eight accumulators. -/
abbrev Carry (F : FTy → Type) [FloatOps F] : Type :=
  FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S80x512 .f32

/-- The slot of the score scratch (of the weight scratch) that head `h` uses at stage `b`. -/
def slot7 (arg7 : Memref sig .tc .vmem S2x8x512x512 .f32) (f : BufTy.Contents (Elt F) arg7.view.ty) (off : Fin 4 → ℕ)
    (inb : ∀ a, off a + S1x1x512x512.size a ≤ S2x8x512x512.size a) : Vec F S1x1x512x512 .f32 :=
  View.readAt (Elt F) arg7.view (Rect.unit (s := S2x8x512x512) off S1x1x512x512.size inb).toLoadRect f
def slot8 (arg8 : Memref sig .tc .vmem S2x8x512x512 .bf16) (f : BufTy.Contents (Elt F) arg8.view.ty) (off : Fin 4 → ℕ)
    (inb : ∀ a, off a + S1x1x512x512.size a ≤ S2x8x512x512.size a) : Vec F S1x1x512x512 .bf16 :=
  View.readAt (Elt F) arg8.view (Rect.unit (s := S2x8x512x512) off S1x1x512x512.size inb).toLoadRect f

/-- The eight heads' states as the carry and the two scratches hold them between trips. -/
def snap (arg7 : Memref sig .tc .vmem S2x8x512x512 .f32) (arg8 : Memref sig .tc .vmem S2x8x512x512 .bf16)
    (f7 : BufTy.Contents (Elt F) arg7.view.ty) (f8 : BufTy.Contents (Elt F) arg8.view.ty) : Carry F → Fin 8 → HS F :=
  fun (m0, a0, m1, a1, m2, a2, m3, a3, m4, a4, m5, a5, m6, a6, m7, a7) => ![⟨m0, a0, slot7 arg7 f7 ![0, 0, 0, 0] inb_S2x8x512x512_S1x1x512x512_0_0_0_0, slot8 arg8 f8 ![1, 0, 0, 0] inb_S2x8x512x512_S1x1x512x512_1_0_0_0⟩, ⟨m1, a1, slot7 arg7 f7 ![0, 1, 0, 0] inb_S2x8x512x512_S1x1x512x512_0_1_0_0, slot8 arg8 f8 ![1, 1, 0, 0] inb_S2x8x512x512_S1x1x512x512_1_1_0_0⟩, ⟨m2, a2, slot7 arg7 f7 ![0, 2, 0, 0] inb_S2x8x512x512_S1x1x512x512_0_2_0_0, slot8 arg8 f8 ![1, 2, 0, 0] inb_S2x8x512x512_S1x1x512x512_1_2_0_0⟩, ⟨m3, a3, slot7 arg7 f7 ![0, 3, 0, 0] inb_S2x8x512x512_S1x1x512x512_0_3_0_0, slot8 arg8 f8 ![1, 3, 0, 0] inb_S2x8x512x512_S1x1x512x512_1_3_0_0⟩, ⟨m4, a4, slot7 arg7 f7 ![0, 4, 0, 0] inb_S2x8x512x512_S1x1x512x512_0_4_0_0, slot8 arg8 f8 ![1, 4, 0, 0] inb_S2x8x512x512_S1x1x512x512_1_4_0_0⟩, ⟨m5, a5, slot7 arg7 f7 ![0, 5, 0, 0] inb_S2x8x512x512_S1x1x512x512_0_5_0_0, slot8 arg8 f8 ![1, 5, 0, 0] inb_S2x8x512x512_S1x1x512x512_1_5_0_0⟩, ⟨m6, a6, slot7 arg7 f7 ![0, 6, 0, 0] inb_S2x8x512x512_S1x1x512x512_0_6_0_0, slot8 arg8 f8 ![1, 6, 0, 0] inb_S2x8x512x512_S1x1x512x512_1_6_0_0⟩, ⟨m7, a7, slot7 arg7 f7 ![0, 7, 0, 0] inb_S2x8x512x512_S1x1x512x512_0_7_0_0, slot8 arg8 f8 ![1, 7, 0, 0] inb_S2x8x512x512_S1x1x512x512_1_7_0_0⟩]

/-- Two steps, as a trip of the loop takes them. -/
theorem steps_two (q : Fin 8 → FVec F S128x512 .bf16) (x4 : Vec F S2048x1024 .bf16) (x5 : Vec F S1x4x640x512 .bf16) (i : ℕ)
    (st : Fin 8 → HS F) (n : ℕ) : steps q x4 x5 i st (2 * (n + 1)) = fun h =>
      ((steps q x4 x5 i st (2 * n) h).step (q h) (kblk x4 h.val (2 * n + 1)) (vblk x5 h.val (vi i (2 * n)))).step (q h)
        (kblk x4 h.val (2 * n + 2)) (vblk x5 h.val (2 * n)) := rfl

/-- There is at most one trip. -/
theorem trips1_le (i : grid0.Coords) : (k0_t1_loop i).trips = (i 2).val / 2 := by
  have h4 : (i 2).val < 4 := (i 2).isLt
  unfold k0_t1_loop Scf.Loop.trips
  dsimp only
  generalize (i 2).val = n at *
  have hn : n = 0 ∨ n = 1 ∨ n = 2 ∨ n = 3 := by omega
  rcases hn with rfl | rfl | rfl | rfl <;> decide

theorem trip1_zero (i : grid0.Coords) (k : Fin (k0_t1_loop i).trips) : k.val = 0 := by
  have h : k.val < (i 2).val / 2 := lt_of_lt_of_eq k.isLt (trips1_le i)
  have h4 : (i 2).val < 4 := (i 2).isLt
  omega

theorem off9_one (i : grid0.Coords) (k : Fin (k0_t1_loop i).trips) : k0_off9 i k 1#32 = ![512 * (2 * k.val + 1), 128 * 0] := by
  unfold k0_off9; rw [trip1_zero i k]; rfl
theorem off9_two (i : grid0.Coords) (k : Fin (k0_t1_loop i).trips) : k0_off9 i k 2#32 = ![512 * (2 * k.val + 2), 128 * 0] := by
  unfold k0_off9; rw [trip1_zero i k]; rfl
theorem off17_val (i : grid0.Coords) (k : Fin (k0_t1_loop i).trips) : k0_off17 i k = ![0, vi (i 2).val (2 * k.val), 80 * 0, 0] := by
  unfold k0_off17; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off25_val (i : grid0.Coords) (k : Fin (k0_t1_loop i).trips) : k0_off25 i k = ![0, 2 * k.val, 80 * 0, 0] := by
  unfold k0_off25; rw [trip1_zero i k]; rfl
theorem off10_one (i : grid0.Coords) (k : Fin (k0_t1_loop i).trips) : k0_off10 i k 1#32 = ![512 * (2 * k.val + 1), 128 * 1] := by
  unfold k0_off10; rw [trip1_zero i k]; rfl
theorem off10_two (i : grid0.Coords) (k : Fin (k0_t1_loop i).trips) : k0_off10 i k 2#32 = ![512 * (2 * k.val + 2), 128 * 1] := by
  unfold k0_off10; rw [trip1_zero i k]; rfl
theorem off18_val (i : grid0.Coords) (k : Fin (k0_t1_loop i).trips) : k0_off18 i k = ![0, vi (i 2).val (2 * k.val), 80 * 1, 0] := by
  unfold k0_off18; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off26_val (i : grid0.Coords) (k : Fin (k0_t1_loop i).trips) : k0_off26 i k = ![0, 2 * k.val, 80 * 1, 0] := by
  unfold k0_off26; rw [trip1_zero i k]; rfl
theorem off11_one (i : grid0.Coords) (k : Fin (k0_t1_loop i).trips) : k0_off11 i k 1#32 = ![512 * (2 * k.val + 1), 128 * 2] := by
  unfold k0_off11; rw [trip1_zero i k]; rfl
theorem off11_two (i : grid0.Coords) (k : Fin (k0_t1_loop i).trips) : k0_off11 i k 2#32 = ![512 * (2 * k.val + 2), 128 * 2] := by
  unfold k0_off11; rw [trip1_zero i k]; rfl
theorem off19_val (i : grid0.Coords) (k : Fin (k0_t1_loop i).trips) : k0_off19 i k = ![0, vi (i 2).val (2 * k.val), 80 * 2, 0] := by
  unfold k0_off19; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off27_val (i : grid0.Coords) (k : Fin (k0_t1_loop i).trips) : k0_off27 i k = ![0, 2 * k.val, 80 * 2, 0] := by
  unfold k0_off27; rw [trip1_zero i k]; rfl
theorem off12_one (i : grid0.Coords) (k : Fin (k0_t1_loop i).trips) : k0_off12 i k 1#32 = ![512 * (2 * k.val + 1), 128 * 3] := by
  unfold k0_off12; rw [trip1_zero i k]; rfl
theorem off12_two (i : grid0.Coords) (k : Fin (k0_t1_loop i).trips) : k0_off12 i k 2#32 = ![512 * (2 * k.val + 2), 128 * 3] := by
  unfold k0_off12; rw [trip1_zero i k]; rfl
theorem off20_val (i : grid0.Coords) (k : Fin (k0_t1_loop i).trips) : k0_off20 i k = ![0, vi (i 2).val (2 * k.val), 80 * 3, 0] := by
  unfold k0_off20; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off28_val (i : grid0.Coords) (k : Fin (k0_t1_loop i).trips) : k0_off28 i k = ![0, 2 * k.val, 80 * 3, 0] := by
  unfold k0_off28; rw [trip1_zero i k]; rfl
theorem off13_one (i : grid0.Coords) (k : Fin (k0_t1_loop i).trips) : k0_off13 i k 1#32 = ![512 * (2 * k.val + 1), 128 * 4] := by
  unfold k0_off13; rw [trip1_zero i k]; rfl
theorem off13_two (i : grid0.Coords) (k : Fin (k0_t1_loop i).trips) : k0_off13 i k 2#32 = ![512 * (2 * k.val + 2), 128 * 4] := by
  unfold k0_off13; rw [trip1_zero i k]; rfl
theorem off21_val (i : grid0.Coords) (k : Fin (k0_t1_loop i).trips) : k0_off21 i k = ![0, vi (i 2).val (2 * k.val), 80 * 4, 0] := by
  unfold k0_off21; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off29_val (i : grid0.Coords) (k : Fin (k0_t1_loop i).trips) : k0_off29 i k = ![0, 2 * k.val, 80 * 4, 0] := by
  unfold k0_off29; rw [trip1_zero i k]; rfl
theorem off14_one (i : grid0.Coords) (k : Fin (k0_t1_loop i).trips) : k0_off14 i k 1#32 = ![512 * (2 * k.val + 1), 128 * 5] := by
  unfold k0_off14; rw [trip1_zero i k]; rfl
theorem off14_two (i : grid0.Coords) (k : Fin (k0_t1_loop i).trips) : k0_off14 i k 2#32 = ![512 * (2 * k.val + 2), 128 * 5] := by
  unfold k0_off14; rw [trip1_zero i k]; rfl
theorem off22_val (i : grid0.Coords) (k : Fin (k0_t1_loop i).trips) : k0_off22 i k = ![0, vi (i 2).val (2 * k.val), 80 * 5, 0] := by
  unfold k0_off22; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off30_val (i : grid0.Coords) (k : Fin (k0_t1_loop i).trips) : k0_off30 i k = ![0, 2 * k.val, 80 * 5, 0] := by
  unfold k0_off30; rw [trip1_zero i k]; rfl
theorem off15_one (i : grid0.Coords) (k : Fin (k0_t1_loop i).trips) : k0_off15 i k 1#32 = ![512 * (2 * k.val + 1), 128 * 6] := by
  unfold k0_off15; rw [trip1_zero i k]; rfl
theorem off15_two (i : grid0.Coords) (k : Fin (k0_t1_loop i).trips) : k0_off15 i k 2#32 = ![512 * (2 * k.val + 2), 128 * 6] := by
  unfold k0_off15; rw [trip1_zero i k]; rfl
theorem off23_val (i : grid0.Coords) (k : Fin (k0_t1_loop i).trips) : k0_off23 i k = ![0, vi (i 2).val (2 * k.val), 80 * 6, 0] := by
  unfold k0_off23; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off31_val (i : grid0.Coords) (k : Fin (k0_t1_loop i).trips) : k0_off31 i k = ![0, 2 * k.val, 80 * 6, 0] := by
  unfold k0_off31; rw [trip1_zero i k]; rfl
theorem off16_one (i : grid0.Coords) (k : Fin (k0_t1_loop i).trips) : k0_off16 i k 1#32 = ![512 * (2 * k.val + 1), 128 * 7] := by
  unfold k0_off16; rw [trip1_zero i k]; rfl
theorem off16_two (i : grid0.Coords) (k : Fin (k0_t1_loop i).trips) : k0_off16 i k 2#32 = ![512 * (2 * k.val + 2), 128 * 7] := by
  unfold k0_off16; rw [trip1_zero i k]; rfl
theorem off24_val (i : grid0.Coords) (k : Fin (k0_t1_loop i).trips) : k0_off24 i k = ![0, vi (i 2).val (2 * k.val), 80 * 7, 0] := by
  unfold k0_off24; rw [trip1_zero i k]
  have h4 : (i 2).val < 4 := (i 2).isLt
  generalize (i 2).val = n at *
  have hn : n = 0 ∨ n = 1 ∨ n = 2 ∨ n = 3 := by omega
  rcases hn with rfl | rfl | rfl | rfl <;> rfl
theorem off32_val (i : grid0.Coords) (k : Fin (k0_t1_loop i).trips) : k0_off32 i k = ![0, 2 * k.val, 80 * 7, 0] := by
  unfold k0_off32; rw [trip1_zero i k]; rfl

/-- One trip from any scratches. -/
theorem trip1  (𝒱 : Variants) (c : Dev nD) (bd : Option 𝒱.V) (i : grid0.Coords) (arg3 : Memref sig .tc .vmem S1x1024x512 .bf16) (harg3 : arg3.IsWhole) (arg4 : Memref sig .tc .vmem S2048x1024 .bf16) (harg4 : arg4.IsWhole) (arg5 : Memref sig .tc .vmem S1x4x640x512 .bf16) (harg5 : arg5.IsWhole) (arg6 : Memref sig .tc .vmem S512x512 .bf16) (harg6 : arg6.IsWhole) (arg7 : Memref sig .tc .vmem S2x8x512x512 .f32) (harg7 : arg7.IsWhole) (arg8 : Memref sig .tc .vmem S2x8x512x512 .bf16) (harg8 : arg8.IsWhole) (arg2 : BitVec 32) (v1 : FVec F S128x512 .bf16) (v3 : FVec F S128x512 .bf16) (v5 : FVec F S128x512 .bf16) (v7 : FVec F S128x512 .bf16) (v9 : FVec F S128x512 .bf16) (v11 : FVec F S128x512 .bf16) (v13 : FVec F S128x512 .bf16) (v15 : FVec F S128x512 .bf16) (v149 : FVec F S1x512 .f32) (v158 : FVec F S80x512 .f32) (v165 : FVec F S1x512 .f32) (v174 : FVec F S80x512 .f32) (v181 : FVec F S1x512 .f32) (v190 : FVec F S80x512 .f32) (v197 : FVec F S1x512 .f32) (v206 : FVec F S80x512 .f32) (v213 : FVec F S1x512 .f32) (v222 : FVec F S80x512 .f32) (v229 : FVec F S1x512 .f32) (v238 : FVec F S80x512 .f32) (v245 : FVec F S1x512 .f32) (v254 : FVec F S80x512 .f32) (v261 : FVec F S1x512 .f32) (v270 : FVec F S80x512 .f32) (c2_i32 : BitVec 32) (v295 : BitVec 32) (v297 : BitVec 32) (v298 : BitVec 1) (k : Fin (k0_t1_loop i).trips) (E : Set ℕ)
    (X4 : BufTy.Contents (Elt F) arg4.view.ty) (X5 : BufTy.Contents (Elt F) arg5.view.ty)
    (f7 : BufTy.Contents (Elt F) arg7.view.ty) (f8 : BufTy.Contents (Elt F) arg8.view.ty) (m0 : FVec F S1x512 .f32) (a0 : FVec F S80x512 .f32) (m1 : FVec F S1x512 .f32) (a1 : FVec F S80x512 .f32) (m2 : FVec F S1x512 .f32) (a2 : FVec F S80x512 .f32) (m3 : FVec F S1x512 .f32) (a3 : FVec F S80x512 .f32) (m4 : FVec F S1x512 .f32) (a4 : FVec F S80x512 .f32) (m5 : FVec F S1x512 .f32) (a5 : FVec F S80x512 .f32) (m6 : FVec F S1x512 .f32) (a6 : FVec F S80x512 .f32) (m7 : FVec F S1x512 .f32) (a7 : FVec F S80x512 .f32) :
    (iprop((arg4.view.loc (c : Thread nD τ) ↦[arg4.view.set]{fullShare} X4) ∗ (arg5.view.loc (c : Thread nD τ) ↦[arg5.view.set]{fullShare} X5)
      ∗ (arg7.view.loc (c : Thread nD τ) ↦[arg7.view.set]{fullShare} f7) ∗ (arg8.view.loc (c : Thread nD τ) ↦[arg8.view.set]{fullShare} f8)) : sProp 𝕄G)
    ⊢ wp frame (wpE (defs₀ (F := F)) 𝒱 (c : Thread nD τ) bd) E (k0_t1_body (F := F) i arg3 harg3 arg4 harg4 arg5 harg5 arg6 harg6 arg7 harg7 arg8 harg8 arg2 v1 v3 v5 v7 v9 v11 v13 v15 v149 v158 v165 v174 v181 v190 v197 v206 v213 v222 v229 v238 v245 v254 v261 v270 c2_i32 v295 v297 v298 k (m0, a0, m1, a1, m2, a2, m3, a3, m4, a4, m5, a5, m6, a6, m7, a7))
        (fun yld => iprop((arg4.view.loc (c : Thread nD τ) ↦[arg4.view.set]{fullShare} X4) ∗ (arg5.view.loc (c : Thread nD τ) ↦[arg5.view.set]{fullShare} X5)
          ∗ ∃ g7 g8, (arg7.view.loc (c : Thread nD τ) ↦[arg7.view.set]{fullShare} g7) ∗ (arg8.view.loc (c : Thread nD τ) ↦[arg8.view.set]{fullShare} g8)
          ∗ ⌜snap arg7 arg8 g7 g8 yld = fun h => ((snap arg7 arg8 f7 f8 (m0, a0, m1, a1, m2, a2, m3, a3, m4, a4, m5, a5, m6, a6, m7, a7) h).step (![v1, v3, v5, v7, v9, v11, v13, v15] h)
              (kblk (arg4.view.read (Elt F) X4) h.val (2 * k.val + 1)) (vblk (arg5.view.read (Elt F) X5) h.val (vi (i 2).val (2 * k.val)))).step (![v1, v3, v5, v7, v9, v11, v13, v15] h)
              (kblk (arg4.view.read (Elt F) X4) h.val (2 * k.val + 2)) (vblk (arg5.view.read (Elt F) X5) h.val (2 * k.val))⌝)) := by
  unfold k0_t1_body
  iintro ⟨H4, H5, H7, H8⟩
  sl_exec
  sl_step
  isplitl [H4]; · iexact H4
  isplitl [H5]; · iexact H5
  iexists _; iexists _
  isplitl [H7]; · iexact H7
  isplitl [H8]; · iexact H8
  ipureintro
  sl_unfold_run_names
  funext h
  simp (decide := true) only [snap, slot7, slot8, readAt_hit, ↓readAt_skip, ↓View.readCov_skip, View.readCov_cons_toLoadRect]
  simp only [View.readAt_eq_ld, ld_kblk _ 0 _ _ (off9_one i k), ld_kblk _ 0 _ _ (off9_two i k), ld_vblk _ 0 _ _ (off17_val i k), ld_vblk _ 0 _ _ (off25_val i k), ld_kblk _ 1 _ _ (off10_one i k), ld_kblk _ 1 _ _ (off10_two i k), ld_vblk _ 1 _ _ (off18_val i k), ld_vblk _ 1 _ _ (off26_val i k), ld_kblk _ 2 _ _ (off11_one i k), ld_kblk _ 2 _ _ (off11_two i k), ld_vblk _ 2 _ _ (off19_val i k), ld_vblk _ 2 _ _ (off27_val i k), ld_kblk _ 3 _ _ (off12_one i k), ld_kblk _ 3 _ _ (off12_two i k), ld_vblk _ 3 _ _ (off20_val i k), ld_vblk _ 3 _ _ (off28_val i k), ld_kblk _ 4 _ _ (off13_one i k), ld_kblk _ 4 _ _ (off13_two i k), ld_vblk _ 4 _ _ (off21_val i k), ld_vblk _ 4 _ _ (off29_val i k), ld_kblk _ 5 _ _ (off14_one i k), ld_kblk _ 5 _ _ (off14_two i k), ld_vblk _ 5 _ _ (off22_val i k), ld_vblk _ 5 _ _ (off30_val i k), ld_kblk _ 6 _ _ (off15_one i k), ld_kblk _ 6 _ _ (off15_two i k), ld_vblk _ 6 _ _ (off23_val i k), ld_vblk _ 6 _ _ (off31_val i k), ld_kblk _ 7 _ _ (off16_one i k), ld_kblk _ 7 _ _ (off16_two i k), ld_vblk _ 7 _ _ (off24_val i k), ld_vblk _ 7 _ _ (off32_val i k)]
  fin_cases h <;> rfl

/-- The loop by its invariant: before trip `k` the heads' states are `2 * k` steps from where the loop found them. -/
@[sl_loop] def loop1  (𝒱 : Variants) (c : Dev nD) (bd : Option 𝒱.V) (E : Set ℕ) (i : grid0.Coords) (arg3 : Memref sig .tc .vmem S1x1024x512 .bf16) (harg3 : arg3.IsWhole) (arg4 : Memref sig .tc .vmem S2048x1024 .bf16) (harg4 : arg4.IsWhole) (arg5 : Memref sig .tc .vmem S1x4x640x512 .bf16) (harg5 : arg5.IsWhole) (arg6 : Memref sig .tc .vmem S512x512 .bf16) (harg6 : arg6.IsWhole) (arg7 : Memref sig .tc .vmem S2x8x512x512 .f32) (harg7 : arg7.IsWhole) (arg8 : Memref sig .tc .vmem S2x8x512x512 .bf16) (harg8 : arg8.IsWhole) (arg2 : BitVec 32) (v1 : FVec F S128x512 .bf16) (v3 : FVec F S128x512 .bf16) (v5 : FVec F S128x512 .bf16) (v7 : FVec F S128x512 .bf16) (v9 : FVec F S128x512 .bf16) (v11 : FVec F S128x512 .bf16) (v13 : FVec F S128x512 .bf16) (v15 : FVec F S128x512 .bf16) (v149 : FVec F S1x512 .f32) (v158 : FVec F S80x512 .f32) (v165 : FVec F S1x512 .f32) (v174 : FVec F S80x512 .f32) (v181 : FVec F S1x512 .f32) (v190 : FVec F S80x512 .f32) (v197 : FVec F S1x512 .f32) (v206 : FVec F S80x512 .f32) (v213 : FVec F S1x512 .f32) (v222 : FVec F S80x512 .f32) (v229 : FVec F S1x512 .f32) (v238 : FVec F S80x512 .f32) (v245 : FVec F S1x512 .f32) (v254 : FVec F S80x512 .f32) (v261 : FVec F S1x512 .f32) (v270 : FVec F S80x512 .f32) (c2_i32 : BitVec 32) (v295 : BitVec 32) (v297 : BitVec 32) (v298 : BitVec 1)
    (X4 : BufTy.Contents (Elt F) arg4.view.ty) (X5 : BufTy.Contents (Elt F) arg5.view.ty)
    (G7 : BufTy.Contents (Elt F) arg7.view.ty) (G8 : BufTy.Contents (Elt F) arg8.view.ty) (init : Carry F) :
    Idealize.ShloMosaic.LoopInv (M := 𝕄G) Idealize.ShloMosaic.frame (wpE (defs₀ (F := F)) 𝒱 (c : Thread nD τ) bd) E
      (k0_t1_loop i).lb (k0_t1_loop i).ub (k0_t1_loop i).st (k0_t1_ok i) init (k0_t1_body (F := F) i arg3 harg3 arg4 harg4 arg5 harg5 arg6 harg6 arg7 harg7 arg8 harg8 arg2 v1 v3 v5 v7 v9 v11 v13 v15 v149 v158 v165 v174 v181 v190 v197 v206 v213 v222 v229 v238 v245 v254 v261 v270 c2_i32 v295 v297 v298) where
  inv k acc := iprop((arg4.view.loc (c : Thread nD τ) ↦[arg4.view.set]{fullShare} X4) ∗ (arg5.view.loc (c : Thread nD τ) ↦[arg5.view.set]{fullShare} X5)
    ∗ ∃ f7, (arg7.view.loc (c : Thread nD τ) ↦[arg7.view.set]{fullShare} f7) ∗ ∃ f8, (arg8.view.loc (c : Thread nD τ) ↦[arg8.view.set]{fullShare} f8)
    ∗ ⌜snap arg7 arg8 f7 f8 acc = steps ![v1, v3, v5, v7, v9, v11, v13, v15] (arg4.view.read (Elt F) X4) (arg5.view.read (Elt F) X5) (i 2).val (snap arg7 arg8 G7 G8 init) (2 * k)⌝)
  step k acc := by
    obtain ⟨m0, a0, m1, a1, m2, a2, m3, a3, m4, a4, m5, a5, m6, a6, m7, a7⟩ := acc
    iintro ⟨H4, H5, ⟨%f7, H7, %f8, H8, %hs⟩⟩
    iapply (wp_wand_r Idealize.ShloMosaic.frame (wpE (defs₀ (F := F)) 𝒱 (c : Thread nD τ) bd) E)
    isplitl [H4 H5 H7 H8]
    · iapply (trip1 (F := F) 𝒱 c bd i arg3 harg3 arg4 harg4 arg5 harg5 arg6 harg6 arg7 harg7 arg8 harg8 arg2 v1 v3 v5 v7 v9 v11 v13 v15 v149 v158 v165 v174 v181 v190 v197 v206 v213 v222 v229 v238 v245 v254 v261 v270 c2_i32 v295 v297 v298 k E X4 X5 f7 f8 m0 a0 m1 a1 m2 a2 m3 a3 m4 a4 m5 a5 m6 a6 m7 a7)
      isplitl [H4]; · iexact H4
      isplitl [H5]; · iexact H5
      isplitl [H7]; · iexact H7
      iexact H8
    · iintro %yld ⟨H4, H5, ⟨%g7, %g8, H7, H8, %hy⟩⟩
      isplitl [H4]; · iexact H4
      isplitl [H5]; · iexact H5
      iexists g7; isplitl [H7]; · iexact H7
      iexists g8; isplitl [H8]; · iexact H8
      ipureintro
      rw [hy, steps_two, hs]

end Cert.KernelIdeal.Hand

end
-- ==== Proof.Body.lean ====
/- One grid point: from its blocks the body leaves in the result's block the rounded attention of its eight heads. -/
module

public import proofs.«01_k».proof.Proof.Trip

@[expose] public section

set_option maxRecDepth 16384
set_option maxHeartbeats 8000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- Which scores of the diagonal tile count: those whose key is not after the query. -/
abbrev mask : IVec S512x512 1 := k0_pay384

/-- A head's state after its first tile, the diagonal one, with the scores of tile 0 beside it. -/
def start (q : FVec F S128x512 .bf16) (kd k0 : Vec F S512x128 .bf16) : HS F :=
  ⟨k0_pay418 mask k0_pay404 (score q kd), k0_pay420 mask k0_pay403 k0_pay404 (score q kd), score q k0,
    park (k0_pay419 mask k0_pay404 (score q kd))⟩

/-- The eight heads after the diagonal tile. -/
def starts (x3 : Vec F S1x1024x512 .bf16) (x4 : Vec F S2048x1024 .bf16) (i : ℕ) : Fin 8 → HS F := fun h =>
  start (qhead x3 h.val) (kblk x4 h.val i) (kblk x4 h.val 0)

/-- A head's quotient, at the end. -/
def quot (a pv : FVec F S80x512 .f32) : FVec F S64x512 .f32 := k0_pay295 a pv

/-- The heads' quotients one under the other, transposed and rounded. -/
def asm (o : Fin 8 → FVec F S64x512 .f32) : Vec F S512x512 .bf16 :=
  truncf .bf16 (transpose S512x512 [1, 0] (concatenate S512x512 0 [⟨S64x512, o 0⟩, ⟨S64x512, o 1⟩, ⟨S64x512, o 2⟩, ⟨S64x512, o 3⟩,
    ⟨S64x512, o 4⟩, ⟨S64x512, o 5⟩, ⟨S64x512, o 6⟩, ⟨S64x512, o 7⟩] concatenates_S64x512_S64x512_S64x512_S64x512_S64x512_S64x512_S64x512_S64x512_S512x512_d0)
    transposes_S512x512_p1_0_S512x512) bitsLt_bf16_f32

/-- The end of a head at an even query tile: the parked weights into the accumulator. -/
def endEven (vt : Vec F S1x1x80x512 .bf16) (st : HS F) : FVec F S64x512 .f32 := quot st.a (vdot (unpark st.p) vt)

/-- The end of a head at an odd query tile: one more tile, then its weights into the accumulator. -/
def endOdd (vt vl : Vec F S1x1x80x512 .bf16) (st : HS F) : FVec F S64x512 .f32 :=
  quot (k0_pay35 st.m st.a (vdot (unpark st.p) vt) st.s) (vdot (k0_pay34 st.m st.s) vl)

/-- What a point of query tile `i` leaves, from its blocks. -/
def OUT (x3 : Vec F S1x1024x512 .bf16) (x4 : Vec F S2048x1024 .bf16) (x5 : Vec F S1x4x640x512 .bf16) (i : ℕ) : Vec F S512x512 .bf16 :=
  if i % 2 = 0 then
    asm fun h => endEven (vblk x5 h.val (vi i (2 * (i / 2)))) (steps (fun h => qhead x3 h.val) x4 x5 i (starts x3 x4 i) (2 * (i / 2)) h)
  else
    asm fun h => endOdd (vblk x5 h.val (vi i (2 * (i / 2)))) (vblk x5 h.val (2 * (i / 2)))
      (steps (fun h => qhead x3 h.val) x4 x5 i (starts x3 x4 i) (2 * (i / 2)) h)

/-- The block's end from the heads' states, at an even and at an odd query tile. -/
def asmEven (arg5 : Memref sig .tc .vmem S1x4x640x512 .bf16) (X5 : BufTy.Contents (Elt F) arg5.view.ty) (i : grid0.Coords) (st : Fin 8 → HS F) :=
  asm fun h => endEven (vblk (arg5.view.read (Elt F) X5) h.val (vi (i 2).val (2 * ((i 2).val / 2)))) (st h)
def asmOdd (arg5 : Memref sig .tc .vmem S1x4x640x512 .bf16) (X5 : BufTy.Contents (Elt F) arg5.view.ty) (i : grid0.Coords) (st : Fin 8 → HS F) :=
  asm fun h => endOdd (vblk (arg5.view.read (Elt F) X5) h.val (vi (i 2).val (2 * ((i 2).val / 2))))
    (vblk (arg5.view.read (Elt F) X5) h.val (2 * ((i 2).val / 2))) (st h)

theorem steps_congr (x4 : Vec F S2048x1024 .bf16) (x5 : Vec F S1x4x640x512 .bf16) (i : ℕ) {q q' : Fin 8 → FVec F S128x512 .bf16}
    {st st' : Fin 8 → HS F} {n n' : ℕ} (hq : q = q') (hst : st = st') (hn : n = n') :
    steps q x4 x5 i st n = steps q' x4 x5 i st' n' := by subst hq hst hn; rfl

/-- The block after one store over the whole of it. -/
theorem read_whole (arg6 : Memref sig .tc .vmem S512x512 .bf16) (f : BufTy.Contents (Elt F) arg6.view.ty) (inb : ∀ a, (![0, 0] : Fin 2 → ℕ) a + S512x512.size a ≤ S512x512.size a)
    (w : Vec F S512x512 .bf16) :
    arg6.view.read (Elt F) (arg6.view.writes (Elt F) f [⟨Rect.unit (s := S512x512) ![0, 0] S512x512.size inb, w⟩]) = w := by
  funext x
  have h := View.read_writes_cons_emb arg6.view f (Rect.unit (s := S512x512) ![0, 0] S512x512.size inb) w [] x
  have e : (Rect.unit (s := S512x512) ![0, 0] S512x512.size inb).emb x = x := by
    funext a
    refine Fin.ext ?_
    show (![0, 0] : Fin 2 → ℕ) a + 1 * (x a).val = (x a).val
    fin_cases a <;> simp
  rw [e] at h
  exact h

theorem off1_val (i : grid0.Coords) : k0_off1 i = ![512 * (i 2).val, 128 * 0] := by
  unfold k0_off1
  have h4 : (i 2).val < 4 := (i 2).isLt
  generalize (i 2).val = n at *
  have hn : n = 0 ∨ n = 1 ∨ n = 2 ∨ n = 3 := by omega
  rcases hn with rfl | rfl | rfl | rfl <;> rfl
theorem off57_val (i : grid0.Coords) : k0_off57 i = ![0, vi (i 2).val (2 * ((i 2).val / 2)), 80 * 0, 0] := by
  unfold k0_off57
  have h4 : (i 2).val < 4 := (i 2).isLt
  generalize (i 2).val = n at *
  have hn : n = 0 ∨ n = 1 ∨ n = 2 ∨ n = 3 := by omega
  rcases hn with rfl | rfl | rfl | rfl <;> rfl
theorem off65_val (i : grid0.Coords) : k0_off65 i = ![0, vi (i 2).val (2 * ((i 2).val / 2)), 80 * 0, 0] := by
  unfold k0_off65
  have h4 : (i 2).val < 4 := (i 2).isLt
  generalize (i 2).val = n at *
  have hn : n = 0 ∨ n = 1 ∨ n = 2 ∨ n = 3 := by omega
  rcases hn with rfl | rfl | rfl | rfl <;> rfl
theorem off73_val (i : grid0.Coords) (hodd : (i 2).val % 2 ≠ 0) : k0_off73 i = ![0, 2 * ((i 2).val / 2), 80 * 0, 0] := by
  unfold k0_off73
  have h4 : (i 2).val < 4 := (i 2).isLt
  generalize (i 2).val = n at *
  have hn : n = 1 ∨ n = 3 := by omega
  rcases hn with rfl | rfl <;> rfl
theorem off2_val (i : grid0.Coords) : k0_off2 i = ![512 * (i 2).val, 128 * 1] := by
  unfold k0_off2
  have h4 : (i 2).val < 4 := (i 2).isLt
  generalize (i 2).val = n at *
  have hn : n = 0 ∨ n = 1 ∨ n = 2 ∨ n = 3 := by omega
  rcases hn with rfl | rfl | rfl | rfl <;> rfl
theorem off58_val (i : grid0.Coords) : k0_off58 i = ![0, vi (i 2).val (2 * ((i 2).val / 2)), 80 * 1, 0] := by
  unfold k0_off58
  have h4 : (i 2).val < 4 := (i 2).isLt
  generalize (i 2).val = n at *
  have hn : n = 0 ∨ n = 1 ∨ n = 2 ∨ n = 3 := by omega
  rcases hn with rfl | rfl | rfl | rfl <;> rfl
theorem off66_val (i : grid0.Coords) : k0_off66 i = ![0, vi (i 2).val (2 * ((i 2).val / 2)), 80 * 1, 0] := by
  unfold k0_off66
  have h4 : (i 2).val < 4 := (i 2).isLt
  generalize (i 2).val = n at *
  have hn : n = 0 ∨ n = 1 ∨ n = 2 ∨ n = 3 := by omega
  rcases hn with rfl | rfl | rfl | rfl <;> rfl
theorem off74_val (i : grid0.Coords) (hodd : (i 2).val % 2 ≠ 0) : k0_off74 i = ![0, 2 * ((i 2).val / 2), 80 * 1, 0] := by
  unfold k0_off74
  have h4 : (i 2).val < 4 := (i 2).isLt
  generalize (i 2).val = n at *
  have hn : n = 1 ∨ n = 3 := by omega
  rcases hn with rfl | rfl <;> rfl
theorem off3_val (i : grid0.Coords) : k0_off3 i = ![512 * (i 2).val, 128 * 2] := by
  unfold k0_off3
  have h4 : (i 2).val < 4 := (i 2).isLt
  generalize (i 2).val = n at *
  have hn : n = 0 ∨ n = 1 ∨ n = 2 ∨ n = 3 := by omega
  rcases hn with rfl | rfl | rfl | rfl <;> rfl
theorem off59_val (i : grid0.Coords) : k0_off59 i = ![0, vi (i 2).val (2 * ((i 2).val / 2)), 80 * 2, 0] := by
  unfold k0_off59
  have h4 : (i 2).val < 4 := (i 2).isLt
  generalize (i 2).val = n at *
  have hn : n = 0 ∨ n = 1 ∨ n = 2 ∨ n = 3 := by omega
  rcases hn with rfl | rfl | rfl | rfl <;> rfl
theorem off67_val (i : grid0.Coords) : k0_off67 i = ![0, vi (i 2).val (2 * ((i 2).val / 2)), 80 * 2, 0] := by
  unfold k0_off67
  have h4 : (i 2).val < 4 := (i 2).isLt
  generalize (i 2).val = n at *
  have hn : n = 0 ∨ n = 1 ∨ n = 2 ∨ n = 3 := by omega
  rcases hn with rfl | rfl | rfl | rfl <;> rfl
theorem off75_val (i : grid0.Coords) (hodd : (i 2).val % 2 ≠ 0) : k0_off75 i = ![0, 2 * ((i 2).val / 2), 80 * 2, 0] := by
  unfold k0_off75
  have h4 : (i 2).val < 4 := (i 2).isLt
  generalize (i 2).val = n at *
  have hn : n = 1 ∨ n = 3 := by omega
  rcases hn with rfl | rfl <;> rfl
theorem off4_val (i : grid0.Coords) : k0_off4 i = ![512 * (i 2).val, 128 * 3] := by
  unfold k0_off4
  have h4 : (i 2).val < 4 := (i 2).isLt
  generalize (i 2).val = n at *
  have hn : n = 0 ∨ n = 1 ∨ n = 2 ∨ n = 3 := by omega
  rcases hn with rfl | rfl | rfl | rfl <;> rfl
theorem off60_val (i : grid0.Coords) : k0_off60 i = ![0, vi (i 2).val (2 * ((i 2).val / 2)), 80 * 3, 0] := by
  unfold k0_off60
  have h4 : (i 2).val < 4 := (i 2).isLt
  generalize (i 2).val = n at *
  have hn : n = 0 ∨ n = 1 ∨ n = 2 ∨ n = 3 := by omega
  rcases hn with rfl | rfl | rfl | rfl <;> rfl
theorem off68_val (i : grid0.Coords) : k0_off68 i = ![0, vi (i 2).val (2 * ((i 2).val / 2)), 80 * 3, 0] := by
  unfold k0_off68
  have h4 : (i 2).val < 4 := (i 2).isLt
  generalize (i 2).val = n at *
  have hn : n = 0 ∨ n = 1 ∨ n = 2 ∨ n = 3 := by omega
  rcases hn with rfl | rfl | rfl | rfl <;> rfl
theorem off76_val (i : grid0.Coords) (hodd : (i 2).val % 2 ≠ 0) : k0_off76 i = ![0, 2 * ((i 2).val / 2), 80 * 3, 0] := by
  unfold k0_off76
  have h4 : (i 2).val < 4 := (i 2).isLt
  generalize (i 2).val = n at *
  have hn : n = 1 ∨ n = 3 := by omega
  rcases hn with rfl | rfl <;> rfl
theorem off5_val (i : grid0.Coords) : k0_off5 i = ![512 * (i 2).val, 128 * 4] := by
  unfold k0_off5
  have h4 : (i 2).val < 4 := (i 2).isLt
  generalize (i 2).val = n at *
  have hn : n = 0 ∨ n = 1 ∨ n = 2 ∨ n = 3 := by omega
  rcases hn with rfl | rfl | rfl | rfl <;> rfl
theorem off61_val (i : grid0.Coords) : k0_off61 i = ![0, vi (i 2).val (2 * ((i 2).val / 2)), 80 * 4, 0] := by
  unfold k0_off61
  have h4 : (i 2).val < 4 := (i 2).isLt
  generalize (i 2).val = n at *
  have hn : n = 0 ∨ n = 1 ∨ n = 2 ∨ n = 3 := by omega
  rcases hn with rfl | rfl | rfl | rfl <;> rfl
theorem off69_val (i : grid0.Coords) : k0_off69 i = ![0, vi (i 2).val (2 * ((i 2).val / 2)), 80 * 4, 0] := by
  unfold k0_off69
  have h4 : (i 2).val < 4 := (i 2).isLt
  generalize (i 2).val = n at *
  have hn : n = 0 ∨ n = 1 ∨ n = 2 ∨ n = 3 := by omega
  rcases hn with rfl | rfl | rfl | rfl <;> rfl
theorem off77_val (i : grid0.Coords) (hodd : (i 2).val % 2 ≠ 0) : k0_off77 i = ![0, 2 * ((i 2).val / 2), 80 * 4, 0] := by
  unfold k0_off77
  have h4 : (i 2).val < 4 := (i 2).isLt
  generalize (i 2).val = n at *
  have hn : n = 1 ∨ n = 3 := by omega
  rcases hn with rfl | rfl <;> rfl
theorem off6_val (i : grid0.Coords) : k0_off6 i = ![512 * (i 2).val, 128 * 5] := by
  unfold k0_off6
  have h4 : (i 2).val < 4 := (i 2).isLt
  generalize (i 2).val = n at *
  have hn : n = 0 ∨ n = 1 ∨ n = 2 ∨ n = 3 := by omega
  rcases hn with rfl | rfl | rfl | rfl <;> rfl
theorem off62_val (i : grid0.Coords) : k0_off62 i = ![0, vi (i 2).val (2 * ((i 2).val / 2)), 80 * 5, 0] := by
  unfold k0_off62
  have h4 : (i 2).val < 4 := (i 2).isLt
  generalize (i 2).val = n at *
  have hn : n = 0 ∨ n = 1 ∨ n = 2 ∨ n = 3 := by omega
  rcases hn with rfl | rfl | rfl | rfl <;> rfl
theorem off70_val (i : grid0.Coords) : k0_off70 i = ![0, vi (i 2).val (2 * ((i 2).val / 2)), 80 * 5, 0] := by
  unfold k0_off70
  have h4 : (i 2).val < 4 := (i 2).isLt
  generalize (i 2).val = n at *
  have hn : n = 0 ∨ n = 1 ∨ n = 2 ∨ n = 3 := by omega
  rcases hn with rfl | rfl | rfl | rfl <;> rfl
theorem off78_val (i : grid0.Coords) (hodd : (i 2).val % 2 ≠ 0) : k0_off78 i = ![0, 2 * ((i 2).val / 2), 80 * 5, 0] := by
  unfold k0_off78
  have h4 : (i 2).val < 4 := (i 2).isLt
  generalize (i 2).val = n at *
  have hn : n = 1 ∨ n = 3 := by omega
  rcases hn with rfl | rfl <;> rfl
theorem off7_val (i : grid0.Coords) : k0_off7 i = ![512 * (i 2).val, 128 * 6] := by
  unfold k0_off7
  have h4 : (i 2).val < 4 := (i 2).isLt
  generalize (i 2).val = n at *
  have hn : n = 0 ∨ n = 1 ∨ n = 2 ∨ n = 3 := by omega
  rcases hn with rfl | rfl | rfl | rfl <;> rfl
theorem off63_val (i : grid0.Coords) : k0_off63 i = ![0, vi (i 2).val (2 * ((i 2).val / 2)), 80 * 6, 0] := by
  unfold k0_off63
  have h4 : (i 2).val < 4 := (i 2).isLt
  generalize (i 2).val = n at *
  have hn : n = 0 ∨ n = 1 ∨ n = 2 ∨ n = 3 := by omega
  rcases hn with rfl | rfl | rfl | rfl <;> rfl
theorem off71_val (i : grid0.Coords) : k0_off71 i = ![0, vi (i 2).val (2 * ((i 2).val / 2)), 80 * 6, 0] := by
  unfold k0_off71
  have h4 : (i 2).val < 4 := (i 2).isLt
  generalize (i 2).val = n at *
  have hn : n = 0 ∨ n = 1 ∨ n = 2 ∨ n = 3 := by omega
  rcases hn with rfl | rfl | rfl | rfl <;> rfl
theorem off79_val (i : grid0.Coords) (hodd : (i 2).val % 2 ≠ 0) : k0_off79 i = ![0, 2 * ((i 2).val / 2), 80 * 6, 0] := by
  unfold k0_off79
  have h4 : (i 2).val < 4 := (i 2).isLt
  generalize (i 2).val = n at *
  have hn : n = 1 ∨ n = 3 := by omega
  rcases hn with rfl | rfl <;> rfl
theorem off8_val (i : grid0.Coords) : k0_off8 i = ![512 * (i 2).val, 128 * 7] := by
  unfold k0_off8
  have h4 : (i 2).val < 4 := (i 2).isLt
  generalize (i 2).val = n at *
  have hn : n = 0 ∨ n = 1 ∨ n = 2 ∨ n = 3 := by omega
  rcases hn with rfl | rfl | rfl | rfl <;> rfl
theorem off64_val (i : grid0.Coords) : k0_off64 i = ![0, vi (i 2).val (2 * ((i 2).val / 2)), 80 * 7, 0] := by
  unfold k0_off64
  have h4 : (i 2).val < 4 := (i 2).isLt
  generalize (i 2).val = n at *
  have hn : n = 0 ∨ n = 1 ∨ n = 2 ∨ n = 3 := by omega
  rcases hn with rfl | rfl | rfl | rfl <;> rfl
theorem off72_val (i : grid0.Coords) : k0_off72 i = ![0, vi (i 2).val (2 * ((i 2).val / 2)), 80 * 7, 0] := by
  unfold k0_off72
  have h4 : (i 2).val < 4 := (i 2).isLt
  generalize (i 2).val = n at *
  have hn : n = 0 ∨ n = 1 ∨ n = 2 ∨ n = 3 := by omega
  rcases hn with rfl | rfl | rfl | rfl <;> rfl
theorem off80_val (i : grid0.Coords) (hodd : (i 2).val % 2 ≠ 0) : k0_off80 i = ![0, 2 * ((i 2).val / 2), 80 * 7, 0] := by
  unfold k0_off80
  have h4 : (i 2).val < 4 := (i 2).isLt
  generalize (i 2).val = n at *
  have hn : n = 1 ∨ n = 3 := by omega
  rcases hn with rfl | rfl <;> rfl
theorem trips2_zero (i : grid0.Coords) : (k0_t2_loop i).trips = 0 := by
  have h4 : (i 2).val < 4 := (i 2).isLt
  unfold k0_t2_loop Scf.Loop.trips
  dsimp only
  generalize (i 2).val = n at *
  have hn : n = 0 ∨ n = 1 ∨ n = 2 ∨ n = 3 := by omega
  rcases hn with rfl | rfl | rfl | rfl <;> decide

theorem cond1_even (i : grid0.Coords) (hp : (i 2).val % 2 = 0) : k0_cond1 i = 1#1 := by
  have h4 : (i 2).val < 4 := (i 2).isLt
  unfold k0_cond1
  generalize (i 2).val = n at *
  have hn : n = 0 ∨ n = 1 ∨ n = 2 ∨ n = 3 := by omega
  rcases hn with rfl | rfl | rfl | rfl <;> first | omega | decide
theorem cond2_even (i : grid0.Coords) (hp : (i 2).val % 2 = 0) : k0_cond2 i ≠ 1#1 := by
  have h4 : (i 2).val < 4 := (i 2).isLt
  unfold k0_cond2
  generalize (i 2).val = n at *
  have hn : n = 0 ∨ n = 1 ∨ n = 2 ∨ n = 3 := by omega
  rcases hn with rfl | rfl | rfl | rfl <;> first | omega | decide

theorem body_even (𝒱 : Variants) (c : Dev nD) (bd : Option 𝒱.V) (i : grid0.Coords) (arg3 : Memref sig .tc .vmem S1x1024x512 .bf16) (harg3 : arg3.IsWhole) (arg4 : Memref sig .tc .vmem S2048x1024 .bf16) (harg4 : arg4.IsWhole) (arg5 : Memref sig .tc .vmem S1x4x640x512 .bf16) (harg5 : arg5.IsWhole) (arg6 : Memref sig .tc .vmem S512x512 .bf16) (harg6 : arg6.IsWhole) (arg7 : Memref sig .tc .vmem S2x8x512x512 .f32) (harg7 : arg7.IsWhole) (arg8 : Memref sig .tc .vmem S2x8x512x512 .bf16) (harg8 : arg8.IsWhole) (E : Set ℕ)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (hp : (i 2).val % 2 = 0) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) : sProp 𝕄G)
    ⊢ wp frame (wpE (defs₀ (F := F)) 𝒱 (c : Thread nD τ) bd) E (cc0_mla_attention (F := F) i arg3 harg3 arg4 harg4 arg5 harg5 arg6 harg6 arg7 harg7 arg8 harg8)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg6.view.loc (c : Thread nD τ) ↦[arg6.view.set]{fullShare} g) ∗ ⌜arg6.view.read (Elt F) g = OUT (arg3.view.read (Elt F) X3) (arg4.view.read (Elt F) X4) (arg5.view.read (Elt F) X5) (i 2).val⌝) ∗ (∃ g, (arg7.view.loc (c : Thread nD τ) ↦[arg7.view.set]{fullShare} g)) ∗ (∃ g, (arg8.view.loc (c : Thread nD τ) ↦[arg8.view.set]{fullShare} g)))) := by
  have h1 := cond1_even i hp
  have h2 := cond2_even i hp
  have htr := trips2_zero i
  iintro ⟨H3, H4, H5, H6, H7, H8⟩
  sl_exec
  sl_step
  rename_i acc
  obtain ⟨m0, a0, m1, a1, m2, a2, m3, a3, m4, a4, m5, a5, m6, a6, m7, a7⟩ := acc
  isplitl [H3]; · iexact H3
  isplitl [H4]; · iexact H4
  isplitl [H5]; · iexact H5
  isplitl [H6]
  · iexists _
    isplitl [H6]; · iexact H6
    ipureintro
    refine Eq.trans ?_ ((congrArg (asmEven arg5 X5 i) (hL4.trans (steps_congr _ _ _
      (q' := fun h => qhead (arg3.view.read (Elt F) X3) h.val) (st' := starts (arg3.view.read (Elt F) X3) (arg4.view.read (Elt F) X4) (i 2).val)
      ?_ ?_ (congrArg (2 * ·) (trips1_le i))))).trans ?_)
    · sl_unfold_run_names
      rw [read_whole]
      simp only [View.readAt_eq_ld, ld_vblk _ 0 _ _ (off57_val i), ld_vblk _ 1 _ _ (off58_val i), ld_vblk _ 2 _ _ (off59_val i), ld_vblk _ 3 _ _ (off60_val i), ld_vblk _ 4 _ _ (off61_val i), ld_vblk _ 5 _ _ (off62_val i), ld_vblk _ 6 _ _ (off63_val i), ld_vblk _ 7 _ _ (off64_val i)]
      rfl
    · sl_unfold_run_names
      funext h
      simp only [View.readAt_eq_ld, ld_qblk _ 0 _ (show (![0, 0, 0] : Fin 3 → ℕ) = ![0, 128 * 0, 0] from rfl), ld_qblk _ 1 _ (show (![0, 128, 0] : Fin 3 → ℕ) = ![0, 128 * 1, 0] from rfl), ld_qblk _ 2 _ (show (![0, 256, 0] : Fin 3 → ℕ) = ![0, 128 * 2, 0] from rfl), ld_qblk _ 3 _ (show (![0, 384, 0] : Fin 3 → ℕ) = ![0, 128 * 3, 0] from rfl), ld_qblk _ 4 _ (show (![0, 512, 0] : Fin 3 → ℕ) = ![0, 128 * 4, 0] from rfl), ld_qblk _ 5 _ (show (![0, 640, 0] : Fin 3 → ℕ) = ![0, 128 * 5, 0] from rfl), ld_qblk _ 6 _ (show (![0, 768, 0] : Fin 3 → ℕ) = ![0, 128 * 6, 0] from rfl), ld_qblk _ 7 _ (show (![0, 896, 0] : Fin 3 → ℕ) = ![0, 128 * 7, 0] from rfl)]
      fin_cases h <;> rfl
    · sl_unfold_run_names
      funext h
      simp (decide := true) only [snap, slot7, slot8, readAt_hit, ↓readAt_skip, ↓View.readCov_skip, View.readCov_cons_toLoadRect]
      simp only [View.readAt_eq_ld, ld_qblk _ 0 _ (show (![0, 0, 0] : Fin 3 → ℕ) = ![0, 128 * 0, 0] from rfl), ld_qblk _ 1 _ (show (![0, 128, 0] : Fin 3 → ℕ) = ![0, 128 * 1, 0] from rfl), ld_qblk _ 2 _ (show (![0, 256, 0] : Fin 3 → ℕ) = ![0, 128 * 2, 0] from rfl), ld_qblk _ 3 _ (show (![0, 384, 0] : Fin 3 → ℕ) = ![0, 128 * 3, 0] from rfl), ld_qblk _ 4 _ (show (![0, 512, 0] : Fin 3 → ℕ) = ![0, 128 * 4, 0] from rfl), ld_qblk _ 5 _ (show (![0, 640, 0] : Fin 3 → ℕ) = ![0, 128 * 5, 0] from rfl), ld_qblk _ 6 _ (show (![0, 768, 0] : Fin 3 → ℕ) = ![0, 128 * 6, 0] from rfl), ld_qblk _ 7 _ (show (![0, 896, 0] : Fin 3 → ℕ) = ![0, 128 * 7, 0] from rfl), ld_kblk _ 0 _ _ (off1_val i), ld_kblk _ 0 0 _ (show (![0, 0] : Fin 2 → ℕ) = ![512 * 0, 128 * 0] from rfl), ld_kblk _ 1 _ _ (off2_val i), ld_kblk _ 1 0 _ (show (![0, 128] : Fin 2 → ℕ) = ![512 * 0, 128 * 1] from rfl), ld_kblk _ 2 _ _ (off3_val i), ld_kblk _ 2 0 _ (show (![0, 256] : Fin 2 → ℕ) = ![512 * 0, 128 * 2] from rfl), ld_kblk _ 3 _ _ (off4_val i), ld_kblk _ 3 0 _ (show (![0, 384] : Fin 2 → ℕ) = ![512 * 0, 128 * 3] from rfl), ld_kblk _ 4 _ _ (off5_val i), ld_kblk _ 4 0 _ (show (![0, 512] : Fin 2 → ℕ) = ![512 * 0, 128 * 4] from rfl), ld_kblk _ 5 _ _ (off6_val i), ld_kblk _ 5 0 _ (show (![0, 640] : Fin 2 → ℕ) = ![512 * 0, 128 * 5] from rfl), ld_kblk _ 6 _ _ (off7_val i), ld_kblk _ 6 0 _ (show (![0, 768] : Fin 2 → ℕ) = ![512 * 0, 128 * 6] from rfl), ld_kblk _ 7 _ _ (off8_val i), ld_kblk _ 7 0 _ (show (![0, 896] : Fin 2 → ℕ) = ![512 * 0, 128 * 7] from rfl)]
      fin_cases h <;> rfl
    · unfold OUT
      rw [if_pos hp]
      rfl
  isplitl [H7]; · iexists _; iexact H7
  iexists _; iexact H8

theorem cond1_odd (i : grid0.Coords) (hp : (i 2).val % 2 ≠ 0) : k0_cond1 i ≠ 1#1 := by
  have h4 : (i 2).val < 4 := (i 2).isLt
  unfold k0_cond1
  generalize (i 2).val = n at *
  have hn : n = 0 ∨ n = 1 ∨ n = 2 ∨ n = 3 := by omega
  rcases hn with rfl | rfl | rfl | rfl <;> first | omega | decide
theorem cond2_odd (i : grid0.Coords) (hp : (i 2).val % 2 ≠ 0) : k0_cond2 i = 1#1 := by
  have h4 : (i 2).val < 4 := (i 2).isLt
  unfold k0_cond2
  generalize (i 2).val = n at *
  have hn : n = 0 ∨ n = 1 ∨ n = 2 ∨ n = 3 := by omega
  rcases hn with rfl | rfl | rfl | rfl <;> first | omega | decide

theorem body_odd (𝒱 : Variants) (c : Dev nD) (bd : Option 𝒱.V) (i : grid0.Coords) (arg3 : Memref sig .tc .vmem S1x1024x512 .bf16) (harg3 : arg3.IsWhole) (arg4 : Memref sig .tc .vmem S2048x1024 .bf16) (harg4 : arg4.IsWhole) (arg5 : Memref sig .tc .vmem S1x4x640x512 .bf16) (harg5 : arg5.IsWhole) (arg6 : Memref sig .tc .vmem S512x512 .bf16) (harg6 : arg6.IsWhole) (arg7 : Memref sig .tc .vmem S2x8x512x512 .f32) (harg7 : arg7.IsWhole) (arg8 : Memref sig .tc .vmem S2x8x512x512 .bf16) (harg8 : arg8.IsWhole) (E : Set ℕ)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (hp : (i 2).val % 2 ≠ 0) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) : sProp 𝕄G)
    ⊢ wp frame (wpE (defs₀ (F := F)) 𝒱 (c : Thread nD τ) bd) E (cc0_mla_attention (F := F) i arg3 harg3 arg4 harg4 arg5 harg5 arg6 harg6 arg7 harg7 arg8 harg8)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg6.view.loc (c : Thread nD τ) ↦[arg6.view.set]{fullShare} g) ∗ ⌜arg6.view.read (Elt F) g = OUT (arg3.view.read (Elt F) X3) (arg4.view.read (Elt F) X4) (arg5.view.read (Elt F) X5) (i 2).val⌝) ∗ (∃ g, (arg7.view.loc (c : Thread nD τ) ↦[arg7.view.set]{fullShare} g)) ∗ (∃ g, (arg8.view.loc (c : Thread nD τ) ↦[arg8.view.set]{fullShare} g)))) := by
  have h1 := cond1_odd i hp
  have h2 := cond2_odd i hp
  have htr := trips2_zero i
  iintro ⟨H3, H4, H5, H6, H7, H8⟩
  sl_exec
  sl_step
  rename_i acc
  obtain ⟨m0, a0, m1, a1, m2, a2, m3, a3, m4, a4, m5, a5, m6, a6, m7, a7⟩ := acc
  isplitl [H3]; · iexact H3
  isplitl [H4]; · iexact H4
  isplitl [H5]; · iexact H5
  isplitl [H6]
  · iexists _
    isplitl [H6]; · iexact H6
    ipureintro
    refine Eq.trans ?_ ((congrArg (asmOdd arg5 X5 i) (hL4.trans (steps_congr _ _ _
      (q' := fun h => qhead (arg3.view.read (Elt F) X3) h.val) (st' := starts (arg3.view.read (Elt F) X3) (arg4.view.read (Elt F) X4) (i 2).val)
      ?_ ?_ (congrArg (2 * ·) (trips1_le i))))).trans ?_)
    · sl_unfold_run_names
      rw [read_whole]
      simp only [View.readAt_eq_ld, ld_vblk _ 0 _ _ (off65_val i), ld_vblk _ 0 _ _ (off73_val i hp), ld_vblk _ 1 _ _ (off66_val i), ld_vblk _ 1 _ _ (off74_val i hp), ld_vblk _ 2 _ _ (off67_val i), ld_vblk _ 2 _ _ (off75_val i hp), ld_vblk _ 3 _ _ (off68_val i), ld_vblk _ 3 _ _ (off76_val i hp), ld_vblk _ 4 _ _ (off69_val i), ld_vblk _ 4 _ _ (off77_val i hp), ld_vblk _ 5 _ _ (off70_val i), ld_vblk _ 5 _ _ (off78_val i hp), ld_vblk _ 6 _ _ (off71_val i), ld_vblk _ 6 _ _ (off79_val i hp), ld_vblk _ 7 _ _ (off72_val i), ld_vblk _ 7 _ _ (off80_val i hp)]
      rfl
    · sl_unfold_run_names
      funext h
      simp only [View.readAt_eq_ld, ld_qblk _ 0 _ (show (![0, 0, 0] : Fin 3 → ℕ) = ![0, 128 * 0, 0] from rfl), ld_qblk _ 1 _ (show (![0, 128, 0] : Fin 3 → ℕ) = ![0, 128 * 1, 0] from rfl), ld_qblk _ 2 _ (show (![0, 256, 0] : Fin 3 → ℕ) = ![0, 128 * 2, 0] from rfl), ld_qblk _ 3 _ (show (![0, 384, 0] : Fin 3 → ℕ) = ![0, 128 * 3, 0] from rfl), ld_qblk _ 4 _ (show (![0, 512, 0] : Fin 3 → ℕ) = ![0, 128 * 4, 0] from rfl), ld_qblk _ 5 _ (show (![0, 640, 0] : Fin 3 → ℕ) = ![0, 128 * 5, 0] from rfl), ld_qblk _ 6 _ (show (![0, 768, 0] : Fin 3 → ℕ) = ![0, 128 * 6, 0] from rfl), ld_qblk _ 7 _ (show (![0, 896, 0] : Fin 3 → ℕ) = ![0, 128 * 7, 0] from rfl)]
      fin_cases h <;> rfl
    · sl_unfold_run_names
      funext h
      simp (decide := true) only [snap, slot7, slot8, readAt_hit, ↓readAt_skip, ↓View.readCov_skip, View.readCov_cons_toLoadRect]
      simp only [View.readAt_eq_ld, ld_qblk _ 0 _ (show (![0, 0, 0] : Fin 3 → ℕ) = ![0, 128 * 0, 0] from rfl), ld_qblk _ 1 _ (show (![0, 128, 0] : Fin 3 → ℕ) = ![0, 128 * 1, 0] from rfl), ld_qblk _ 2 _ (show (![0, 256, 0] : Fin 3 → ℕ) = ![0, 128 * 2, 0] from rfl), ld_qblk _ 3 _ (show (![0, 384, 0] : Fin 3 → ℕ) = ![0, 128 * 3, 0] from rfl), ld_qblk _ 4 _ (show (![0, 512, 0] : Fin 3 → ℕ) = ![0, 128 * 4, 0] from rfl), ld_qblk _ 5 _ (show (![0, 640, 0] : Fin 3 → ℕ) = ![0, 128 * 5, 0] from rfl), ld_qblk _ 6 _ (show (![0, 768, 0] : Fin 3 → ℕ) = ![0, 128 * 6, 0] from rfl), ld_qblk _ 7 _ (show (![0, 896, 0] : Fin 3 → ℕ) = ![0, 128 * 7, 0] from rfl), ld_kblk _ 0 _ _ (off1_val i), ld_kblk _ 0 0 _ (show (![0, 0] : Fin 2 → ℕ) = ![512 * 0, 128 * 0] from rfl), ld_kblk _ 1 _ _ (off2_val i), ld_kblk _ 1 0 _ (show (![0, 128] : Fin 2 → ℕ) = ![512 * 0, 128 * 1] from rfl), ld_kblk _ 2 _ _ (off3_val i), ld_kblk _ 2 0 _ (show (![0, 256] : Fin 2 → ℕ) = ![512 * 0, 128 * 2] from rfl), ld_kblk _ 3 _ _ (off4_val i), ld_kblk _ 3 0 _ (show (![0, 384] : Fin 2 → ℕ) = ![512 * 0, 128 * 3] from rfl), ld_kblk _ 4 _ _ (off5_val i), ld_kblk _ 4 0 _ (show (![0, 512] : Fin 2 → ℕ) = ![512 * 0, 128 * 4] from rfl), ld_kblk _ 5 _ _ (off6_val i), ld_kblk _ 5 0 _ (show (![0, 640] : Fin 2 → ℕ) = ![512 * 0, 128 * 5] from rfl), ld_kblk _ 6 _ _ (off7_val i), ld_kblk _ 6 0 _ (show (![0, 768] : Fin 2 → ℕ) = ![512 * 0, 128 * 6] from rfl), ld_kblk _ 7 _ _ (off8_val i), ld_kblk _ 7 0 _ (show (![0, 896] : Fin 2 → ℕ) = ![512 * 0, 128 * 7] from rfl)]
      fin_cases h <;> rfl
    · unfold OUT
      rw [if_neg hp]
      rfl
  isplitl [H7]; · iexists _; iexact H7
  iexists _; iexact H8

end Cert.KernelIdeal.Hand

end
-- ==== Proof.Run.lean ====
/- The launch: what each grid point leaves in its buffers, the body at every point, the whole run and the
   frame. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body, whatever parity its query tile has. -/
theorem body_point (𝒱 : Variants) (c : Dev nD) (bd : Option 𝒱.V) (i : grid0.Coords) (arg3 : Memref sig .tc .vmem S1x1024x512 .bf16) (harg3 : arg3.IsWhole) (arg4 : Memref sig .tc .vmem S2048x1024 .bf16) (harg4 : arg4.IsWhole) (arg5 : Memref sig .tc .vmem S1x4x640x512 .bf16) (harg5 : arg5.IsWhole) (arg6 : Memref sig .tc .vmem S512x512 .bf16) (harg6 : arg6.IsWhole) (arg7 : Memref sig .tc .vmem S2x8x512x512 .f32) (harg7 : arg7.IsWhole) (arg8 : Memref sig .tc .vmem S2x8x512x512 .bf16) (harg8 : arg8.IsWhole) (E : Set ℕ)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) : sProp 𝕄)
    ⊢ wp frame (wpE (defs₀ (F := F)) 𝒱 (c : Thread nD τ) bd) E (cc0_mla_attention (F := F) i arg3 harg3 arg4 harg4 arg5 harg5 arg6 harg6 arg7 harg7 arg8 harg8)
        (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ g, (arg6.view.loc (c : Thread nD τ) ↦[arg6.view.set]{fullShare} g) ∗ ⌜arg6.view.read (Elt F) g = OUT (arg3.view.read (Elt F) X3) (arg4.view.read (Elt F) X4) (arg5.view.read (Elt F) X5) (i 2).val⌝) ∗ (∃ g, (arg7.view.loc (c : Thread nD τ) ↦[arg7.view.set]{fullShare} g)) ∗ (∃ g, (arg8.view.loc (c : Thread nD τ) ↦[arg8.view.set]{fullShare} g)))) := by
  by_cases hp : (i 2).val % 2 = 0
  · exact body_even 𝒱 c bd i arg3 harg3 arg4 harg4 arg5 harg5 arg6 harg6 arg7 harg7 arg8 harg8 E X3 X4 X5 X6 X7 X8 hp
  · exact body_odd 𝒱 c bd i arg3 harg3 arg4 harg4 arg5 harg5 arg6 harg6 arg7 harg7 arg8 harg8 E X3 X4 X5 X6 X7 X8 hp

variable (m : (ℓ : Loc nD τ sig) → Buf (Elt F) ℓ) (ρ : Dev nD → PrngReg)

/-- The block a point leaves, from the blocks it is given. -/
def outsAt (c : Dev nD) (t : Fin cfg0.N) : Vec F S512x512 .bf16 :=
  OUT (iblk m c 0 t) (iblk m c 1 t) (iblk m c 2 t) (grid0.coords t 2).val

/-- The arrays as the launch finds them; each point leaves its inputs as they were and its block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What a point is called with, and what it gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At every point one of the two stores of the result is made. -/
theorem live0_3 (i : grid0.Coords) : idle0 3 i = false := by
  show (!(k0_cond1 i == 1#1) && !(k0_cond2 i == 1#1)) = false
  by_cases hp : (i 2).val % 2 = 0
  · rw [cond1_even i hp]; rfl
  · rw [cond2_odd i hp]; simp

theorem idle0_3 (t : Fin cfg0.N) : cfg0.idle 3 (cfg0.grid.coords t) = false := live0_3 (grid0.coords t)

/-- A scratch buffer held whole, as the body names it. -/
theorem scr0 (c : Dev nD) (f : Buf (Elt F) ((c : Thread nD τ).loc cc0_scratch0)) :
    ((((c : Thread nD τ).loc cc0_scratch0) ↦{fullShare} f) : sProp 𝕄)
      = ((Memref.whole cc0_scratch0).view.loc (c : Thread nD τ) ↦[(Memref.whole cc0_scratch0).view.set]{fullShare} f) := by
  have h : (Memref.whole cc0_scratch0).view.set = Finset.univ := View.set_whole _
  rw [h]
theorem scr1 (c : Dev nD) (f : Buf (Elt F) ((c : Thread nD τ).loc cc0_scratch1)) :
    ((((c : Thread nD τ).loc cc0_scratch1) ↦{fullShare} f) : sProp 𝕄)
      = ((Memref.whole cc0_scratch1).view.loc (c : Thread nD τ) ↦[(Memref.whole cc0_scratch1).view.set]{fullShare} f) := by
  have h : (Memref.whole cc0_scratch1).view.set = Finset.univ := View.set_whole _
  rw [h]
theorem scopedRest_as (c : Dev nD) : (Pipeline.scopedRest spec0 c : sProp 𝕄)
    = iprop((∃ f : Buf (Elt F) ((c : Thread nD τ).loc cc0_scratch0), (Memref.whole cc0_scratch0).view.loc (c : Thread nD τ) ↦[(Memref.whole cc0_scratch0).view.set]{fullShare} f)
      ∗ (∃ f : Buf (Elt F) ((c : Thread nD τ).loc cc0_scratch1), (Memref.whole cc0_scratch1).view.loc (c : Thread nD τ) ↦[(Memref.whole cc0_scratch1).view.set]{fullShare} f)) :=
  (scopedRest0_eq c).trans (congrArg₂ (fun a b => iprop(a ∗ b))
    (congrArg (fun P : Buf (Elt F) ((c : Thread nD τ).loc cc0_scratch0) → sProp 𝕄 => iprop(∃ x, P x)) (funext fun f => scr0 c f))
    (congrArg (fun P : Buf (Elt F) ((c : Thread nD τ).loc cc0_scratch1) → sProp 𝕄 => iprop(∃ x, P x)) (funext fun f => scr1 c f)))

set_option maxHeartbeats 1000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3]
  unfold Pipeline.ΦA
  rw [scopedRest_as]
  unfold owns
  iintro ⟨⟨⟨⟨%f7, H7⟩, ⟨%f8, H8⟩⟩, Hg⟩, Ho, ⟨%d0, %X3, %e3, H3⟩, ⟨%d1, %X4, %e4, H4⟩, ⟨%d2, %X5, %e5, H5⟩, ⟨%d3, %X6, %e6, H6⟩⟩
  iapply (wp_wand_r Idealize.ShloMosaic.frame (wpE (defs₀ (F := F)) Variants.none c none) Set.univ)
  isplitl [H3 H4 H5 H6 H7 H8]
  · iapply (body_point (F := F) Variants.none c none (grid0.coords t) _ _ _ _ _ _ _ _ _ _ _ _ Set.univ X3 X4 X5 X6 f7 f8)
    isplitl [H3]; · iexact H3
    isplitl [H4]; · iexact H4
    isplitl [H5]; · iexact H5
    isplitl [H6]; · iexact H6
    isplitl [H7]; · iexact H7
    iexact H8
  iintro %_ ⟨H3, H4, H5, ⟨%g6, H6, %h6⟩, ⟨%g7, H7⟩, ⟨%g8, H8⟩⟩
  isplitl [H7 H8 Hg]
  · isplitl [H7 H8]
    · isplitl [H7]
      · iexists g7; iexact H7
      · iexists g8; iexact H8
    · iexact Hg
  isplitl [Ho]; · iexact Ho
  isplitl [H3]; · iexists X3; isplitr; · ipureintro; exact e3
                  iexact H3
  isplitl [H4]; · iexists X4; isplitr; · ipureintro; exact e4
                  iexact H4
  isplitl [H5]; · iexists X5; isplitr; · ipureintro; exact e5
                  iexact H5
  iexists g6; isplitr
  · ipureintro
    rw [e3, e4, e5] at h6
    exact h6
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, idle0_3]
  exact triple_restated (sound_body m c t) rfl .rfl fun _ => .rfl

set_option backward.isDefEq.respectTransparency.types false in
/-- The launch ends, each array at what its points left, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Ref.lean ====
/- The run of the reference: its operations in order, the result they leave, and the frame. -/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ binary main_arg0 main_arg1 main_v0 ((fun l r => Host.dotGeneral dot_S32x2048x8x96_S32x2048x8x96_S32x8x2048x2048_3_3_1_1_02_02 none l r) : (⟨S32x2048x8x96, .f32⟩ : BufTy).Contents (Elt F) → (⟨S32x2048x8x96, .f32⟩ : BufTy).Contents (Elt F) → (⟨S32x8x2048x2048, .f32⟩ : BufTy).Contents (Elt F)),
    nullary main_cst (constant S_ .f32 0x42C00000#32),
    unary main_cst main_v1 (Host.sqrt : (⟨S_, .f32⟩ : BufTy).Contents (Elt F) → (⟨S_, .f32⟩ : BufTy).Contents (Elt F)),
    unary main_v1 main_v2 (broadcastInDim S32x8x2048x2048 ![] bcast_S_S32x8x2048x2048 : (⟨S_, .f32⟩ : BufTy).Contents (Elt F) → (⟨S32x8x2048x2048, .f32⟩ : BufTy).Contents (Elt F)),
    binary main_v0 main_v2 main_v3 (Host.divf : (⟨S32x8x2048x2048, .f32⟩ : BufTy).Contents (Elt F) → (⟨S32x8x2048x2048, .f32⟩ : BufTy).Contents (Elt F) → (⟨S32x8x2048x2048, .f32⟩ : BufTy).Contents (Elt F)),
    nullary main_v4 (iotaInDim S2048 32 0),
    unary main_v4 main_v5 (broadcastInDim S1x2048 ![1] bcast_S2048_S1x2048_1 : (⟨S2048, .i32⟩ : BufTy).Contents (Elt F) → (⟨S1x2048, .i32⟩ : BufTy).Contents (Elt F)),
    unary main_v4 main_v6 (broadcastInDim S2048x1 ![0] bcast_S2048_S2048x1_0 : (⟨S2048, .i32⟩ : BufTy).Contents (Elt F) → (⟨S2048x1, .i32⟩ : BufTy).Contents (Elt F)),
    unary main_v5 main_v7 (broadcastInDim S2048x2048 ![0, 1] bcast_S1x2048_S2048x2048_0_1 : (⟨S1x2048, .i32⟩ : BufTy).Contents (Elt F) → (⟨S2048x2048, .i32⟩ : BufTy).Contents (Elt F)),
    unary main_v6 main_v8 (broadcastInDim S2048x2048 ![0, 1] bcast_S2048x1_S2048x2048_0_1 : (⟨S2048x1, .i32⟩ : BufTy).Contents (Elt F) → (⟨S2048x2048, .i32⟩ : BufTy).Contents (Elt F)),
    binary main_v7 main_v8 main_v9 (cmpi .sle : (⟨S2048x2048, .i32⟩ : BufTy).Contents (Elt F) → (⟨S2048x2048, .i32⟩ : BufTy).Contents (Elt F) → (⟨S2048x2048, .i1⟩ : BufTy).Contents (Elt F)),
    nullary main_cst_0 (constant S_ .f32 0xFF800000#32),
    unary main_cst_0 main_call0_v0 id,
    unary main_v9 main_call0_v1 (broadcastInDim S32x8x2048x2048 ![2, 3] bcast_S2048x2048_S32x8x2048x2048_2_3),
    unary main_call0_v0 main_call0_v2 (broadcastInDim S32x8x2048x2048 ![] bcast_S_S32x8x2048x2048),
    ternary main_call0_v1 main_v3 main_call0_v2 main_v10 select,
    nullary main_cst_1 (constant S_ .f32 0xFF800000#32),
    binary main_v10 main_cst_1 main_v11 ((fun x v => Host.reduce FloatOps.maximumf x v reducesTo_S32x8x2048x2048_S32x8x2048_d3 h_S_) : (⟨S32x8x2048x2048, .f32⟩ : BufTy).Contents (Elt F) → (⟨S_, .f32⟩ : BufTy).Contents (Elt F) → (⟨S32x8x2048, .f32⟩ : BufTy).Contents (Elt F)),
    nullary main_cst_2 (constant S_ .f32 0xFF800000#32),
    unary main_cst_2 main_v12 (broadcastInDim S32x8x2048 ![] bcast_S_S32x8x2048 : (⟨S_, .f32⟩ : BufTy).Contents (Elt F) → (⟨S32x8x2048, .f32⟩ : BufTy).Contents (Elt F)),
    binary main_v12 main_v11 main_v13 (maximumf : (⟨S32x8x2048, .f32⟩ : BufTy).Contents (Elt F) → (⟨S32x8x2048, .f32⟩ : BufTy).Contents (Elt F) → (⟨S32x8x2048, .f32⟩ : BufTy).Contents (Elt F)),
    unary main_v13 main_v14 (broadcastInDim S32x8x2048x1 ![0, 1, 2] bcast_S32x8x2048_S32x8x2048x1_0_1_2 : (⟨S32x8x2048, .f32⟩ : BufTy).Contents (Elt F) → (⟨S32x8x2048x1, .f32⟩ : BufTy).Contents (Elt F)),
    unary main_v14 main_v15 (broadcastInDim S32x8x2048x2048 ![0, 1, 2, 3] bcast_S32x8x2048x1_S32x8x2048x2048_0_1_2_3 : (⟨S32x8x2048x1, .f32⟩ : BufTy).Contents (Elt F) → (⟨S32x8x2048x2048, .f32⟩ : BufTy).Contents (Elt F)),
    binary main_v10 main_v15 main_v16 (subf : (⟨S32x8x2048x2048, .f32⟩ : BufTy).Contents (Elt F) → (⟨S32x8x2048x2048, .f32⟩ : BufTy).Contents (Elt F) → (⟨S32x8x2048x2048, .f32⟩ : BufTy).Contents (Elt F)),
    unary main_v16 main_v17 (Host.exp : (⟨S32x8x2048x2048, .f32⟩ : BufTy).Contents (Elt F) → (⟨S32x8x2048x2048, .f32⟩ : BufTy).Contents (Elt F)),
    nullary main_cst_3 (constant S_ .f32 0x00000000#32),
    binary main_v17 main_cst_3 main_v18 ((fun x v => Host.reduceAdd x v reducesTo_S32x8x2048x2048_S32x8x2048_d3 h_S_) : (⟨S32x8x2048x2048, .f32⟩ : BufTy).Contents (Elt F) → (⟨S_, .f32⟩ : BufTy).Contents (Elt F) → (⟨S32x8x2048, .f32⟩ : BufTy).Contents (Elt F)),
    unary main_v18 main_v19 (broadcastInDim S32x8x2048x1 ![0, 1, 2] bcast_S32x8x2048_S32x8x2048x1_0_1_2 : (⟨S32x8x2048, .f32⟩ : BufTy).Contents (Elt F) → (⟨S32x8x2048x1, .f32⟩ : BufTy).Contents (Elt F)),
    unary main_v19 main_v20 (broadcastInDim S32x8x2048x2048 ![0, 1, 2, 3] bcast_S32x8x2048x1_S32x8x2048x2048_0_1_2_3 : (⟨S32x8x2048x1, .f32⟩ : BufTy).Contents (Elt F) → (⟨S32x8x2048x2048, .f32⟩ : BufTy).Contents (Elt F)),
    binary main_v17 main_v20 main_v21 (Host.divf : (⟨S32x8x2048x2048, .f32⟩ : BufTy).Contents (Elt F) → (⟨S32x8x2048x2048, .f32⟩ : BufTy).Contents (Elt F) → (⟨S32x8x2048x2048, .f32⟩ : BufTy).Contents (Elt F)),
    binary main_v21 main_arg2 main_v22 ((fun l r => Host.dotGeneral dot_S32x8x2048x2048_S32x2048x8x64_S32x8x2048x64_3_1_2_3_01_02 none l r) : (⟨S32x8x2048x2048, .f32⟩ : BufTy).Contents (Elt F) → (⟨S32x2048x8x64, .f32⟩ : BufTy).Contents (Elt F) → (⟨S32x8x2048x64, .f32⟩ : BufTy).Contents (Elt F)),
    unary main_v22 main_v23 ((transpose S32x2048x8x64 [0, 2, 1, 3] · transposes_S32x8x2048x64_S32x2048x8x64_0_2_1_3) : (⟨S32x8x2048x64, .f32⟩ : BufTy).Contents (Elt F) → (⟨S32x2048x8x64, .f32⟩ : BufTy).Contents (Elt F)),
    reshape main_v23 main_v24 (rfl : (.f32 : EltTy) = .f32) shapeCasts_S32x2048x8x64_S65536x512,
    unary main_v24 main_v25 ((truncf .bf16 · bitsLt_bf16_f32) : (⟨S65536x512, .f32⟩ : BufTy).Contents (Elt F) → (⟨S65536x512, .bf16⟩ : BufTy).Contents (Elt F)) ]

theorem main_eq (c : Dev nD) : main (F := F) c = seq ops := rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- The masked scores. -/
def scores (q k : Vec F S32x2048x8x96 .f32) : Vec F S32x8x2048x2048 .f32 :=
  select (broadcastInDim S32x8x2048x2048 ![2, 3] bcast_S2048x2048_S32x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (Host.divf (Host.dotGeneral dot_S32x2048x8x96_S32x2048x8x96_S32x8x2048x2048_3_3_1_1_02_02 none q k)
      (broadcastInDim S32x8x2048x2048 ![] bcast_S_S32x8x2048x2048 (Host.sqrt (constant S_ .f32 0x42C00000#32))))
    (broadcastInDim S32x8x2048x2048 ![] bcast_S_S32x8x2048x2048 (constant S_ .f32 0xFF800000#32))

/-- The exponentials of the scores less their row's largest. -/
def weights (s : Vec F S32x8x2048x2048 .f32) : Vec F S32x8x2048x2048 .f32 :=
  Host.exp (subf s (broadcastInDim S32x8x2048x2048 ![0, 1, 2, 3] bcast_S32x8x2048x1_S32x8x2048x2048_0_1_2_3
    (broadcastInDim S32x8x2048x1 ![0, 1, 2] bcast_S32x8x2048_S32x8x2048x1_0_1_2
      (maximumf (broadcastInDim S32x8x2048 ![] bcast_S_S32x8x2048 (constant S_ .f32 0xFF800000#32))
        (Host.reduce FloatOps.maximumf s (constant S_ .f32 0xFF800000#32) reducesTo_S32x8x2048x2048_S32x8x2048_d3 h_S_)))))

/-- The probabilities. -/
def probs (w : Vec F S32x8x2048x2048 .f32) : Vec F S32x8x2048x2048 .f32 :=
  Host.divf w (broadcastInDim S32x8x2048x2048 ![0, 1, 2, 3] bcast_S32x8x2048x1_S32x8x2048x2048_0_1_2_3
    (broadcastInDim S32x8x2048x1 ![0, 1, 2] bcast_S32x8x2048_S32x8x2048x1_0_1_2
      (Host.reduceAdd w (constant S_ .f32 0x00000000#32) reducesTo_S32x8x2048x2048_S32x8x2048_d3 h_S_)))

/-- The reference's result. -/
def refOut (q k : Vec F S32x2048x8x96 .f32) (v : Vec F S32x2048x8x64 .f32) : Vec F S65536x512 .bf16 :=
  truncf .bf16 (shapeCast S65536x512 (transpose S32x2048x8x64 [0, 2, 1, 3]
    (Host.dotGeneral dot_S32x8x2048x2048_S32x2048x8x64_S32x8x2048x64_3_1_2_3_01_02 none (probs (weights (scores q k))) v)
    transposes_S32x8x2048x64_S32x2048x8x64_0_2_1_3) shapeCasts_S32x2048x8x64_S65536x512) bitsLt_bf16_f32

theorem out_eq (V : Valuation τ sig (Elt F)) : after ops V (main_v25 : DevRef τ sig)
    = refOut (V (main_arg0 : DevRef τ sig)) (V (main_arg1 : DevRef τ sig)) (V (main_arg2 : DevRef τ sig)) := by
  after_results
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub ..⟩

/-- The whole run. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v25)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v25).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

/-- The frame: the arguments end as they were; there is no counter. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (run m ρ)

end Cert.ReferenceIdeal.Hand

end
-- ==== Proof.Online.lean ====
module

public import Idealize.ShloMosaic.Lib.IdealHost

@[expose] public section

noncomputable section

/-! Softmax weights over the extended reals: scores are reals or `⊥`, weights are reals. -/

namespace Cert.Online

open Idealize.ShloMosaic

/-- A score: a real, or `⊥` where it is masked. -/
def Sc (x : EReal) : Prop := x = ⊥ ∨ ∃ r : ℝ, x = (r : EReal)

/-- The weight of a score under the maximum `M`. -/
def w2 (x : EReal) (M : ℝ) : ℝ := if x = ⊥ then 0 else Real.rpow 2 (x.toReal - M)

theorem w2_nonneg (x : EReal) (M : ℝ) : 0 ≤ w2 x M := by
  unfold w2; split
  · exact le_rfl
  · exact Real.rpow_nonneg (by norm_num) _

theorem w2_pos (r M : ℝ) : 0 < w2 (r : EReal) M := by
  unfold w2; rw [if_neg (EReal.coe_ne_bot r)]
  exact Real.rpow_pos_of_pos (by norm_num) _

theorem exp2_sub {x : EReal} (hx : Sc x) (M : ℝ) : Ideal.exp2 (x - (M : EReal)) = (w2 x M : EReal) := by
  rcases hx with rfl | ⟨r, rfl⟩
  · rw [EReal.bot_sub, Ideal.exp2_bot]; simp [w2]
  · rw [← EReal.coe_sub, Ideal.exp2_coe]
    simp [w2]

theorem exp_sub {x : EReal} (hx : Sc x) (M : ℝ) :
    Ideal.exp (x - (M : EReal)) = ((if x = ⊥ then 0 else Real.exp (x.toReal - M) : ℝ) : EReal) := by
  rcases hx with rfl | ⟨r, rfl⟩
  · rw [EReal.bot_sub, Ideal.exp_bot]; simp
  · rw [← EReal.coe_sub, Ideal.exp_coe]
    simp

theorem w2_shift (x : EReal) (M M' : ℝ) : Real.rpow 2 (M - M') * w2 x M = w2 x M' := by
  unfold w2; split
  · exact mul_zero _
  · refine (Real.rpow_add (by norm_num) _ _).symm.trans ?_
    congr 1; ring

theorem coe_mul_add {c : ℝ} (hc : 0 ≤ c) (x y : EReal) : (c : EReal) * (x + y) = c * x + c * y := by
  exact EReal.left_distrib_of_nonneg_of_ne_top (EReal.coe_nonneg.mpr hc) (EReal.coe_ne_top c) x y

theorem coe_mul_sum {ι : Type*} {c : ℝ} (hc : 0 ≤ c) (s : Finset ι) (f : ι → EReal) :
    (c : EReal) * ∑ j ∈ s, f j = ∑ j ∈ s, (c : EReal) * f j := by
  classical
  induction s using Finset.induction_on with
  | empty => simp
  | insert a s ha ih => rw [Finset.sum_insert ha, Finset.sum_insert ha, coe_mul_add hc, ih]

theorem coe_sum {ι : Type*} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

theorem sc_max {x y : EReal} (hx : Sc x) (hy : Sc y) : Sc (max x y) := by
  rcases le_total x y with h | h
  · rwa [max_eq_right h]
  · rwa [max_eq_left h]

theorem sc_fold {ι : Type*} (s : Finset ι) (f : ι → EReal) (hf : ∀ j, Sc (f j)) : Sc (s.fold max ⊥ f) := by
  classical
  induction s using Finset.induction_on with
  | empty => exact .inl (by simp)
  | insert a s ha ih => rw [Finset.fold_insert ha]; exact sc_max (hf a) ih

theorem le_fold {ι : Type*} (s : Finset ι) (f : ι → EReal) {j : ι} (hj : j ∈ s) : f j ≤ s.fold max ⊥ f :=
  (Finset.le_fold_max (f j)).mpr (.inr ⟨j, hj, le_rfl⟩)

/-- A maximum of scores one of which is a real is a real. -/
theorem real_fold {ι : Type*} (s : Finset ι) (f : ι → EReal) (hf : ∀ j, Sc (f j)) {j : ι} (hj : j ∈ s) {r : ℝ} (hr : f j = r) :
    ∃ M : ℝ, s.fold max ⊥ f = M := by
  rcases sc_fold s f hf with h | h
  · have := le_fold s f hj
    rw [h, hr] at this
    exact absurd (le_bot_iff.mp this) (EReal.coe_ne_bot r)
  · exact h

theorem real_max {x y : EReal} (hx : Sc x) {r : ℝ} (hy : y = r) : ∃ M : ℝ, max x y = M := by
  rcases sc_max hx (.inr ⟨r, hy⟩) with h | h
  · have : y ≤ max x y := le_max_right _ _
    rw [h, hy] at this
    exact absurd (le_bot_iff.mp this) (EReal.coe_ne_bot r)
  · exact h

/-- What a tile of scores `x` contributes with values `v`, under the maximum `M`. -/
def tile {ι : Type*} [Fintype ι] (x v : ι → EReal) (M : ℝ) : EReal := ∑ j, (w2 (x j) M : EReal) * v j

theorem tile_shift {ι : Type*} [Fintype ι] (x v : ι → EReal) (M M' : ℝ) :
    (Real.rpow 2 (M - M') : EReal) * tile x v M = tile x v M' := by
  unfold tile
  have h0 : 0 ≤ Real.rpow 2 (M - M') := Real.rpow_nonneg (by norm_num) _
  rw [coe_mul_sum h0]
  refine Finset.sum_congr rfl fun j _ => ?_
  rw [← mul_assoc, ← EReal.coe_mul, w2_shift]

/-- What the diagonal tile and the first `n` tiles contribute. -/
def tot {ι : Type*} [Fintype ι] (xd vd : ι → EReal) (x v : ℕ → ι → EReal) (n : ℕ) (M : ℝ) : EReal :=
  tile xd vd M + ∑ t ∈ Finset.range n, tile (x t) (v t) M

theorem tot_shift {ι : Type*} [Fintype ι] (xd vd : ι → EReal) (x v : ℕ → ι → EReal) (n : ℕ) (M M' : ℝ) :
    (Real.rpow 2 (M - M') : EReal) * tot xd vd x v n M = tot xd vd x v n M' := by
  unfold tot
  have h0 : 0 ≤ Real.rpow 2 (M - M') := Real.rpow_nonneg (by norm_num) _
  rw [coe_mul_add h0, tile_shift, coe_mul_sum h0]
  simp only [tile_shift]

theorem tot_succ {ι : Type*} [Fintype ι] (xd vd : ι → EReal) (x v : ℕ → ι → EReal) (n : ℕ) (M : ℝ) :
    tot xd vd x v (n + 1) M = tot xd vd x v n M + tile (x n) (v n) M := by
  unfold tot
  rw [Finset.sum_range_succ, add_assoc]

/-- The sum of the weights. -/
def Z {ι : Type*} [Fintype ι] (xd : ι → EReal) (x : ℕ → ι → EReal) (n : ℕ) : ℝ :=
  (∑ j, w2 (xd j) 0) + ∑ t ∈ Finset.range n, ∑ j, w2 (x t j) 0

theorem tot_ones {ι : Type*} [Fintype ι] (xd : ι → EReal) (x : ℕ → ι → EReal) (vd : ι → EReal) (v : ℕ → ι → EReal)
    (hd : ∀ j, vd j = 1) (n : ℕ) (hv : ∀ t < n, ∀ j, v t j = 1) : tot xd vd x v n 0 = (Z xd x n : EReal) := by
  unfold tot Z tile
  rw [EReal.coe_add]
  simp only [hd, mul_one, coe_sum]
  congr 1
  rw [← coe_sum]
  refine Finset.sum_congr rfl fun t ht => ?_
  rw [← coe_sum]
  exact Finset.sum_congr rfl fun j _ => by rw [hv t (Finset.mem_range.mp ht), mul_one]

theorem Z_pos {ι : Type*} [Fintype ι] (xd : ι → EReal) (x : ℕ → ι → EReal) (n : ℕ) {j : ι} {r : ℝ} (h : xd j = r) : 0 < Z xd x n := by
  unfold Z
  refine add_pos_of_pos_of_nonneg ?_ (Finset.sum_nonneg fun t _ => Finset.sum_nonneg fun j _ => w2_nonneg _ _)
  exact Finset.sum_pos' (fun j _ => w2_nonneg _ _) ⟨j, Finset.mem_univ j, by rw [h]; exact w2_pos r 0⟩

theorem one_div_pos {z : ℝ} (hz : 0 < z) : Ideal.div 1 (z : EReal) = ((z⁻¹ : ℝ) : EReal) := by
  unfold Ideal.div
  rw [if_neg (by simpa using hz.ne'), one_mul, EReal.coe_inv]

/-- The quotient of two totals under any maximum, as a sum of weighted values. -/
theorem quot_tot {ι : Type*} [Fintype ι] (xd vd : ι → EReal) (x v : ℕ → ι → EReal) (ud : ι → EReal) (u : ℕ → ι → EReal)
    (hd : ∀ j, ud j = 1) (n : ℕ) (hu : ∀ t < n, ∀ j, u t j = 1) {j : ι} {r : ℝ} (h : xd j = r) (M : ℝ) :
    tot xd vd x v n M * Ideal.div 1 (tot xd ud x u n M)
      = (∑ j, ((w2 (xd j) 0 / Z xd x n : ℝ) : EReal) * vd j)
        + ∑ t ∈ Finset.range n, ∑ j, ((w2 (x t j) 0 / Z xd x n : ℝ) : EReal) * v t j := by
  have hZ := Z_pos xd x n h
  have e2 : (0 : ℝ) < Real.rpow 2 (0 - M) := Real.rpow_pos_of_pos (by norm_num) _
  rw [← tot_shift xd vd x v n 0 M, ← tot_shift xd ud x u n 0 M, tot_ones xd x ud u hd n hu, ← EReal.coe_mul,
    one_div_pos (mul_pos e2 hZ), mul_comm, ← mul_assoc, ← EReal.coe_mul]
  have e3 : (Real.rpow 2 (0 - M) * Z xd x n)⁻¹ * Real.rpow 2 (0 - M) = (Z xd x n)⁻¹ := by
    field_simp
  have h0 : 0 ≤ (Z xd x n)⁻¹ := inv_nonneg.mpr hZ.le
  rw [e3]
  unfold tot tile
  rw [coe_mul_add h0, coe_mul_sum h0, coe_mul_sum h0]
  congr 1
  · refine Finset.sum_congr rfl fun j _ => ?_
    rw [← mul_assoc, ← EReal.coe_mul, inv_mul_eq_div]
  · refine Finset.sum_congr rfl fun t _ => ?_
    rw [coe_mul_sum h0]
    refine Finset.sum_congr rfl fun j _ => ?_
    rw [← mul_assoc, ← EReal.coe_mul, inv_mul_eq_div]

end Cert.Online

end
-- ==== Proof.RefValue.lean ====
module

public import proofs.«01_k».proof.Proof.Ref
public import proofs.«01_k».proof.Proof.Online
public import Idealize.ShloMosaic.Lib.Pointwise
public import Idealize.ShloMosaic.Lib.IdealHost
public import Idealize.ShloMosaic.PureOps.Reduce

@[expose] public section

set_option maxRecDepth 16384

noncomputable section

/-! The reference's result at an index, over the ideal floats. -/

namespace Cert.ReferenceIdeal.Hand

open Cert.ReferenceIdeal Cert.ReferenceIdeal.Gen
open Idealize.ShloMosaic Idealize.ShloMosaic.TcCoe
open Cert.Online

theorem ninf : Ideal.ofBits FTy.f32 0xFF800000#32 = ⊥ := by
  simp [Ideal.ofBits, Ideal.ieee]

theorem sqrt_96 : Ideal.sqrt (Ideal.ofBits FTy.f32 0x42C00000#32) = ((Real.sqrt 96 : ℝ) : EReal) := by
  have h : Ideal.ofBits FTy.f32 0x42C00000#32 = ((96 : ℝ) : EReal) := by
    simp [Ideal.ofBits, Ideal.ieee, -EReal.coe_mul]; norm_num
  rw [h]
  show (if (96 : ℝ) < 0 then ⊥ else (Real.sqrt 96 : EReal)) = _
  rw [if_neg (by norm_num)]

theorem cmpi_sle (a b : ℕ) (ha : a < 2048) (hb : b < 2048) :
    IntOp.cmpi .sle (BitVec.ofNat 32 a) (BitVec.ofNat 32 b) = if a ≤ b then 1#1 else 0#1 := by
  have e : ∀ n : ℕ, n < 2048 → (BitVec.ofNat 32 n).toInt = n := by
    intro n hn
    rw [BitVec.toInt_eq_toNat_of_lt (by rw [BitVec.toNat_ofNat]; omega), BitVec.toNat_ofNat]
    congr 1; omega
  unfold IntOp.cmpi
  simp only [BitVec.sle, e a ha, e b hb, Nat.cast_le]
  by_cases h : a ≤ b <;> simp [h]

theorem scores_at (q k : FVec Ideal S32x2048x8x96 .f32) (b : Fin 32) (h : Fin 8) (s j : Fin 2048) :
    scores (F := Ideal) q k (ix4 b h s j)
      = if j.val ≤ s.val then Ideal.div (∑ x : Fin 96, q (ix4 b s h x) * k (ix4 b j h x)) ((Real.sqrt 96 : ℝ) : EReal) else (⊥ : EReal) := by
  pointwise [scores]
  rw [cmpi_sle j.val s.val j.isLt s.isLt, sqrt_96, ninf]
  by_cases hj : j.val ≤ s.val
  · rw [if_pos hj, if_pos hj]; rfl
  · rw [if_neg hj, if_neg hj]; rfl

/-- A row's largest. -/
def rowmax (x : FVec Ideal S32x8x2048x2048 .f32) : FVec Ideal S32x8x2048 .f32 :=
  Host.reduce FloatOps.maximumf x (constant S_ .f32 0xFF800000#32) reducesTo_S32x8x2048x2048_S32x8x2048_d3 h_S_

theorem weights_eq (x : FVec Ideal S32x8x2048x2048 .f32) : weights (F := Ideal) x
    = Host.exp (subf x (broadcastInDim S32x8x2048x2048 ![0, 1, 2, 3] bcast_S32x8x2048x1_S32x8x2048x2048_0_1_2_3
    (broadcastInDim S32x8x2048x1 ![0, 1, 2] bcast_S32x8x2048_S32x8x2048x1_0_1_2
      (maximumf (broadcastInDim S32x8x2048 ![] bcast_S_S32x8x2048 (constant S_ .f32 0xFF800000#32)) (rowmax x))))) := by
  unfold weights rowmax; rfl

theorem weights_at (x : FVec Ideal S32x8x2048x2048 .f32) (b : Fin 32) (h : Fin 8) (s j : Fin 2048) :
    weights (F := Ideal) x (ix4 b h s j) = Ideal.exp (x (ix4 b h s j) - rowmax x (ix3 b h s)) := by
  rw [weights_eq]
  have e : ∀ w : FVec Ideal S32x8x2048 .f32,
      maximumf (broadcastInDim S32x8x2048 ![] bcast_S_S32x8x2048 (constant S_ .f32 0xFF800000#32)) w = w := by
    intro w
    funext i
    show max (Ideal.ofBits FTy.f32 0xFF800000#32) (w i) = w i
    rw [ninf]
    exact max_eq_right bot_le
  rw [e]
  generalize rowmax x = w
  pointwise []

/-- A row of scores one of which is a real has a real for its largest. -/
theorem rowmax_real (x : FVec Ideal S32x8x2048x2048 .f32) (hx : ∀ i, Sc (x i)) (b : Fin 32) (h : Fin 8) (s : Fin 2048) {r : ℝ}
    (hr : x (ix4 b h s 0) = r) : ∃ M : ℝ, rowmax x (ix3 b h s) = M := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  unfold rowmax
  rw [Host.reduce_eq_fold]
  have e : (constant S_ .f32 0xFF800000#32 : FVec Ideal S_ .f32) (Shape.Idx.first h_S_) = (⊥ : EReal) := ninf
  rw [e]
  refine real_fold _ x hx (j := ix4 b h s 0) (Finset.mem_filter.mpr ⟨Finset.mem_univ _, ?_⟩) hr
  funext a
  apply Fin.ext
  match a with
  | ⟨0, _⟩ => rfl
  | ⟨1, _⟩ => rfl
  | ⟨2, _⟩ => rfl

theorem probs_at (x : FVec Ideal S32x8x2048x2048 .f32) (b : Fin 32) (h : Fin 8) (s j : Fin 2048) :
    probs (F := Ideal) x (ix4 b h s j) = Ideal.div (x (ix4 b h s j)) (∑ k : Fin 2048, x (ix4 b h s k)) := by
  pointwise [probs]

theorem refOut_at (q k : FVec Ideal S32x2048x8x96 .f32) (v : FVec Ideal S32x2048x8x64 .f32) (n : Fin 65536) (e : Fin 512) :
    refOut (F := Ideal) q k v (ix2 n e)
      = ∑ j : Fin 2048, probs (F := Ideal) (weights (F := Ideal) (scores (F := Ideal) q k))
          (ix4 ⟨n.val / 2048, by omega⟩ ⟨e.val / 64, by omega⟩ ⟨n.val % 2048, by omega⟩ j)
        * v (ix4 ⟨n.val / 2048, by omega⟩ j ⟨e.val / 64, by omega⟩ ⟨e.val % 64, by omega⟩) := by
  unfold refOut
  generalize probs (F := Ideal) (weights (F := Ideal) (scores (F := Ideal) q k)) = p
  pointwise []

/-- The weight of a score, its maximum taken as zero. -/
def we (x : EReal) : ℝ := if x = ⊥ then 0 else Real.exp x.toReal

theorem we_nonneg (x : EReal) : 0 ≤ we x := by
  unfold we; split
  · exact le_rfl
  · exact (Real.exp_pos _).le

theorem exp_shift {x : EReal} (hx : Sc x) (M : ℝ) : Ideal.exp (x - (M : EReal)) = ((we x * Real.exp (-M) : ℝ) : EReal) := by
  rw [exp_sub hx]
  unfold we
  congr 1
  split
  · exact (zero_mul _).symm
  · rw [← Real.exp_add, sub_eq_add_neg]

/-- A row of softmax: real weights over their sum. -/
theorem softmax_row (x : Fin 2048 → EReal) (hx : ∀ j, Sc (x j)) {j₀ : Fin 2048} {r : ℝ} (hr : x j₀ = r) (M : ℝ) (j : Fin 2048) :
    Ideal.div (Ideal.exp (x j - (M : EReal))) (∑ k : Fin 2048, Ideal.exp (x k - (M : EReal)))
      = ((we (x j) / ∑ k : Fin 2048, we (x k) : ℝ) : EReal) := by
  simp only [exp_shift (hx _), coe_sum]
  have h0 : 0 < ∑ k : Fin 2048, we (x k) := by
    refine Finset.sum_pos' (fun k _ => we_nonneg _) ⟨j₀, Finset.mem_univ _, ?_⟩
    rw [hr]; unfold we; rw [if_neg (EReal.coe_ne_bot r)]; exact Real.exp_pos _
  have hM : 0 < Real.exp (-M) := Real.exp_pos _
  rw [← Finset.sum_mul]
  have hz : (∑ k : Fin 2048, we (x k)) * Real.exp (-M) ≠ 0 := (mul_pos h0 hM).ne'
  rw [Ideal.div_coe hz, ← EReal.coe_mul]
  congr 1
  field_simp

section Real

variable {q k : FVec Ideal S32x2048x8x96 .f32} (qr kr : S32x2048x8x96.Idx → ℝ)

/-- A query against a key. -/
def dotr (b : Fin 32) (h : Fin 8) (s j : Fin 2048) : ℝ := ∑ x : Fin 96, qr (ix4 b s h x) * kr (ix4 b j h x)

/-- A key's weight for a query. -/
def wt (b : Fin 32) (h : Fin 8) (s j : Fin 2048) : ℝ := if j.val ≤ s.val then Real.exp (dotr qr kr b h s j / Real.sqrt 96) else 0

variable {qr kr}

theorem scores_real (hq : ∀ i, q i = (qr i : EReal)) (hk : ∀ i, k i = (kr i : EReal)) (b : Fin 32) (h : Fin 8) (s j : Fin 2048) :
    scores (F := Ideal) q k (ix4 b h s j) = if j.val ≤ s.val then ((dotr qr kr b h s j / Real.sqrt 96 : ℝ) : EReal) else (⊥ : EReal) := by
  rw [scores_at]
  simp only [hq, hk, ← EReal.coe_mul, coe_sum]
  have h96 : Real.sqrt 96 ≠ 0 := (Real.sqrt_pos.mpr (by norm_num)).ne'
  rw [Ideal.div_coe h96, ← EReal.coe_mul, mul_one_div]
  rfl

theorem scores_sc (hq : ∀ i, q i = (qr i : EReal)) (hk : ∀ i, k i = (kr i : EReal)) (i : S32x8x2048x2048.Idx) :
    Sc (scores (F := Ideal) q k i) := by
  idx_vars i
  rw [scores_real hq hk]
  split
  · exact .inr ⟨_, rfl⟩
  · exact .inl rfl

theorem probs_real (hq : ∀ i, q i = (qr i : EReal)) (hk : ∀ i, k i = (kr i : EReal)) (b : Fin 32) (h : Fin 8) (s j : Fin 2048) :
    probs (F := Ideal) (weights (F := Ideal) (scores (F := Ideal) q k)) (ix4 b h s j)
      = ((wt qr kr b h s j / ∑ j' : Fin 2048, wt qr kr b h s j' : ℝ) : EReal) := by
  have h0 : scores (F := Ideal) q k (ix4 b h s 0) = ((dotr qr kr b h s 0 / Real.sqrt 96 : ℝ) : EReal) := by
    rw [scores_real hq hk]; exact if_pos (Nat.zero_le _)
  obtain ⟨M, hM⟩ := rowmax_real _ (scores_sc hq hk) b h s h0
  rw [probs_at]
  simp only [weights_at, hM]
  refine (softmax_row (fun j => scores (F := Ideal) q k (ix4 b h s j)) (fun j => scores_sc hq hk _) h0 M j).trans ?_
  have e : ∀ j, we (scores (F := Ideal) q k (ix4 b h s j)) = wt qr kr b h s j := by
    intro j
    rw [scores_real hq hk]
    unfold we wt
    by_cases hj : j.val ≤ s.val
    · rw [if_pos hj, if_pos hj, if_neg (EReal.coe_ne_bot _), EReal.toReal_coe]
    · rw [if_neg hj, if_neg hj, if_pos rfl]
  simp only [e]

/-- The reference's result at an index. -/
theorem refOut_real (hq : ∀ i, q i = (qr i : EReal)) (hk : ∀ i, k i = (kr i : EReal)) (v : FVec Ideal S32x2048x8x64 .f32)
    (n : Fin 65536) (e : Fin 512) :
    refOut (F := Ideal) q k v (ix2 n e)
      = ∑ j : Fin 2048, ((wt qr kr ⟨n.val / 2048, by omega⟩ ⟨e.val / 64, by omega⟩ ⟨n.val % 2048, by omega⟩ j
            / ∑ j' : Fin 2048, wt qr kr ⟨n.val / 2048, by omega⟩ ⟨e.val / 64, by omega⟩ ⟨n.val % 2048, by omega⟩ j' : ℝ) : EReal)
        * v (ix4 ⟨n.val / 2048, by omega⟩ j ⟨e.val / 64, by omega⟩ ⟨e.val % 64, by omega⟩) := by
  rw [refOut_at]
  simp only [probs_real hq hk]

end Real

end Cert.ReferenceIdeal.Hand

end
-- ==== Proof.Reads.lean ====
module

public import proofs.«01_k».proof.Proof.Body
public import Idealize.ShloMosaic.Lib.Pointwise
public import Idealize.ShloMosaic.Lib.IdealHost

@[expose] public section

set_option maxRecDepth 16384

noncomputable section

namespace Cert.KernelIdeal.Hand

open Idealize.ShloMosaic Idealize.ShloMosaic.TcCoe
open Cert.KernelIdeal.Gen

theorem ninf : Ideal.ofBits FTy.f32 0xFF800000#32 = ⊥ := by
  simp [Ideal.ofBits, Ideal.ieee]

theorem cmpi_sle (a b : ℕ) (ha : a < 2048) (hb : b < 2048) :
    IntOp.cmpi .sle (BitVec.ofNat 32 a) (BitVec.ofNat 32 b) = if a ≤ b then 1#1 else 0#1 := by
  have e : ∀ n : ℕ, n < 2048 → (BitVec.ofNat 32 n).toInt = n := by
    intro n hn
    rw [BitVec.toInt_eq_toNat_of_lt (by rw [BitVec.toNat_ofNat]; omega), BitVec.toNat_ofNat]
    congr 1; omega
  unfold IntOp.cmpi
  simp only [BitVec.sle, e a ha, e b hb, Nat.cast_le]
  by_cases h : a ≤ b <;> simp [h]

theorem score_apply (q : FVec Ideal S128x512 .bf16) (kb : Vec Ideal S512x128 .bf16) (j r : Fin 512) :
    score q kb (ix4 0 0 j r) = ∑ c : Fin 128, kb (ix2 j c) * q (ix2 c r) := by
  pointwise [score, k0_pay3]

theorem vdot_apply (p : FVec Ideal S512x512 .bf16) (vt : Vec Ideal S1x1x80x512 .bf16) (d : Fin 80) (r : Fin 512) :
    vdot p vt (ix2 d r) = ∑ j : Fin 512, vt (ix4 0 0 d j) * p (ix2 j r) := by
  pointwise [vdot, k0_pay23]
  exact (Fin.sum_univ_two_halves 256 256 rfl fun j : Fin 512 => vt (ix4 0 0 d j) * p (ix2 j r)).symm

theorem pay32_apply (s : Vec Ideal S1x1x512x512 .f32) (j r : Fin 512) : k0_pay32 s (ix2 j r) = s (ix4 0 0 j r) := by
  pointwise [k0_pay32]

theorem pay33_apply (m : FVec Ideal S1x512 .f32) (s : Vec Ideal S1x1x512x512 .f32) (r : Fin 512) :
    k0_pay33 m s (ix2 0 r) = max (m (ix2 0 r)) (Finset.univ.fold max ⊥ fun j : Fin 512 => s (ix4 0 0 j r)) := by
  pointwise [k0_pay33, k0_pay32]
  rw [ninf]

theorem pay34_apply (m : FVec Ideal S1x512 .f32) (s : Vec Ideal S1x1x512x512 .f32) (j r : Fin 512) :
    k0_pay34 m s (ix2 j r) = FloatOps.exp2 (F := Ideal) (φ := .f32) (s (ix4 0 0 j r) - k0_pay33 m s (ix2 0 r)) := by
  unfold k0_pay34
  generalize k0_pay33 m s = w
  pointwise [k0_pay32]

theorem pay35_apply (m : FVec Ideal S1x512 .f32) (a pv : FVec Ideal S80x512 .f32) (s : Vec Ideal S1x1x512x512 .f32) (d : Fin 80) (r : Fin 512) :
    k0_pay35 m a pv s (ix2 d r) = FloatOps.exp2 (F := Ideal) (φ := .f32) (m (ix2 0 r) - k0_pay33 m s (ix2 0 r)) * (a (ix2 d r) + pv (ix2 d r)) := by
  unfold k0_pay35
  generalize k0_pay33 m s = w
  pointwise []

theorem quot_apply (a pv : FVec Ideal S80x512 .f32) (d : Fin 64) (r : Fin 512) :
    quot a pv (ix2 d r) = (a (ix2 ⟨d.val, by omega⟩ r) + pv (ix2 ⟨d.val, by omega⟩ r)) * Ideal.div 1 (a (ix2 64 r) + pv (ix2 64 r)) := by
  pointwise [quot, k0_pay295]

theorem mask_apply (j r : Fin 512) : k0_pay384 (ix2 j r) = if j.val ≤ r.val then 1#1 else 0#1 := by
  pointwise [k0_pay384]
  exact cmpi_sle j.val r.val (by omega) (by omega)

theorem pay417_apply (k : IVec S512x512 1) (s : Vec Ideal S1x1x512x512 .f32) (j r : Fin 512) :
    k0_pay417 k s (ix2 j r) = if k (ix2 j r) = 1#1 then s (ix4 0 0 j r) else ⊥ := by
  pointwise [k0_pay417]
  rw [ninf]; rfl

/-- The masked scores, put where the unmasked ones are read. -/
def masked (k : IVec S512x512 1) (s : Vec Ideal S1x1x512x512 .f32) : Vec Ideal S1x1x512x512 .f32 :=
  shapeCast S1x1x512x512 (k0_pay417 k s) shapeCasts_S512x512_S1x1x512x512

theorem masked_apply (k : IVec S512x512 1) (s : Vec Ideal S1x1x512x512 .f32) (j r : Fin 512) :
    masked k s (ix4 0 0 j r) = if k (ix2 j r) = 1#1 then s (ix4 0 0 j r) else ⊥ := by
  rw [← pay417_apply]
  unfold masked
  generalize k0_pay417 k s = w
  pointwise []

theorem pay32_masked (k : IVec S512x512 1) (s : Vec Ideal S1x1x512x512 .f32) : k0_pay32 (masked k s) = k0_pay417 k s := by
  unfold masked
  generalize k0_pay417 k s = w
  funext x
  idx_vars x
  pointwise [k0_pay32]

theorem pay418_eq (k : IVec S512x512 1) (m : FVec Ideal S1x512 .f32) (s : Vec Ideal S1x1x512x512 .f32) :
    k0_pay418 k m s = k0_pay33 m (masked k s) := by
  unfold k0_pay418 k0_pay33
  rw [pay32_masked]

theorem pay419_eq (k : IVec S512x512 1) (m : FVec Ideal S1x512 .f32) (s : Vec Ideal S1x1x512x512 .f32) :
    k0_pay419 k m s = k0_pay34 m (masked k s) := by
  unfold k0_pay419 k0_pay34
  rw [pay32_masked, pay418_eq]

theorem pay420_eq (k : IVec S512x512 1) (a : FVec Ideal S80x512 .f32) (m : FVec Ideal S1x512 .f32) (s : Vec Ideal S1x1x512x512 .f32) :
    k0_pay420 k a m s = k0_pay35 m a a (masked k s) := by
  unfold k0_pay420 k0_pay35
  rw [pay418_eq]

theorem pay403_apply (d : Fin 80) (r : Fin 512) : k0_pay403 (F := Ideal) (ix2 d r) = 0 := by
  pointwise [k0_pay403]
theorem pay404_apply (r : Fin 512) : k0_pay404 (F := Ideal) (ix2 0 r) = ⊥ := by
  pointwise [k0_pay404]
  rw [ninf]

theorem park_apply (p : FVec Ideal S512x512 .bf16) (j r : Fin 512) : park p (ix4 0 0 j r) = p (ix2 j r) := by
  pointwise [park]
theorem unpark_park (p : FVec Ideal S512x512 .bf16) : unpark (park p) = p := by
  unfold park unpark
  funext x
  idx_vars x
  pointwise []

theorem asm_apply (o : Fin 8 → FVec Ideal S64x512 .f32) (h : Fin 8) (d : Fin 64) (r : Fin 512) :
    asm o (ix2 r ⟨64 * h.val + d.val, by omega⟩) = o h (ix2 d r) := by
  pointwise [asm]
  have hd := d.isLt
  fin_vals h with hk
  all_goals
    repeat (first | rw [dif_neg (by omega)] | rw [dif_pos (by omega)])
    apply congr_arg₂ (fun (a : Fin 8) (b : Fin 64) => o a (ix2 b r))
    · apply Fin.ext; rw [hk]; rfl
    · apply Fin.ext; simp only []; omega

end Cert.KernelIdeal.Hand

end
-- ==== Proof.Value.lean ====
module

public import proofs.«01_k».proof.Proof.Reads
public import proofs.«01_k».proof.Proof.Online

@[expose] public section

set_option maxRecDepth 16384

noncomputable section

/-! A head's column through the tiles, over the ideal floats. -/

namespace Cert.KernelIdeal.Hand

open Idealize.ShloMosaic Idealize.ShloMosaic.TcCoe
open Cert.KernelIdeal.Gen Cert.Online

/-- Column `r` of a head's state: its maximum is a real, accumulator and parked weights together are the total `T` under
    that maximum, the next scores are `s`. -/
def Inv (st : HS Ideal) (vt : Vec Ideal S1x1x80x512 .bf16) (r : Fin 512) (T : Fin 80 → ℝ → EReal) (s : Fin 512 → EReal) : Prop :=
  ∃ M : ℝ, st.m (ix2 0 r) = M ∧ (∀ d, st.a (ix2 d r) + vdot (unpark st.p) vt (ix2 d r) = T d M) ∧ ∀ j, st.s (ix4 0 0 j r) = s j

/-- The values of a block of them, at a row. -/
def vrow (vt : Vec Ideal S1x1x80x512 .bf16) (d : Fin 80) : Fin 512 → EReal := fun j => vt (ix4 0 0 d j)

theorem vdot_weights {m : FVec Ideal S1x512 .f32} {s : Vec Ideal S1x1x512x512 .f32} {r : Fin 512} {x : Fin 512 → EReal} {M : ℝ}
    (hs : ∀ j, s (ix4 0 0 j r) = x j) (hx : ∀ j, Sc (x j)) (hM : k0_pay33 m s (ix2 0 r) = M)
    (vt : Vec Ideal S1x1x80x512 .bf16) (d : Fin 80) : vdot (k0_pay34 m s) vt (ix2 d r) = tile x (vrow vt d) M := by
  rw [vdot_apply]
  unfold tile
  refine Finset.sum_congr rfl fun j _ => ?_
  rw [pay34_apply, hM, hs, mul_comm]
  exact congrArg (· * _) (exp2_sub (hx j) M)

theorem max_real {m : FVec Ideal S1x512 .f32} {s : Vec Ideal S1x1x512x512 .f32} {r : Fin 512} {x : Fin 512 → EReal}
    (hs : ∀ j, s (ix4 0 0 j r) = x j) (hx : ∀ j, Sc (x j)) (hm : Sc (m (ix2 0 r))) (j : Fin 512) {y : ℝ} (hy : x j = y) :
    ∃ M : ℝ, k0_pay33 m s (ix2 0 r) = M := by
  rw [pay33_apply]
  simp only [hs]
  obtain ⟨M, hM⟩ := real_fold Finset.univ x hx (Finset.mem_univ j) hy
  exact real_max hm hM

/-- The accumulator after a step: the total under the new maximum. -/
theorem acc_step {st : HS Ideal} {vt : Vec Ideal S1x1x80x512 .bf16} {r : Fin 512} {T : Fin 80 → ℝ → EReal} {M M' : ℝ}
    (hM : st.m (ix2 0 r) = M) (hT : ∀ d, st.a (ix2 d r) + vdot (unpark st.p) vt (ix2 d r) = T d M)
    (hS : ∀ d M M', (Real.rpow 2 (M - M') : EReal) * T d M = T d M') (hM' : k0_pay33 st.m st.s (ix2 0 r) = M') (d : Fin 80) :
    k0_pay35 st.m st.a (vdot (unpark st.p) vt) st.s (ix2 d r) = T d M' := by
  rw [pay35_apply, hT, hM, hM', ← hS d M M']
  refine congrArg (· * _) ?_
  exact (congrArg Ideal.exp2 (EReal.coe_sub M M').symm).trans (Ideal.exp2_coe _)

theorem inv_step {st : HS Ideal} {vt : Vec Ideal S1x1x80x512 .bf16} {r : Fin 512} {T : Fin 80 → ℝ → EReal} {x x' : Fin 512 → EReal}
    (h : Inv st vt r T x) (hS : ∀ d M M', (Real.rpow 2 (M - M') : EReal) * T d M = T d M') (hx : ∀ j, ∃ y : ℝ, x j = y)
    (q : FVec Ideal S128x512 .bf16) (kb : Vec Ideal S512x128 .bf16) (hk : ∀ j, score q kb (ix4 0 0 j r) = x' j)
    (vt' : Vec Ideal S1x1x80x512 .bf16) :
    Inv (st.step q kb vt) vt' r (fun d M => T d M + tile x (vrow vt' d) M) x' := by
  obtain ⟨M, hM, hT, hs⟩ := h
  obtain ⟨y, hy⟩ := hx 0
  obtain ⟨M', hM'⟩ := max_real hs (fun j => .inr (hx j)) (.inr ⟨M, hM⟩) 0 hy
  refine ⟨M', hM', fun d => ?_, hk⟩
  show k0_pay35 st.m st.a (vdot (unpark st.p) vt) st.s (ix2 d r) + vdot (unpark (park (k0_pay34 st.m st.s))) vt' (ix2 d r) = _
  rw [unpark_park, acc_step hM hT hS hM', vdot_weights hs (fun j => .inr (hx j)) hM']

/-- The masked scores of the diagonal tile at column `r`. -/
def diag (r : Fin 512) (x : Fin 512 → EReal) : Fin 512 → EReal := fun j => if j.val ≤ r.val then x j else ⊥

theorem sc_diag (r : Fin 512) {x : Fin 512 → EReal} (hx : ∀ j, ∃ y : ℝ, x j = y) (j : Fin 512) : Sc (diag r x j) := by
  unfold diag; split
  · exact .inr (hx j)
  · exact .inl rfl

theorem inv_start {r : Fin 512} {xd x0 : Fin 512 → EReal} (q : FVec Ideal S128x512 .bf16) (kd k0 : Vec Ideal S512x128 .bf16)
    (hd : ∀ j, score q kd (ix4 0 0 j r) = xd j) (h0 : ∀ j, score q k0 (ix4 0 0 j r) = x0 j) (hx : ∀ j, ∃ y : ℝ, xd j = y)
    (vt : Vec Ideal S1x1x80x512 .bf16) :
    Inv (start q kd k0) vt r (fun d M => tile (diag r xd) (vrow vt d) M) x0 := by
  have hs : ∀ j, masked mask (score q kd) (ix4 0 0 j r) = diag r xd j := by
    intro j
    rw [masked_apply, hd]
    show (if k0_pay384 (ix2 j r) = 1#1 then _ else _) = _
    rw [mask_apply]
    unfold diag
    by_cases h : j.val ≤ r.val <;> simp [h]
  have hsc := sc_diag r hx
  obtain ⟨y, hy⟩ := hx 0
  have hy0 : diag r xd 0 = y := (if_pos (Nat.zero_le _)).trans hy
  obtain ⟨M', hM'⟩ := max_real (m := k0_pay404) hs hsc (.inl (pay404_apply r)) 0 hy0
  refine ⟨M', ?_, fun d => ?_, h0⟩
  · show k0_pay418 mask k0_pay404 (score q kd) (ix2 0 r) = _
    rw [pay418_eq, hM']
  · show k0_pay420 mask k0_pay403 k0_pay404 (score q kd) (ix2 d r)
      + vdot (unpark (park (k0_pay419 mask k0_pay404 (score q kd)))) vt (ix2 d r) = _
    rw [pay420_eq, pay419_eq, unpark_park, vdot_weights hs hsc hM', pay35_apply, pay403_apply, add_zero, mul_zero, zero_add]

section Head

variable (x3 : Vec Ideal S1x1024x512 .bf16) (x4 : Vec Ideal S2048x1024 .bf16) (x5 : Vec Ideal S1x4x640x512 .bf16)

/-- Head `h`'s scores of tile `t` at column `r`. -/
def sc (h : Fin 8) (r : Fin 512) (t : ℕ) : Fin 512 → EReal := fun j => score (qhead x3 h.val) (kblk x4 h.val t) (ix4 0 0 j r)

/-- Head `h`'s values of tile `t` at row `d`. -/
def vl (h : Fin 8) (d : Fin 80) (t : ℕ) : Fin 512 → EReal := vrow (vblk x5 h.val t) d

variable {x3 x4 x5} {h : Fin 8} {r : Fin 512}

theorem inv_steps (hx : ∀ t < 4, ∀ j, ∃ y : ℝ, sc x3 x4 h r t j = y) (i : ℕ) (hi : i < 4) (n : ℕ) (hn : n ≤ i) :
    Inv (steps (fun h => qhead x3 h.val) x4 x5 i (starts x3 x4 i) n h) (vblk x5 h.val (vi i n)) r
      (fun d M => tot (diag r (sc x3 x4 h r i)) (vl x5 h d i) (sc x3 x4 h r) (vl x5 h d) n M) (sc x3 x4 h r n) := by
  induction n with
  | zero =>
    have := inv_start (r := r) (qhead x3 h.val) (kblk x4 h.val i) (kblk x4 h.val 0) (fun j => rfl) (fun j => rfl) (hx i hi) (vblk x5 h.val i)
    unfold tot
    simp only [Finset.range_zero, Finset.sum_empty, add_zero]
    exact this
  | succ n ih =>
    have := inv_step (ih (by omega)) (fun d M M' => tot_shift _ _ _ _ _ M M') (hx n (by omega)) (qhead x3 h.val) (kblk x4 h.val (n + 1))
      (fun j => rfl) (vblk x5 h.val n)
    simp only [tot_succ]
    exact this

/-- The quotient of a state's total. -/
theorem quot_total (hx : ∀ t < 4, ∀ j, ∃ y : ℝ, sc x3 x4 h r t j = y) (h1 : ∀ t < 4, ∀ j, vl x5 h 64 t j = 1) (i : ℕ) (hi : i < 4)
    {a pv : FVec Ideal S80x512 .f32} {M : ℝ}
    (hT : ∀ d, a (ix2 d r) + pv (ix2 d r) = tot (diag r (sc x3 x4 h r i)) (vl x5 h d i) (sc x3 x4 h r) (vl x5 h d) i M) (d : Fin 64) :
    quot a pv (ix2 d r)
      = (∑ j, ((w2 (diag r (sc x3 x4 h r i) j) 0 / Z (diag r (sc x3 x4 h r i)) (sc x3 x4 h r) i : ℝ) : EReal) * vl x5 h ⟨d.val, by omega⟩ i j)
        + ∑ t ∈ Finset.range i, ∑ j, ((w2 (sc x3 x4 h r t j) 0 / Z (diag r (sc x3 x4 h r i)) (sc x3 x4 h r) i : ℝ) : EReal)
          * vl x5 h ⟨d.val, by omega⟩ t j := by
  obtain ⟨y, hy⟩ := hx i hi 0
  have hy0 : diag r (sc x3 x4 h r i) 0 = y := (if_pos (Nat.zero_le _)).trans hy
  rw [quot_apply, hT, hT]
  exact quot_tot _ _ _ _ _ _ (h1 i hi) i (fun t ht => h1 t (by omega)) hy0 M

/-- The block of a point at a head's column, from its scores and values. -/
theorem OUT_apply (hx : ∀ t < 4, ∀ j, ∃ y : ℝ, sc x3 x4 h r t j = y) (h1 : ∀ t < 4, ∀ j, vl x5 h 64 t j = 1) (i : ℕ) (hi : i < 4)
    (d : Fin 64) :
    OUT x3 x4 x5 i (ix2 r ⟨64 * h.val + d.val, by omega⟩)
      = (∑ j, ((w2 (diag r (sc x3 x4 h r i) j) 0 / Z (diag r (sc x3 x4 h r i)) (sc x3 x4 h r) i : ℝ) : EReal) * vl x5 h ⟨d.val, by omega⟩ i j)
        + ∑ t ∈ Finset.range i, ∑ j, ((w2 (sc x3 x4 h r t j) 0 / Z (diag r (sc x3 x4 h r i)) (sc x3 x4 h r) i : ℝ) : EReal)
          * vl x5 h ⟨d.val, by omega⟩ t j := by
  unfold OUT
  split
  · rename_i he
    rw [asm_apply]
    obtain ⟨M, -, hT, -⟩ := inv_steps (x5 := x5) hx i hi (2 * (i / 2)) (by omega)
    exact quot_total hx h1 i hi (by
      have e : 2 * (i / 2) = i := by omega
      rw [e] at hT ⊢
      exact hT) d
  · rename_i he
    rw [asm_apply]
    obtain ⟨M, hM, hT, hs⟩ := inv_steps (x5 := x5) hx i hi (2 * (i / 2)) (by omega)
    obtain ⟨y, hy⟩ := hx (2 * (i / 2)) (by omega) 0
    obtain ⟨M', hM'⟩ := max_real hs (fun j => .inr (hx (2 * (i / 2)) (by omega) j)) (.inr ⟨M, hM⟩) 0 hy
    refine quot_total hx h1 i hi (M := M') (fun d => ?_) d
    rw [acc_step hM hT (fun d M M' => tot_shift _ _ _ _ _ M M') hM',
      vdot_weights hs (fun j => .inr (hx (2 * (i / 2)) (by omega) j)) hM']
    have e : i = 2 * (i / 2) + 1 := by omega
    conv_rhs => rw [show tot (diag r (sc x3 x4 h r i)) (vl x5 h d i) (sc x3 x4 h r) (vl x5 h d) i M'
      = tot (diag r (sc x3 x4 h r i)) (vl x5 h d i) (sc x3 x4 h r) (vl x5 h d) (2 * (i / 2) + 1) M' from by rw [← e], tot_succ]
    rfl

end Head

end Cert.KernelIdeal.Hand

end
-- ==== Proof.Host.lean ====
module

public import proofs.«01_k».proof.Proof.Run
public import Idealize.ShloMosaic.Lib.Pointwise
public import Idealize.ShloMosaic.Lib.IdealHost
public import Idealize.ShloMosaic.Lib.StableHlo.ReadAt

@[expose] public section

set_option maxRecDepth 16384

noncomputable section

/-! What the host hands the launch, at an index, over the ideal floats. -/

namespace Cert.KernelIdeal.Hand

open Idealize.ShloMosaic Idealize.ShloMosaic.TcCoe
open Cert.KernelIdeal.Gen

variable (m : (ℓ : Loc nD τ sig) → Buf (Elt Ideal) ℓ) (c : Dev nD)

abbrev argq : FVec Ideal S32x2048x8x96 .f32 := m ((c.tc : Thread nD τ).loc main_arg0)
abbrev argk : FVec Ideal S32x2048x8x96 .f32 := m ((c.tc : Thread nD τ).loc main_arg1)
abbrev argv : FVec Ideal S32x2048x8x64 .f32 := m ((c.tc : Thread nD τ).loc main_arg2)

/-- The factor the host puts on the queries. -/
def fac : ℝ := (Real.sqrt 96 * Real.log 2)⁻¹

theorem sqrt_96 : Ideal.sqrt (Ideal.ofBits FTy.f32 0x42C00000#32) = ((Real.sqrt 96 : ℝ) : EReal) := by
  have h : Ideal.ofBits FTy.f32 0x42C00000#32 = ((96 : ℝ) : EReal) := by
    simp [Ideal.ofBits, Ideal.ieee, -EReal.coe_mul]; norm_num
  rw [h]
  show (if (96 : ℝ) < 0 then ⊥ else (Real.sqrt 96 : EReal)) = _
  rw [if_neg (by norm_num)]

theorem log_2 : Ideal.log (Ideal.ofBits FTy.f32 0x40000000#32) = ((Real.log 2 : ℝ) : EReal) := by
  have h : Ideal.ofBits FTy.f32 0x40000000#32 = ((2 : ℝ) : EReal) := by
    simp [Ideal.ofBits, Ideal.ieee, -EReal.coe_mul]; norm_num
  rw [h]
  show (if (2 : ℝ) ≤ 0 then ⊥ else (Real.log 2 : EReal)) = _
  rw [if_neg (by norm_num)]

theorem fac_eq : Ideal.div 1 (Ideal.sqrt (Ideal.ofBits FTy.f32 0x42C00000#32) * Ideal.log (Ideal.ofBits FTy.f32 0x40000000#32)) = (fac : EReal) := by
  rw [sqrt_96, log_2, ← EReal.coe_mul]
  have h : (0 : ℝ) < Real.sqrt 96 * Real.log 2 := mul_pos (Real.sqrt_pos.mpr (by norm_num)) (Real.log_pos (by norm_num))
  unfold Ideal.div fac
  rw [if_neg (by simpa using h.ne'), one_mul, EReal.coe_inv]

theorem sitofp_zero : (FloatOps.sitofp (F := Ideal) FTy.f32 0#32 : EReal) = 0 := by
  show (((0#32 : BitVec 32).toInt : ℝ) : EReal) = 0
  simp

/-- The queries as the launch gets them. -/
def hq (q : FVec Ideal S32x2048x8x96 .f32) : FVec Ideal S32x1024x2048 .bf16 :=
  truncf .bf16 (shapeCast S32x1024x2048 (pad S32x8x128x2048 ![0, 0, 0, 0] ![0, 0, 32, 0] ![0, 0, 0, 0]
    (transpose S32x8x96x2048 [0, 2, 3, 1] (mulf q (broadcastInDim S32x2048x8x96 ![] bcast_S_S32x2048x8x96
      (Host.divf (constant S_ .f32 0x3F800000#32) (mulf (Host.sqrt (constant S_ .f32 0x42C00000#32)) (Host.log (constant S_ .f32 0x40000000#32))))))
      transposes_S32x2048x8x96_S32x8x96x2048_0_2_3_1)
    (sitofp .f32 (constantI S_ 32 0#32)) pads_S32x8x96x2048_S32x8x128x2048_000_000_0320_000 h_S_) shapeCasts_S32x8x128x2048_S32x1024x2048) bitsLt_bf16_f32

/-- The keys as the launch gets them. -/
def hk (k : FVec Ideal S32x2048x8x96 .f32) : FVec Ideal S65536x1024 .bf16 :=
  truncf .bf16 (shapeCast S65536x1024 (pad S32x2048x8x128 ![0, 0, 0, 0] ![0, 0, 0, 32] ![0, 0, 0, 0] k
    (sitofp .f32 (constantI S_ 32 0#32)) pads_S32x2048x8x96_S32x2048x8x128_000_000_000_0320 h_S_) shapeCasts_S32x2048x8x128_S65536x1024) bitsLt_bf16_f32

/-- The values as the launch gets them. -/
def hv (v : FVec Ideal S32x2048x8x64 .f32) : FVec Ideal S32x4x640x512 .bf16 :=
  truncf .bf16 (transpose S32x4x640x512 [0, 1, 3, 2] (shapeCast S32x4x512x640 (pad S32x2048x8x80 ![0, 0, 0, 0] ![0, 0, 0, 15] ![0, 0, 0, 0]
    (concatenate S32x2048x8x65 3 [⟨S32x2048x8x64, v⟩, ⟨S32x2048x8x1, broadcastInDim S32x2048x8x1 ![] bcast_S_S32x2048x8x1 (constant S_ .f32 0x3F800000#32)⟩]
      concatenates_S32x2048x8x64_S32x2048x8x1_S32x2048x8x65_d3)
    (sitofp .f32 (constantI S_ 32 0#32)) pads_S32x2048x8x65_S32x2048x8x80_000_000_000_0150 h_S_) shapeCasts_S32x2048x8x80_S32x4x512x640) transposes_S32x4x512x640_S32x4x640x512_0_1_3_2) bitsLt_bf16_f32

theorem V9_eq : V m c main_v9 = hq (argq m c) := by
  unfold V
  after_reads_simp
  simp -implicitDefEqProofs only [StableHlo.TRef.toBuf, StableHlo.TRef.ofBuf, cast_cast, cast_eq]
  clean_types
  unfold hq
  rfl

theorem V12_eq : V m c main_v12 = hk (argk m c) := by
  unfold V
  after_reads_simp
  simp -implicitDefEqProofs only [StableHlo.TRef.toBuf, StableHlo.TRef.ofBuf, cast_cast, cast_eq]
  clean_types
  unfold hk
  rfl

theorem V18_eq : V m c main_v18 = hv (argv m c) := by
  unfold V
  after_reads_simp
  have e1 : StableHlo.upto (List.flatten [hostOps0, hostOps0_1, hostOps0_2, hostOps0_3, hostOps0_4, hostOps0_5, hostOps0_6]) (fun b => m (c, b)) 22
      (Proc.tc.devRef main_arg2) = m (c, Proc.tc.devRef main_arg2) := by after_reads_simp
  have e2 : StableHlo.upto (List.flatten [hostOps0, hostOps0_1, hostOps0_2, hostOps0_3, hostOps0_4, hostOps0_5, hostOps0_6]) (fun b => m (c, b)) 22
      (Proc.tc.devRef main_v13) = (broadcastInDim S32x2048x8x1 ![] bcast_S_S32x2048x8x1 (constant S_ .f32 0x3F800000#32) : FVec Ideal S32x2048x8x1 .f32) := by after_reads_simp
  rw [e1, e2]
  simp -implicitDefEqProofs only [StableHlo.TRef.toBuf, StableHlo.TRef.ofBuf, cast_cast, cast_eq]
  clean_types
  unfold hv
  rfl

theorem dite_of_iff {p p' : Prop} [Decidable p] [Decidable p'] {α : Type} {f : p → α} {g : p' → α} {z z' : α} (h : p ↔ p')
    (hf : ∀ a b, f a = g b) (hz : z = z') : dite p f (fun _ => z) = dite p' g (fun _ => z') := by
  by_cases hp : p
  · rw [dif_pos hp, dif_pos (h.mp hp)]; exact hf _ _
  · rw [dif_neg hp, dif_neg (fun x => hp (h.mpr x))]; exact hz

theorem hq_at (q : FVec Ideal S32x2048x8x96 .f32) (b : Fin 32) (e : Fin 1024) (s : Fin 2048) :
    hq q (ix3 b e s) = (if h : e.val % 128 < 96 then q (ix4 b s ⟨e.val / 128, by omega⟩ ⟨e.val % 128, h⟩) * (fac : EReal) else (0 : EReal)) := by
  pointwise [hq]
  exact dite_of_iff ⟨fun h => h.2, fun h => ⟨by omega, h⟩⟩ (fun _ _ => congrArg (q _ * ·) fac_eq) sitofp_zero

theorem hk_at (k : FVec Ideal S32x2048x8x96 .f32) (n : Fin 65536) (e : Fin 1024) :
    hk k (ix2 n e) = (if h : e.val % 128 < 96 then k (ix4 ⟨n.val / 2048, by omega⟩ ⟨n.val % 2048, by omega⟩ ⟨e.val / 128, by omega⟩ ⟨e.val % 128, h⟩) else (0 : EReal)) := by
  pointwise [hk]
  exact dite_of_iff ⟨fun h => h.2.2.2, fun h => ⟨by omega, by omega, by omega, h⟩⟩ (fun _ _ => rfl) sitofp_zero

theorem hv_at (v : FVec Ideal S32x2048x8x64 .f32) (b : Fin 32) (n : Fin 4) (e : Fin 640) (s : Fin 512) :
    hv v (ix4 b n e s) = (if h : e.val % 80 < 64 then v (ix4 b ⟨n.val * 512 + s.val, by omega⟩ ⟨e.val / 80, by omega⟩ ⟨e.val % 80, h⟩)
        else if e.val % 80 = 64 then (1 : EReal) else (0 : EReal)) := by
  pointwise [hv]
  by_cases h : e.val % 80 < 64
  · have h0 : n.val * 512 + s.val < 2048 ∧ e.val / 80 < 8 ∧ e.val % 80 < 65 := by omega
    simp only [h, h0, and_self, ↓reduceDIte]
  · by_cases h64 : e.val % 80 = 64
    · have h0 : n.val * 512 + s.val < 2048 ∧ e.val / 80 < 8 ∧ e.val % 80 < 65 := by omega
      simp only [h64, h0, and_self, ↓reduceDIte, ↓reduceIte, Nat.lt_irrefl, Nat.reduceLT, true_and]
    · have h0 : ¬(n.val * 512 + s.val < 2048 ∧ e.val / 80 < 8 ∧ e.val % 80 < 65) := by omega
      simp only [h, h64, h0, ↓reduceDIte, ↓reduceIte]
      exact sitofp_zero

end Cert.KernelIdeal.Hand

end
-- ==== Proof.Blocks.lean ====
module

public import proofs.«01_k».proof.Proof.Host
public import Idealize.ShloMosaic.Lib.Pointwise
public import Idealize.ShloMosaic.Lib.IdealHost
public import Idealize.ShloMosaic.Lib.StableHlo.ReadAt

@[expose] public section

set_option maxRecDepth 16384

noncomputable section

/-! The blocks of a point, in the arguments' elements, over the ideal floats. -/

namespace Cert.KernelIdeal.Hand

open Idealize.ShloMosaic Idealize.ShloMosaic.TcCoe
open Cert.KernelIdeal.Gen

variable (m : (ℓ : Loc nD τ sig) → Buf (Elt Ideal) ℓ) (c : Dev nD)

theorem tlt (t : Fin cfg0.N) : t.val < 128 := N_0 ▸ t.isLt

theorem coords_0 (t : Fin cfg0.N) : (grid0.coords t 0).val = t.val / 4 := by
  revert t; decide +kernel
theorem coords_2 (t : Fin cfg0.N) : (grid0.coords t 2).val = t.val % 4 := by
  revert t; decide +kernel

theorem read0_at (A : FVec Ideal S32x1024x2048 .bf16) (t : Fin cfg0.N) (e : Fin 1024) (r : Fin 512) :
    ((cfg0.win 0).blk t).view.read (Elt Ideal) A (ix3 0 e r) = A (ix3 ⟨t.val / 4, by have := tlt t; omega⟩ e ⟨512 * (t.val % 4) + r.val, by omega⟩) := by
  have h0 : win0_0.index t 0 = t.val / 4 := by revert t; decide +kernel
  have h1 : win0_0.index t 1 = 0 := by revert t; decide +kernel
  have h2 : win0_0.index t 2 = t.val % 4 := by revert t; decide +kernel
  rw [View.read_apply]
  show A _ = A _
  refine congrArg A (funext fun a => Fin.ext ?_)
  match a with
  | ⟨0, _⟩ => show win0_0.index t 0 * 1 + 1 * 0 = t.val / 4; rw [h0]; omega
  | ⟨1, _⟩ => show win0_0.index t 1 * 1024 + 1 * e.val = e.val; rw [h1]; omega
  | ⟨2, _⟩ => show win0_0.index t 2 * 512 + 1 * r.val = 512 * (t.val % 4) + r.val; rw [h2]; omega

theorem read1_at (A : FVec Ideal S65536x1024 .bf16) (t : Fin cfg0.N) (n : Fin 2048) (e : Fin 1024) :
    ((cfg0.win 1).blk t).view.read (Elt Ideal) A (ix2 n e) = A (ix2 ⟨2048 * (t.val / 4) + n.val, by have := tlt t; omega⟩ e) := by
  have h0 : win0_1.index t 0 = t.val / 4 := by revert t; decide +kernel
  have h1 : win0_1.index t 1 = 0 := by revert t; decide +kernel
  rw [View.read_apply]
  show A _ = A _
  refine congrArg A (funext fun a => Fin.ext ?_)
  match a with
  | ⟨0, _⟩ => show win0_1.index t 0 * 2048 + 1 * n.val = 2048 * (t.val / 4) + n.val; rw [h0]; omega
  | ⟨1, _⟩ => show win0_1.index t 1 * 1024 + 1 * e.val = e.val; rw [h1]; omega

theorem read2_at (A : FVec Ideal S32x4x640x512 .bf16) (t : Fin cfg0.N) (n : Fin 4) (e : Fin 640) (r : Fin 512) :
    ((cfg0.win 2).blk t).view.read (Elt Ideal) A (ix4 0 n e r) = A (ix4 ⟨t.val / 4, by have := tlt t; omega⟩ n e r) := by
  have h0 : win0_2.index t 0 = t.val / 4 := by revert t; decide +kernel
  have h1 : win0_2.index t 1 = 0 := by revert t; decide +kernel
  have h2 : win0_2.index t 2 = 0 := by revert t; decide +kernel
  have h3 : win0_2.index t 3 = 0 := by revert t; decide +kernel
  rw [View.read_apply]
  show A _ = A _
  refine congrArg A (funext fun a => Fin.ext ?_)
  match a with
  | ⟨0, _⟩ => show win0_2.index t 0 * 1 + 1 * 0 = t.val / 4; rw [h0]; omega
  | ⟨1, _⟩ => show win0_2.index t 1 * 4 + 1 * n.val = n.val; rw [h1]; omega
  | ⟨2, _⟩ => show win0_2.index t 2 * 640 + 1 * e.val = e.val; rw [h2]; omega
  | ⟨3, _⟩ => show win0_2.index t 3 * 512 + 1 * r.val = r.val; rw [h3]; omega

theorem iblk0_eq (t : Fin cfg0.N) : iblk m c 0 t = ((cfg0.win 0).blk t).view.read (Elt Ideal) (hq (argq m c)) :=
  congrArg (((cfg0.win 0).blk t).view.read (Elt Ideal)) (V9_eq m c)
theorem iblk1_eq (t : Fin cfg0.N) : iblk m c 1 t = ((cfg0.win 1).blk t).view.read (Elt Ideal) (hk (argk m c)) :=
  congrArg (((cfg0.win 1).blk t).view.read (Elt Ideal)) (V12_eq m c)
theorem iblk2_eq (t : Fin cfg0.N) : iblk m c 2 t = ((cfg0.win 2).blk t).view.read (Elt Ideal) (hv (argv m c)) :=
  congrArg (((cfg0.win 2).blk t).view.read (Elt Ideal)) (V18_eq m c)

theorem kblk_at (x : FVec Ideal S2048x1024 .bf16) (h : Fin 8) (n : ℕ) (hn : n < 4) (j : Fin 512) (e : Fin 128) :
    kblk (F := Ideal) x h.val n (ix2 j e) = x (ix2 ⟨512 * n + j.val, by omega⟩ ⟨128 * h.val + e.val, by omega⟩) := by
  unfold kblk
  refine congrArg x (funext fun a => Fin.ext ?_)
  match a with
  | ⟨0, _⟩ => exact Nat.mod_eq_of_lt (show 512 * n + j.val < 2048 by omega)
  | ⟨1, _⟩ => exact Nat.mod_eq_of_lt (show 128 * h.val + e.val < 1024 by omega)

theorem qhead_at (x : FVec Ideal S1x1024x512 .bf16) (h : Fin 8) (e : Fin 128) (r : Fin 512) :
    qhead (F := Ideal) x h.val (ix2 e r) = x (ix3 0 ⟨128 * h.val + e.val, by omega⟩ r) := by
  have e1 : qhead (F := Ideal) x h.val (ix2 e r) = qblk (F := Ideal) x h.val (ix3 0 e r) := by
    unfold qhead
    generalize qblk (F := Ideal) x h.val = w
    pointwise []
  rw [e1]
  unfold qblk
  refine congrArg x (funext fun a => Fin.ext ?_)
  match a with
  | ⟨0, _⟩ => rfl
  | ⟨1, _⟩ => exact Nat.mod_eq_of_lt (show 128 * h.val + e.val < 1024 by omega)
  | ⟨2, _⟩ => exact (Nat.mod_eq_of_lt (show 0 + r.val < 512 by omega)).trans (Nat.zero_add _)

theorem vblk_at (x : FVec Ideal S1x4x640x512 .bf16) (h : Fin 8) (n : ℕ) (hn : n < 4) (d : Fin 80) (j : Fin 512) :
    vblk (F := Ideal) x h.val n (ix4 0 0 d j) = x (ix4 0 ⟨n, hn⟩ ⟨80 * h.val + d.val, by omega⟩ j) := by
  unfold vblk
  refine congrArg x (funext fun a => Fin.ext ?_)
  match a with
  | ⟨0, _⟩ => rfl
  | ⟨1, _⟩ => exact Nat.mod_eq_of_lt (show n + 0 < 4 by omega)
  | ⟨2, _⟩ => exact Nat.mod_eq_of_lt (show 80 * h.val + d.val < 640 by omega)
  | ⟨3, _⟩ => exact (Nat.mod_eq_of_lt (show 0 + j.val < 512 by omega)).trans (Nat.zero_add _)

/-- A head's keys, queries and values of a point, in the arguments' elements. -/
theorem key_at (t : Fin cfg0.N) (h : Fin 8) (n : ℕ) (hn : n < 4) (j : Fin 512) (e : Fin 128) :
    kblk (F := Ideal) (iblk m c 1 t : FVec Ideal S2048x1024 .bf16) h.val n (ix2 j e)
      = (if he : e.val < 96 then argk m c (ix4 ⟨t.val / 4, by have := tlt t; omega⟩ ⟨512 * n + j.val, by omega⟩ h ⟨e.val, he⟩) else (0 : EReal)) := by
  have ht := tlt t
  refine (kblk_at _ h n hn j e).trans ((congrFun (iblk1_eq m c t) _).trans ((read1_at _ t _ _).trans ((hk_at _ _ _).trans ?_)))
  have a1 : (128 * h.val + e.val) % 128 = e.val := by omega
  have a2 : (128 * h.val + e.val) / 128 = h.val := by omega
  have a3 : (2048 * (t.val / 4) + (512 * n + j.val)) / 2048 = t.val / 4 := by omega
  have a4 : (2048 * (t.val / 4) + (512 * n + j.val)) % 2048 = 512 * n + j.val := by omega
  simp only [a1, a2, a3, a4]

theorem query_at (t : Fin cfg0.N) (h : Fin 8) (e : Fin 128) (r : Fin 512) :
    qhead (F := Ideal) (iblk m c 0 t : FVec Ideal S1x1024x512 .bf16) h.val (ix2 e r)
      = (if he : e.val < 96 then argq m c (ix4 ⟨t.val / 4, by have := tlt t; omega⟩ ⟨512 * (t.val % 4) + r.val, by omega⟩ h ⟨e.val, he⟩) * (fac : EReal) else (0 : EReal)) := by
  have ht := tlt t
  refine (qhead_at _ h e r).trans ((congrFun (iblk0_eq m c t) _).trans ((read0_at _ t _ _).trans ((hq_at _ _ _ _).trans ?_)))
  have a1 : (128 * h.val + e.val) % 128 = e.val := by omega
  have a2 : (128 * h.val + e.val) / 128 = h.val := by omega
  simp only [a1, a2]

theorem value_at (t : Fin cfg0.N) (h : Fin 8) (n : ℕ) (hn : n < 4) (d : Fin 80) (j : Fin 512) :
    vblk (F := Ideal) (iblk m c 2 t : FVec Ideal S1x4x640x512 .bf16) h.val n (ix4 0 0 d j)
      = (if hd : d.val < 64 then argv m c (ix4 ⟨t.val / 4, by have := tlt t; omega⟩ ⟨512 * n + j.val, by omega⟩ h ⟨d.val, hd⟩)
        else if d.val = 64 then (1 : EReal) else (0 : EReal)) := by
  have ht := tlt t
  refine (vblk_at _ h n hn d j).trans ((congrFun (iblk2_eq m c t) _).trans ((read2_at _ t _ _ _).trans ((hv_at _ _ _ _ _).trans ?_)))
  have a1 : (80 * h.val + d.val) % 80 = d.val := by omega
  have a2 : (80 * h.val + d.val) / 80 = h.val := by omega
  have a3 : n * 512 + j.val = 512 * n + j.val := by omega
  simp only [a1, a2, a3]

end Cert.KernelIdeal.Hand

end
-- ==== Proof.Total.lean ====
module

public import proofs.«01_k».proof.Proof.RefValue
public import proofs.«01_k».proof.Proof.Value
public import proofs.«01_k».proof.Proof.Blocks
public import proofs.«01_k».proof.Proof.Run
public import Idealize.ShloMosaic.Lib.Pipeline.Value

@[expose] public section

set_option maxRecDepth 16384

noncomputable section

/-! The kernel's result at an index is the reference's. -/

namespace Cert.KernelIdeal.Hand

open Idealize.ShloMosaic Idealize.ShloMosaic.TcCoe Idealize.SL.Sem
open Cert.KernelIdeal.Gen Cert.Online
open Cert.ReferenceIdeal.Hand (dotr wt refOut)

/-- A sum over a row's keys, those past the diagonal tile being zero, tile by tile. -/
theorem sum_tiles {M : Type*} [AddCommMonoid M] (f : Fin 2048 → M) (i : ℕ) (hi : i < 4) (hz : ∀ j : Fin 2048, 512 * (i + 1) ≤ j.val → f j = 0)
    (gd : Fin 512 → M) (g : ℕ → Fin 512 → M) (hd : ∀ j : Fin 512, gd j = f ⟨512 * i + j.val, by omega⟩)
    (hg : ∀ (t : ℕ) (ht : t < i) (j : Fin 512), g t j = f ⟨512 * t + j.val, by omega⟩) :
    (∑ j, gd j) + ∑ t ∈ Finset.range i, ∑ j, g t j = ∑ j, f j := by
  let F : ℕ → M := fun n => if h : n < 2048 then f ⟨n, h⟩ else 0
  have hF : ∀ (n : ℕ) (h : n < 2048), F n = f ⟨n, h⟩ := fun n h => dif_pos h
  have e1 : ∑ j, f j = ∑ n ∈ Finset.range 2048, F n := by
    rw [Finset.sum_range]
    exact Finset.sum_congr rfl fun j _ => (hF j.val j.isLt).symm
  have e2 : ∑ n ∈ Finset.range 2048, F n = ∑ n ∈ Finset.range (512 * (i + 1)), F n := by
    refine (Finset.sum_subset (Finset.range_mono (by omega)) fun n h1 h2 => ?_).symm
    rw [Finset.mem_range] at h1 h2
    rw [hF n h1]
    exact hz _ (by show _ ≤ n; omega)
  have e3 : ∀ k : ℕ, ∑ n ∈ Finset.range (512 * k), F n = ∑ t ∈ Finset.range k, ∑ j : Fin 512, F (512 * t + j.val) := by
    intro k
    induction k with
    | zero => rfl
    | succ k ih =>
      rw [show 512 * (k + 1) = 512 * k + 512 from rfl, Finset.sum_range_add, ih, Finset.sum_range_succ (n := k)]
      exact congrArg _ (Finset.sum_range _)
  rw [e1, e2, e3, Finset.sum_range_succ, add_comm]
  congr 1
  · refine Finset.sum_congr rfl fun t ht => Finset.sum_congr rfl fun j _ => ?_
    have ht' := Finset.mem_range.mp ht
    rw [hg t ht' j, hF _ (by omega)]
  · exact Finset.sum_congr rfl fun j _ => by rw [hd j, hF _ (by omega)]

/-- The kernel's weight of a score is the reference's. -/
theorem w2_fac (a : ℝ) : w2 ((a * fac : ℝ) : EReal) 0 = Real.exp (a / Real.sqrt 96) := by
  unfold w2 fac
  rw [if_neg (EReal.coe_ne_bot _), EReal.toReal_coe, sub_zero]
  show (2 : ℝ) ^ (a * (Real.sqrt 96 * Real.log 2)⁻¹ : ℝ) = _
  rw [Real.rpow_def_of_pos (by norm_num)]
  have h1 : Real.sqrt 96 ≠ 0 := (Real.sqrt_pos.mpr (by norm_num)).ne'
  have h2 : Real.log 2 ≠ 0 := (Real.log_pos (by norm_num)).ne'
  congr 1
  field_simp

theorem w2_bot : w2 ⊥ 0 = 0 := if_pos rfl

variable {m : (ℓ : Loc nD τ sig) → Buf (Elt Ideal) ℓ} {c : Dev nD} {qr kr : S32x2048x8x96.Idx → ℝ}

abbrev bt (t : Fin cfg0.N) : Fin 32 := ⟨t.val / 4, by have := tlt t; omega⟩
abbrev rowt (t : Fin cfg0.N) (r : Fin 512) : Fin 2048 := ⟨512 * (t.val % 4) + r.val, by omega⟩

/-- A score of the kernel: the query against the key, by the factor. -/
theorem sc_real (hq : ∀ i, argq m c i = (qr i : EReal)) (hk : ∀ i, argk m c i = (kr i : EReal)) (t : Fin cfg0.N) (h : Fin 8)
    (r : Fin 512) (n : ℕ) (hn : n < 4) (j : Fin 512) :
    sc (iblk m c 0 t) (iblk m c 1 t) h r n j = ((dotr qr kr (bt t) h (rowt t r) ⟨512 * n + j.val, by omega⟩ * fac : ℝ) : EReal) := by
  unfold sc
  rw [score_apply]
  have e : ∀ x : Fin 128, kblk (F := Ideal) (iblk m c 1 t : FVec Ideal S2048x1024 .bf16) h.val n (ix2 j x)
        * qhead (F := Ideal) (iblk m c 0 t : FVec Ideal S1x1024x512 .bf16) h.val (ix2 x r)
      = (((if hx : x.val < 96 then kr (ix4 (bt t) ⟨512 * n + j.val, by omega⟩ h ⟨x.val, hx⟩) * (qr (ix4 (bt t) (rowt t r) h ⟨x.val, hx⟩) * fac) else 0 : ℝ)) : EReal) := by
    intro x
    rw [key_at m c t h n hn j x, query_at m c t h x r]
    by_cases hx : x.val < 96
    · simp only [hx, ↓reduceDIte, hq, hk, ← EReal.coe_mul]
    · simp only [hx, ↓reduceDIte, mul_zero, EReal.coe_zero]
  refine (Finset.sum_congr rfl fun x _ => e x).trans ?_
  rw [coe_sum]
  congr 1
  refine (Fin.sum_univ_add (a := 96) (b := 32) _).trans ?_
  have z : ∀ x : Fin 32, ¬ (Fin.natAdd 96 x).val < 96 := fun x => by simp
  simp only [z, ↓reduceDIte, Finset.sum_const_zero, add_zero]
  unfold dotr
  rw [Finset.sum_mul]
  refine Finset.sum_congr rfl fun x _ => ?_
  have y : (Fin.castAdd 32 x).val < 96 := x.isLt
  simp only [y, ↓reduceDIte]
  show kr (ix4 _ _ h x) * (qr (ix4 _ _ h x) * fac) = _
  ring

theorem vl_one (t : Fin cfg0.N) (h : Fin 8) (n : ℕ) (hn : n < 4) (j : Fin 512) : vl (iblk m c 2 t) h 64 n j = 1 := by
  refine (value_at m c t h n hn 64 j).trans ?_
  rfl

theorem vl_at (t : Fin cfg0.N) (h : Fin 8) (d : Fin 64) (n : ℕ) (hn : n < 4) (j : Fin 512) :
    vl (iblk m c 2 t) h ⟨d.val, by omega⟩ n j = argv m c (ix4 (bt t) ⟨512 * n + j.val, by omega⟩ h d) := by
  refine (value_at m c t h n hn ⟨d.val, by omega⟩ j).trans ?_
  simp only [d.isLt, ↓reduceDIte]

/-- The kernel's block at an index: the weighted mean of the values. -/
theorem OUT_real (hq : ∀ i, argq m c i = (qr i : EReal)) (hk : ∀ i, argk m c i = (kr i : EReal)) (t : Fin cfg0.N) (h : Fin 8)
    (d : Fin 64) (r : Fin 512) :
    OUT (F := Ideal) (iblk m c 0 t) (iblk m c 1 t) (iblk m c 2 t) (grid0.coords t 2).val (ix2 r ⟨64 * h.val + d.val, by omega⟩)
      = ∑ j : Fin 2048, ((wt qr kr (bt t) h (rowt t r) j / ∑ j' : Fin 2048, wt qr kr (bt t) h (rowt t r) j' : ℝ) : EReal)
        * argv m c (ix4 (bt t) j h d) := by
  have hi : t.val % 4 < 4 := Nat.mod_lt _ (by norm_num)
  rw [coords_2]
  have hs : ∀ n < 4, ∀ j, ∃ y : ℝ, sc (iblk m c 0 t) (iblk m c 1 t) h r n j = y := fun n hn j => ⟨_, sc_real hq hk t h r n hn j⟩
  rw [OUT_apply hs (fun n hn j => vl_one t h n hn j) (t.val % 4) hi d]
  have wz : ∀ j : Fin 2048, 512 * (t.val % 4 + 1) ≤ j.val → wt qr kr (bt t) h (rowt t r) j = 0 := by
    intro j hj
    exact if_neg (by show ¬ j.val ≤ 512 * (t.val % 4) + r.val; omega)
  have wd : ∀ j : Fin 512, w2 (diag r (sc (iblk m c 0 t) (iblk m c 1 t) h r (t.val % 4)) j) 0
      = wt qr kr (bt t) h (rowt t r) ⟨512 * (t.val % 4) + j.val, by omega⟩ := by
    intro j
    unfold diag wt
    by_cases hj : j.val ≤ r.val
    · rw [if_pos hj, if_pos (by show 512 * (t.val % 4) + j.val ≤ 512 * (t.val % 4) + r.val; omega), sc_real hq hk t h r _ hi j, w2_fac]
    · rw [if_neg hj, if_neg (by show ¬ 512 * (t.val % 4) + j.val ≤ 512 * (t.val % 4) + r.val; omega), w2_bot]
  have wg : ∀ (n : ℕ) (hn : n < t.val % 4) (j : Fin 512), w2 (sc (iblk m c 0 t) (iblk m c 1 t) h r n j) 0
      = wt qr kr (bt t) h (rowt t r) ⟨512 * n + j.val, by omega⟩ := by
    intro n hn j
    unfold wt
    rw [if_pos (by show 512 * n + j.val ≤ 512 * (t.val % 4) + r.val; omega), sc_real hq hk t h r n (by omega) j, w2_fac]
  have hZ : Z (diag r (sc (iblk m c 0 t) (iblk m c 1 t) h r (t.val % 4))) (sc (iblk m c 0 t) (iblk m c 1 t) h r) (t.val % 4)
      = ∑ j' : Fin 2048, wt qr kr (bt t) h (rowt t r) j' := by
    unfold Z
    exact sum_tiles _ (t.val % 4) hi wz _ _ wd wg
  rw [hZ]
  refine sum_tiles (fun j => ((wt qr kr (bt t) h (rowt t r) j / ∑ j' : Fin 2048, wt qr kr (bt t) h (rowt t r) j' : ℝ) : EReal)
        * argv m c (ix4 (bt t) j h d)) (t.val % 4) hi (fun j hj => ?_) _ _ (fun j => ?_) (fun n hn j => ?_)
  · show ((wt qr kr (bt t) h (rowt t r) j / _ : ℝ) : EReal) * _ = 0
    rw [wz j hj, zero_div, EReal.coe_zero, zero_mul]
  · rw [wd j, vl_at t h d _ hi j]
  · rw [wg n hn j, vl_at t h d n (by omega) j]

/-- The result array: the reference's, of the arguments. -/
def result (m : (ℓ : Loc nD τ sig) → Buf (Elt Ideal) ℓ) (c : Dev nD) : FVec Ideal S65536x512 .bf16 :=
  refOut (F := Ideal) (argq m c) (argk m c) (argv m c)

theorem read3_at (A : FVec Ideal S65536x512 .bf16) (t : Fin cfg0.N) (r : Fin 512) (e : Fin 512) :
    ((cfg0.win 3).blk t).view.read (Elt Ideal) A (ix2 r e) = A (ix2 ⟨512 * t.val + r.val, by have := tlt t; omega⟩ e) := by
  have h0 : win0_3.index t 0 = t.val := by revert t; decide +kernel
  have h1 : win0_3.index t 1 = 0 := by revert t; decide +kernel
  rw [View.read_apply]
  show A _ = A _
  refine congrArg A (funext fun a => Fin.ext ?_)
  match a with
  | ⟨0, _⟩ => show win0_3.index t 0 * 512 + 1 * r.val = 512 * t.val + r.val; rw [h0]; omega
  | ⟨1, _⟩ => show win0_3.index t 1 * 512 + 1 * e.val = e.val; rw [h1]; omega

theorem outs_at (hq : ∀ i, argq m c i = (qr i : EReal)) (hk : ∀ i, argk m c i = (kr i : EReal)) (t : Fin cfg0.N) (r e : Fin 512) :
    OUT (F := Ideal) (iblk m c 0 t) (iblk m c 1 t) (iblk m c 2 t) (grid0.coords t 2).val (ix2 r e)
      = result m c (ix2 ⟨512 * t.val + r.val, by have := tlt t; omega⟩ e) := by
  have ht := tlt t
  have he : e = ⟨64 * (⟨e.val / 64, by omega⟩ : Fin 8).val + (⟨e.val % 64, by omega⟩ : Fin 64).val, by show 64 * (e.val / 64) + e.val % 64 < 512; omega⟩ :=
    Fin.ext (by show e.val = 64 * (e.val / 64) + e.val % 64; omega)
  have hb : (⟨(512 * t.val + r.val) / 2048, by omega⟩ : Fin 32) = bt t := Fin.ext (by show (512 * t.val + r.val) / 2048 = t.val / 4; omega)
  have hr : (⟨(512 * t.val + r.val) % 2048, by omega⟩ : Fin 2048) = rowt t r :=
    Fin.ext (by show (512 * t.val + r.val) % 2048 = 512 * (t.val % 4) + r.val; omega)
  have e1 := OUT_real hq hk t ⟨e.val / 64, by omega⟩ ⟨e.val % 64, by omega⟩ r
  rw [← he] at e1
  have e2 := Cert.ReferenceIdeal.Hand.refOut_real hq hk (argv m c) ⟨512 * t.val + r.val, by omega⟩ e
  rw [hb, hr] at e2
  exact e1.trans e2.symm

theorem flushed_eq (hq : ∀ i, argq m c i = (qr i : EReal)) (hk : ∀ i, argk m c i = (kr i : EReal)) (t : Fin cfg0.N)
    (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext i
  obtain ⟨r, e, rfl⟩ : ∃ (r e : Fin 512), i = ix2 r e := ⟨i 0, i 1, by
    funext a
    match a with
    | ⟨0, _⟩ => rfl
    | ⟨1, _⟩ => rfl⟩
  refine Eq.trans ?_ ((outs_at hq hk t r e).trans (read3_at (result m c) t r e).symm)
  rfl

theorem final_o (hq : ∀ i, argq m c i = (qr i : EReal)) (hk : ∀ i, argk m c i = (kr i : EReal)) :
    (dats m 0 c).arrAt 3 cfg0.N = result m c :=
  (dats m 0 c).arrAt_eq_of_cover 3 (result m c) (flushed_eq hq hk) fun i => by
    have h0 : (i 0 : Nat) < 65536 := (i 0).isLt
    have h1 : (i 1 : Nat) < 512 := (i 1).isLt
    have hN : cfg0.N = 128 := N_0
    obtain ⟨t, ht⟩ : ∃ t : Fin cfg0.N, t.val = (i 0 : Nat) / 512 := ⟨⟨(i 0 : Nat) / 512, by omega⟩, rfl⟩
    refine ⟨t, flush0_3 t, ?_⟩
    show i ∈ ((View.whole main_v19).slice (win0_3.rect t)).set
    rw [View.set_slice_whole, Rect.mem_set_unit]
    have i0 : win0_3.index t 0 = t.val := by clear ht; revert t; decide +kernel
    have i1 : win0_3.index t 1 = 0 := by clear ht; revert t; decide +kernel
    have s0 : win0_3.xsize (grid0.coords t) 0 = 512 := by clear ht i0 i1; revert t; decide +kernel
    have s1 : win0_3.xsize (grid0.coords t) 1 = 512 := by clear ht i0 i1 s0; revert t; decide +kernel
    intro a
    match a with
    | ⟨0, _⟩ => show win0_3.index t 0 * 512 ≤ (i 0 : Nat) ∧ (i 0 : Nat) < win0_3.index t 0 * 512 + win0_3.xsize (grid0.coords t) 0
                rw [i0, s0]; omega
    | ⟨1, _⟩ => show win0_3.index t 1 * 512 ≤ (i 1 : Nat) ∧ (i 1 : Nat) < win0_3.index t 1 * 512 + win0_3.xsize (grid0.coords t) 1
                rw [i1, s1]; omega

/-- The run: the result array at the reference's result of the arguments, which end as they were. -/
theorem run_value (ρ : Dev nD → PrngReg) (hqk : ∀ c : Dev nD, (∃ qr : S32x2048x8x96.Idx → ℝ, ∀ i, argq m c i = (qr i : EReal))
      ∧ ∃ kr : S32x2048x8x96.Idx → ℝ, ∀ i, argk m c i = (kr i : EReal)) :
    θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (by
      obtain ⟨⟨qr, hq⟩, ⟨kr, hk⟩⟩ := hqk c
      exact final_o hq hk), h.2 c⟩)
    (θ_run_and (run_main m ρ) (unchanged m ρ))

end Cert.KernelIdeal.Hand

end
-- ==== Proof.lean ====
/- The claims, from the runs of the kernel and of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel3
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel2.Frame
public import proofs.«01_k».proof.Proof.Gen.Kernel3.Frame
public import proofs.«01_k».proof.Proof.Gen.Kernel4
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Ffn2
public import proofs.«01_k».proof.Proof.Ffn2Ref
public import proofs.«01_k».proof.Proof.Ffn3
public import proofs.«01_k».proof.Proof.Ffn3Ref
public import proofs.«01_k».proof.Proof.InProj
public import proofs.«01_k».proof.Proof.InProjRef
public import proofs.«01_k».proof.Proof.Prep
public import proofs.«01_k».proof.Proof.PrepRef
public import proofs.«01_k».proof.Proof.Ada
public import proofs.«01_k».proof.Proof.AdaRef
public import proofs.«01_k».proof.Proof.Run
public import proofs.«01_k».proof.Proof.Ref
public import proofs.«01_k».proof.Proof.Total
public import proofs.«01_k».proof.Pre_finite_qk

@[expose] public section

noncomputable section

namespace Cert.Proof

open Idealize.ShloMosaic Idealize.SL.Sem

/-- The two programs have one body. -/
theorem body_same {F : FTy → Type} [FloatOps F] : Cert.Kernel.defs₀ (F := F) = Cert.KernelIdeal.defs₀ := by
  refine congrArg Defs.onTc (funext fun ℓ => funext fun a => ?_)
  obtain ⟨n, hn⟩ := ℓ
  cases n with
  | zero => obtain ⟨t, s⟩ := a; rfl
  | succ n => exact absurd hn (Nat.not_lt.2 (Nat.le_add_left _ _))

theorem defs_same {F : FTy → Type} [FloatOps F] : Cert.Kernel.defs (F := F) = Cert.KernelIdeal.defs :=
  congrArg (Pipeline.defs Cert.Kernel.pcfgs) body_same

/-- The kernel over its bits. -/
theorem frame_kernel : Cert.quiescent_Kernel := fun m ρ _ =>
  Eq.mpr (congrArg (fun D => θ_run D (onTc (τ := Cert.Kernel.τ) (Cert.Kernel.main (F := Bits))) ⟨m, fun _ => 0, ρ⟩ _) defs_same)
    (Cert.KernelIdeal.Hand.frame (F := Bits) m ρ)

/-- The kernel over the reals. -/
theorem frame_kernelIdeal : Cert.quiescent_KernelIdeal := fun m ρ _ => Cert.KernelIdeal.Hand.frame (F := Ideal) m ρ

/-- The reference over the reals. -/
theorem frame_referenceIdeal : Cert.quiescent_ReferenceIdeal := fun m ρ _ => Cert.ReferenceIdeal.Hand.frame (F := Ideal) m ρ

/-- The side condition of the precondition. -/
theorem pre_facts : Cert.Pre_finite_qk.Facts := ⟨by decide⟩

/-- An extended real of absolute value below the largest is a real. -/
theorem real_of_abs {x : EReal} (h : Ideal.cmp .olt (max x (-x)) (Ideal.ofBits FTy.f32 0x7F800000#32) = 1#1) : ∃ r : ℝ, x = r := by
  have e : Ideal.ofBits FTy.f32 0x7F800000#32 = (⊤ : EReal) := by simp [Ideal.ofBits, Ideal.ieee]
  rw [e] at h
  have hl : max x (-x) < ⊤ := by
    by_contra hn
    simp [Ideal.cmp, hn] at h
  induction x with
  | bot => exact absurd hl (by simp)
  | top => exact absurd hl (by simp)
  | coe r => exact ⟨r, rfl⟩

theorem and_ones {a b : BitVec 1} (h : a &&& b = 1#1) : a = 1#1 ∧ b = 1#1 := by
  revert a b; decide

local instance : Cert.Pre_finite_qk.Facts := pre_facts

/-- Arrays the precondition holds of are of reals. -/
theorem reals (q k : FVec Ideal Cert.Pre_finite_qk.S32x2048x8x96 .f32) (v : FVec Ideal Cert.Pre_finite_qk.S32x2048x8x64 .f32)
    (h : Cert.Pre_finite_qk.fn (F := Ideal) q k v = fun _ => 1#1) :
    (∃ qr : Cert.Pre_finite_qk.S32x2048x8x96.Idx → ℝ, ∀ i, q i = (qr i : EReal))
      ∧ ∃ kr : Cert.Pre_finite_qk.S32x2048x8x96.Idx → ℝ, ∀ i, k i = (kr i : EReal) := by
  have hi : ∀ i, Ideal.cmp .olt (max (q i) (-(q i))) (Ideal.ofBits FTy.f32 0x7F800000#32) = 1#1
      ∧ Ideal.cmp .olt (max (k i) (-(k i))) (Ideal.ofBits FTy.f32 0x7F800000#32) = 1#1 := fun i => and_ones (congrFun h i)
  exact ⟨⟨fun i => (real_of_abs (hi i).1).choose, fun i => (real_of_abs (hi i).1).choose_spec⟩,
    ⟨fun i => (real_of_abs (hi i).2).choose, fun i => (real_of_abs (hi i).2).choose_spec⟩⟩

theorem frame_kernelIdeal_pre : Cert.quiescent_KernelIdeal_pre_finite_qk (hPre_finite_qk := pre_facts) :=
  fun m ρ _ => Cert.KernelIdeal.Hand.frame (F := Ideal) m ρ

theorem frame_referenceIdeal_pre : Cert.quiescent_ReferenceIdeal_pre_finite_qk (hPre_finite_qk := pre_facts) :=
  fun m ρ _ => Cert.ReferenceIdeal.Hand.frame (F := Ideal) m ρ

/-- The kernel's result is the reference's, over the reals. -/
theorem value : Cert.algebraic_KernelIdeal_ReferenceIdeal_pre_finite_qk (hPre_finite_qk := pre_facts) := by
  intro m ρ m' ρ' hpre hm
  refine ⟨Cert.KernelIdeal.Hand.result m, Cert.KernelIdeal.Hand.run_value ρ fun c => reals _ _ _ (hpre c), ?_⟩
  refine (θ_run _ _ _).mono (fun r h c => ?_) (Cert.ReferenceIdeal.Hand.run (F := Ideal) m' ρ')
  obtain ⟨h0, h1⟩ := h c
  obtain ⟨e0, e1, e2⟩ := hm c
  refine ⟨h0.trans ?_, h1⟩
  unfold Cert.KernelIdeal.Hand.result
  rw [e0, e1, e2]

/-- The frames of the first layer's feed-forward call. -/
theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run _ _ _).mono (fun r h => ⟨fun c => (h c).2, sem_eq_zero_of_no_sems (by decide) r.2⟩) (Cert.Reference2Ideal.Value.run m ρ)

/-- The frames of the last feed-forward call. -/
theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run _ _ _).mono (fun r h => ⟨fun c => (h c).2, sem_eq_zero_of_no_sems (by decide) r.2⟩) (Cert.Reference3Ideal.Value.run m ρ)

/-- The frames of the input projection. -/
theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run _ _ _).mono (fun r h => ⟨fun c => (h c).2.2, sem_eq_zero_of_no_sems (by decide) r.2⟩) (Cert.Reference4Ideal.Hand.run m ρ)

/-- The value of the first layer's feed-forward call. -/
theorem value2 : Cert.algebraic_Kernel2Ideal_Reference2Ideal := by
  intro m ρ m' ρ' hpre hm
  refine ⟨Cert.Kernel2Ideal.Hand.result m, (θ_run _ _ _).mono (fun r h c => ⟨(h c).1.trans (Cert.Kernel2Ideal.Hand.final_o m c), (h c).2⟩)
    (Cert.Kernel2Ideal.Value.run_blocks m ρ), ?_⟩
  refine (θ_run _ _ _).mono (fun r h c => ?_) (Cert.Reference2Ideal.Value.run (F := Ideal) m' ρ')
  obtain ⟨h0, h1⟩ := h c
  obtain ⟨e0, e1, e2, e3, e4, e5, e6, e7, e8, e9⟩ := hm c
  refine ⟨h0.trans ((Cert.Reference2Ideal.Hand.res_eq m' c).trans ?_), h1⟩
  rw [e0, e1, e2, e3, e4, e5, e6, e7, e8]
  funext i
  rw [show i = ix2 (i 0) (i 1) from eq_ix2 i]
  exact (Cert.Reference2Ideal.Hand.out_at _ _ _ _ _ _ _ _ _ (i 0) (i 1)).trans rfl

/-- The value of the last feed-forward call. -/
theorem value3 : Cert.algebraic_Kernel3Ideal_Reference3Ideal := by
  intro m ρ m' ρ' hpre hm
  refine ⟨Cert.Kernel3Ideal.Hand.result m, (θ_run _ _ _).mono (fun r h c => ⟨(h c).1.trans (Cert.Kernel3Ideal.Hand.final_o m c), (h c).2⟩)
    (Cert.Kernel3Ideal.Value.run_blocks m ρ), ?_⟩
  refine (θ_run _ _ _).mono (fun r h c => ?_) (Cert.Reference3Ideal.Value.run (F := Ideal) m' ρ')
  obtain ⟨h0, h1⟩ := h c
  obtain ⟨e0, e1, e2, e3, e4, e5, e6⟩ := hm c
  refine ⟨h0.trans ((Cert.Reference3Ideal.Hand.res_eq m' c).trans ?_), h1⟩
  rw [e0, e1, e2, e3, e4, e5, e6]
  funext i
  rw [show i = ix2 (i 0) (i 1) from eq_ix2 i]
  exact (Cert.Reference3Ideal.Hand.out_at _ _ _ _ _ _ _ (i 0) (i 1)).trans rfl

/-- The values of the input projection. -/
theorem value4 : Cert.algebraic_Kernel4Ideal_Reference4Ideal := by
  intro m ρ m' ρ' hpre hm
  refine ⟨Cert.Kernel4Ideal.Hand.result0 m, Cert.Kernel4Ideal.Hand.result1 m,
    (θ_run _ _ _).mono (fun r h c => ⟨(h c).1.trans (Cert.Kernel4Ideal.Hand.final0_o m c), (h c).2.1.trans (Cert.Kernel4Ideal.Hand.final1_o m c), (h c).2.2⟩)
    (Cert.Kernel4Ideal.Value.run_blocks m ρ), ?_⟩
  refine (θ_run _ _ _).mono (fun r h c => ?_) (Cert.Reference4Ideal.Hand.run m' ρ')
  obtain ⟨h0, h1, h2⟩ := h c
  obtain ⟨e0, e1, e2, e3⟩ := hm c
  refine ⟨h0.trans ?_, h1.trans ?_, h2⟩
  · rw [e0, e1, e2, e3]
    funext i
    rw [show i = ix2 (i 0) (i 1) from eq_ix2 i]
    exact (Cert.Reference4Ideal.Hand.out0_at _ _ _ _ (i 0) (i 1)).trans rfl
  · rw [e0, e1, e2, e3]
    funext i
    rw [show i = ix2 (i 0) (i 1) from eq_ix2 i]
    exact (Cert.Reference4Ideal.Hand.out1_at _ _ _ _ (i 0) (i 1)).trans rfl

/-- The frames of the preparation of queries, keys and values. -/
theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run _ _ _).mono (fun r h => ⟨fun c => (h c).2.2.2, sem_eq_zero_of_no_sems (by decide) r.2⟩) (Cert.Reference5Ideal.Hand.run m ρ)

/-- The frames of the conditioning call. -/
theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run _ _ _).mono (fun r h => ⟨fun c => (h c).2, sem_eq_zero_of_no_sems (by decide) r.2⟩) (Cert.Reference6Ideal.Hand.run m ρ)

/-- The values of the preparation. -/
theorem value5 : Cert.algebraic_Kernel5Ideal_Reference5Ideal := by
  intro m ρ m' ρ' hpre hm
  refine ⟨Cert.Kernel5Ideal.Hand.result0 m, Cert.Kernel5Ideal.Hand.result1 m, Cert.Kernel5Ideal.Hand.result2 m,
    (θ_run _ _ _).mono (fun r h c => ⟨(h c).1.trans (Cert.Kernel5Ideal.Hand.final0_o m c), (h c).2.1.trans (Cert.Kernel5Ideal.Hand.final1_o m c),
      (h c).2.2.1.trans (Cert.Kernel5Ideal.Hand.final2_o m c), (h c).2.2.2⟩)
    (Cert.Kernel5Ideal.Value.run_blocks m ρ), ?_⟩
  refine (θ_run _ _ _).mono (fun r h c => ?_) (Cert.Reference5Ideal.Hand.run m' ρ')
  obtain ⟨h0, h1, h2, h3⟩ := h c
  obtain ⟨e0, e1, e2, e3, e4, e5⟩ := hm c
  refine ⟨h0.trans ?_, h1.trans ?_, h2.trans ?_, h3⟩
  · rw [e0, e1, e2, e3]
    funext i
    rw [show i = ix3 (i 0) (i 1) (i 2) from eq_ix3 i]
    exact (Cert.Reference5Ideal.Hand.out0_at _ _ _ _ (i 0) (i 1) (i 2)).trans rfl
  · rw [e0, e1, e4, e5]
    funext i
    rw [show i = ix2 (i 0) (i 1) from eq_ix2 i]
    exact (Cert.Reference5Ideal.Hand.out1_at _ _ _ _ (i 0) (i 1)).trans rfl
  · rw [e0, e4, e5]
    funext i
    rw [show i = ix4 (i 0) (i 1) (i 2) (i 3) from eq_ix4 i]
    exact (Cert.Reference5Ideal.Hand.out2_at _ _ _ (i 0) (i 1) (i 2) (i 3)).trans rfl

/-- The value of the conditioning call. -/
theorem value6 : Cert.algebraic_Kernel6Ideal_Reference6Ideal := by
  intro m ρ m' ρ' hpre hm
  refine ⟨Cert.Kernel6Ideal.Hand.result m, (θ_run _ _ _).mono (fun r h c => ⟨(h c).1.trans (Cert.Kernel6Ideal.Hand.final_o m c), (h c).2⟩)
    (Cert.Kernel6Ideal.Value.run_blocks m ρ), ?_⟩
  refine (θ_run _ _ _).mono (fun r h c => ?_) (Cert.Reference6Ideal.Hand.run m' ρ')
  obtain ⟨h0, h1⟩ := h c
  obtain ⟨e0, e1, e2⟩ := hm c
  refine ⟨h0.trans ?_, h1⟩
  rw [e0, e1, e2]
  funext i
  rw [show i = ix3 (i 0) (i 1) (i 2) from eq_ix3 i]
  exact (Cert.Reference6Ideal.Hand.out_at _ _ _ (i 0) (i 1) (i 2)).trans rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, pre_facts,
  frame_kernel, frame_kernelIdeal, frame_kernelIdeal_pre, frame_referenceIdeal, frame_referenceIdeal_pre,
  frame_kernel2, frame_kernel2Ideal, frame_reference2Ideal, frame_kernel3, frame_kernel3Ideal, frame_reference3Ideal,
  frame_kernel4, frame_kernel4Ideal, frame_reference4Ideal,
  frame_kernel5, frame_kernel5Ideal, frame_reference5Ideal, frame_kernel6, frame_kernel6Ideal, frame_reference6Ideal,
  trivial, value, trivial, value2, trivial, value3, trivial, value4, trivial, value5, trivial, value6⟩

end Cert.Proof

end
